-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v20)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v8) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ret_RetIdeal : Prop :=
  IdealRules.named_const.Statement Cert.RetIdeal.κ "g0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.RetIdeal.κ "g1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.RetIdeal.κ "g2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.RetIdeal.κ "g3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)) →
    ∃ (v0 : (c : Dev Cert.RetIdeal.nD) → Buf (Elt Ideal) ((c.tc : Thread Cert.RetIdeal.nD Cert.RetIdeal.τ).loc Cert.RetIdeal.main_v80)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v80) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v175) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0))

def Claim : Prop :=
  ∃ (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hRet : Cert.Ret.Facts) (hRetIdeal : Cert.RetIdeal.Facts) (hRetRefIdeal : Cert.RetRefIdeal.Facts),
    quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Ret (hRet := hRet)
    ∧ quiescent_RetIdeal (hRetIdeal := hRetIdeal)
    ∧ quiescent_RetRefIdeal (hRetRefIdeal := hRetRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Ret_RetIdeal
    ∧ algebraic_RetIdeal_RetRefIdeal (hRetIdeal := hRetIdeal) (hRetRefIdeal := hRetRefIdeal)
-- ==== Proj.lean ====
abbrev S24576x2048 : Shape := ⟨2, ![24576, 2048]⟩
abbrev S2048x19648 : Shape := ⟨2, ![2048, 19648]⟩
abbrev S2048x1024 : Shape := ⟨2, ![2048, 1024]⟩
abbrev S2048x8192 : Shape := ⟨2, ![2048, 8192]⟩
abbrev S2048x512 : Shape := ⟨2, ![2048, 512]⟩
abbrev S2048x64 : Shape := ⟨2, ![2048, 64]⟩
abbrev S_ : Shape := ⟨0, ![]⟩
abbrev S2048x19712 : Shape := ⟨2, ![2048, 19712]⟩
abbrev S24576x19712 : Shape := ⟨2, ![24576, 19712]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 24
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x19648, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x8192, .f32⟩
  | .hbm, ⟨13, _⟩ => ⟨S2048x512, .f32⟩
  | .hbm, ⟨14, _⟩ => ⟨S2048x512, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S2048x19648, .f32⟩
  | .hbm, ⟨21, _⟩ => ⟨S2048x19712, .f32⟩
  | .hbm, ⟨22, _⟩ => ⟨S2048x19712, .bf16⟩
  | .hbm, ⟨23, _⟩ => ⟨S24576x19712, .f32⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | .local _ .vmem, ⟨5, _⟩ => ⟨S1024x1792, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S24576x2048 : Shape := ⟨2, ![24576, 2048]⟩
abbrev S2048x19648 : Shape := ⟨2, ![2048, 19648]⟩
abbrev S24576x19648 : Shape := ⟨2, ![24576, 19648]⟩
abbrev S24576x5120 : Shape := ⟨2, ![24576, 5120]⟩
abbrev S24576x192 : Shape := ⟨2, ![24576, 192]⟩
abbrev S24576x1024 : Shape := ⟨2, ![24576, 1024]⟩
abbrev S24576x12288 : Shape := ⟨2, ![24576, 12288]⟩
abbrev S_ : Shape := ⟨0, ![]⟩
abbrev S24576x64 : Shape := ⟨2, ![24576, 64]⟩
abbrev S24576x19712 : Shape := ⟨2, ![24576, 19712]⟩

abbrev nBuf : Space → Nat
  | .hbm => 12
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x19648, .f32⟩
  | .hbm, ⟨2, _⟩ => ⟨S24576x2048, .f32⟩
  | .hbm, ⟨3, _⟩ => ⟨S24576x19648, .f32⟩
  | .hbm, ⟨4, _⟩ => ⟨S24576x5120, .f32⟩
  | .hbm, ⟨5, _⟩ => ⟨S24576x192, .f32⟩
  | .hbm, ⟨6, _⟩ => ⟨S24576x1024, .f32⟩
  | .hbm, ⟨7, _⟩ => ⟨S24576x1024, .f32⟩
  | .hbm, ⟨8, _⟩ => ⟨S24576x12288, .f32⟩
  | .hbm, ⟨9, _⟩ => ⟨S_, .f32⟩
  | .hbm, ⟨10, _⟩ => ⟨S24576x64, .f32⟩
  | .hbm, ⟨11, _⟩ => ⟨S24576x19712, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Merge.lean ====
abbrev S4x24576x1024 : Shape := ⟨3, ![4, 24576, 1024]⟩
abbrev S24576x19712 : Shape := ⟨2, ![24576, 19712]⟩
abbrev S4x1024x2048 : Shape := ⟨3, ![4, 1024, 2048]⟩
abbrev S24576x2048 : Shape := ⟨2, ![24576, 2048]⟩
abbrev S4x512x1024 : Shape := ⟨3, ![4, 512, 1024]⟩
abbrev S512x1024 : Shape := ⟨2, ![512, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4x24576x1024, .bf16⟩
  | .hbm, ⟨1, _⟩ => ⟨S24576x19712, .f32⟩
  | .hbm, ⟨2, _⟩ => ⟨S4x1024x2048, .f32⟩
  | .hbm, ⟨3, _⟩ => ⟨S4x1024x2048, .bf16⟩
  | .hbm, ⟨4, _⟩ => ⟨S24576x2048, .bf16⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S4x1024x1024, .bf16⟩
  | .local _ .vmem, ⟨11, _⟩ => ⟨S4x1024x1024, .bf16⟩
  | .local _ .vmem, ⟨12, _⟩ => ⟨S512x1024, .bf16⟩
  | .local _ .vmem, ⟨13, _⟩ => ⟨S512x1024, .bf16⟩
  | _, _ => ⟨S4x24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4x24576x1024 : Shape := ⟨3, ![4, 24576, 1024]⟩
abbrev S24576x19712 : Shape := ⟨2, ![24576, 19712]⟩
abbrev S4x1024x2048 : Shape := ⟨3, ![4, 1024, 2048]⟩
abbrev S24576x8192 : Shape := ⟨2, ![24576, 8192]⟩
abbrev S_ : Shape := ⟨0, ![]⟩
abbrev S24576x4x2048 : Shape := ⟨3, ![24576, 4, 2048]⟩
abbrev S24576x2048 : Shape := ⟨2, ![24576, 2048]⟩
abbrev S24576x1x2048 : Shape := ⟨3, ![24576, 1, 2048]⟩
abbrev S1x24576x1024 : Shape := ⟨3, ![1, 24576, 1024]⟩
abbrev S24576x1024 : Shape := ⟨2, ![24576, 1024]⟩
abbrev S1x1024x2048 : Shape := ⟨3, ![1, 1024, 2048]⟩
abbrev S1024x2048 : Shape := ⟨2, ![1024, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x24576x1024, .bf16⟩
  | .hbm, ⟨1, _⟩ => ⟨S24576x19712, .f32⟩
  | .hbm, ⟨2, _⟩ => ⟨S4x1024x2048, .f32⟩
  | .hbm, ⟨3, _⟩ => ⟨S24576x8192, .f32⟩
  | .hbm, ⟨4, _⟩ => ⟨S24576x8192, .f32⟩
  | .hbm, ⟨5, _⟩ => ⟨S24576x8192, .f32⟩
  | .hbm, ⟨6, _⟩ => ⟨S_, .f32⟩
  | .hbm, ⟨7, _⟩ => ⟨S24576x8192, .f32⟩
  | .hbm, ⟨8, _⟩ => ⟨S24576x8192, .f32⟩
  | .hbm, ⟨9, _⟩ => ⟨S_, .f32⟩
  | .hbm, ⟨10, _⟩ => ⟨S24576x8192, .f32⟩
  | .hbm, ⟨11, _⟩ => ⟨S24576x8192, .f32⟩
  | .hbm, ⟨12, _⟩ => ⟨S24576x4x2048, .f32⟩
  | .hbm, ⟨13, _⟩ => ⟨S_, .f32⟩
  | .hbm, ⟨14, _⟩ => ⟨S24576x2048, .f32⟩
  | .hbm, ⟨15, _⟩ => ⟨S24576x1x2048, .f32⟩
  | .hbm, ⟨16, _⟩ => ⟨S24576x2048, .f32⟩
  | .hbm, ⟨17, _⟩ => ⟨S1x24576x1024, .bf16⟩
  | .hbm, ⟨18, _⟩ => ⟨S24576x1024, .bf16⟩
  | .hbm, ⟨19, _⟩ => ⟨S24576x1024, .f32⟩
  | .hbm, ⟨20, _⟩ => ⟨S1x1024x2048, .f32⟩
  | .hbm, ⟨21, _⟩ => ⟨S1024x2048, .f32⟩
  | .hbm, ⟨22, _⟩ => ⟨S24576x2048, .f32⟩
  | .hbm, ⟨23, _⟩ => ⟨S24576x2048, .f32⟩
  | .hbm, ⟨24, _⟩ => ⟨S24576x2048, .f32⟩
  | .hbm, ⟨25, _⟩ => ⟨S24576x1x2048, .f32⟩
  | .hbm, ⟨26, _⟩ => ⟨S24576x2048, .f32⟩
  | .hbm, ⟨27, _⟩ => ⟨S1x24576x1024, .bf16⟩
  | .hbm, ⟨28, _⟩ => ⟨S24576x1024, .bf16⟩
  | .hbm, ⟨29, _⟩ => ⟨S24576x1024, .f32⟩
  | .hbm, ⟨30, _⟩ => ⟨S1x1024x2048, .f32⟩
  | .hbm, ⟨31, _⟩ => ⟨S1024x2048, .f32⟩
  | .hbm, ⟨32, _⟩ => ⟨S24576x2048, .f32⟩
  | .hbm, ⟨33, _⟩ => ⟨S24576x2048, .f32⟩
  | .hbm, ⟨34, _⟩ => ⟨S24576x2048, .f32⟩
  | .hbm, ⟨35, _⟩ => ⟨S24576x1x2048, .f32⟩
  | .hbm, ⟨36, _⟩ => ⟨S24576x2048, .f32⟩
  | .hbm, ⟨37, _⟩ => ⟨S1x24576x1024, .bf16⟩
  | .hbm, ⟨38, _⟩ => ⟨S24576x1024, .bf16⟩
  | .hbm, ⟨39, _⟩ => ⟨S24576x1024, .f32⟩
  | .hbm, ⟨40, _⟩ => ⟨S1x1024x2048, .f32⟩
  | .hbm, ⟨41, _⟩ => ⟨S1024x2048, .f32⟩
  | .hbm, ⟨42, _⟩ => ⟨S24576x2048, .f32⟩
  | .hbm, ⟨43, _⟩ => ⟨S24576x2048, .f32⟩
  | .hbm, ⟨44, _⟩ => ⟨S24576x2048, .f32⟩
  | .hbm, ⟨45, _⟩ => ⟨S24576x1x2048, .f32⟩
  | .hbm, ⟨46, _⟩ => ⟨S24576x2048, .f32⟩
  | .hbm, ⟨47, _⟩ => ⟨S1x24576x1024, .bf16⟩
  | .hbm, ⟨48, _⟩ => ⟨S24576x1024, .bf16⟩
  | .hbm, ⟨49, _⟩ => ⟨S24576x1024, .f32⟩
  | .hbm, ⟨50, _⟩ => ⟨S1x1024x2048, .f32⟩
  | .hbm, ⟨51, _⟩ => ⟨S1024x2048, .f32⟩
  | .hbm, ⟨52, _⟩ => ⟨S24576x2048, .f32⟩
  | .hbm, ⟨53, _⟩ => ⟨S24576x2048, .f32⟩
  | .hbm, ⟨54, _⟩ => ⟨S24576x2048, .f32⟩
  | .hbm, ⟨55, _⟩ => ⟨S24576x2048, .bf16⟩
  | _, _ => ⟨S4x24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩

abbrev nD : Nat := 1
abbrev τ : Topo := Topo.v7x

variable {F : FTy → Type} [FloatOps F]
-- ==== Out.lean ====
abbrev S24576x2048 : Shape := ⟨2, ![24576, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S24576x2048, .f32⟩
  | .hbm, ⟨1, _⟩ => ⟨S24576x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S24576x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S24576x2048 : Shape := ⟨2, ![24576, 2048]⟩
abbrev S2048x2048 : Shape := ⟨2, ![2048, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S24576x2048, .bf16⟩
  | .hbm, ⟨2, _⟩ => ⟨S2048x2048, .f32⟩
  | .hbm, ⟨3, _⟩ => ⟨S2048, .f32⟩
  | .hbm, ⟨4, _⟩ => ⟨S24576x2048, .f32⟩
  | .hbm, ⟨5, _⟩ => ⟨S24576x2048, .f32⟩
  | .hbm, ⟨6, _⟩ => ⟨S24576x2048, .f32⟩
  | .hbm, ⟨7, _⟩ => ⟨S24576x2048, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x2048, .f32⟩
  | .hbm, ⟨19, _⟩ => ⟨S24576x2048, .f32⟩
  | .hbm, ⟨20, _⟩ => ⟨S1x2048, .f32⟩
  | .hbm, ⟨21, _⟩ => ⟨S24576x2048, .f32⟩
  | .hbm, ⟨22, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Ret.lean ====
abbrev S24576x19712 : Shape := ⟨2, ![24576, 19712]⟩
abbrev S24 : Shape := ⟨1, ![24]⟩
abbrev S16384 : Shape := ⟨1, ![16384]⟩
abbrev S2048 : Shape := ⟨1, ![2048]⟩
abbrev S24576 : Shape := ⟨1, ![24576]⟩
abbrev S64 : Shape := ⟨1, ![64]⟩
abbrev S_ : Shape := ⟨0, ![]⟩
abbrev S24576x1 : Shape := ⟨2, ![24576, 1]⟩
abbrev S1x64 : Shape := ⟨2, ![1, 64]⟩
abbrev S24576x64 : Shape := ⟨2, ![24576, 64]⟩
abbrev S24576x128 : Shape := ⟨2, ![24576, 128]⟩
abbrev S4 : Shape := ⟨1, ![4]⟩
abbrev S128 : Shape := ⟨1, ![128]⟩
abbrev S4x1x1 : Shape := ⟨3, ![4, 1, 1]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x1x128 : Shape := ⟨3, ![4, 1, 128]⟩
abbrev S4x4x128 : Shape := ⟨3, ![4, 4, 128]⟩
abbrev S4x4x128x1 : Shape := ⟨4, ![4, 4, 128, 1]⟩
abbrev S4x4x128x128 : Shape := ⟨4, ![4, 4, 128, 128]⟩
abbrev S2x24576x1024 : Shape := ⟨3, ![2, 24576, 1024]⟩
abbrev S1024x512 : Shape := ⟨2, ![1024, 512]⟩
abbrev S1024x1024 : Shape := ⟨2, ![1024, 1024]⟩
abbrev S1024x128 : Shape := ⟨2, ![1024, 128]⟩
abbrev S1x1024x1024 : Shape := ⟨3, ![1, 1024, 1024]⟩
abbrev S4x128x256 : Shape := ⟨3, ![4, 128, 256]⟩
abbrev S1 : Shape := ⟨1, ![1]⟩
abbrev S128x256 : Shape := ⟨2, ![128, 256]⟩
abbrev S1x128x256 : Shape := ⟨3, ![1, 128, 256]⟩
abbrev S1x1x128x128 : Shape := ⟨4, ![1, 1, 128, 128]⟩

abbrev nBuf : Space → Nat
  | .hbm => 90
  | .vmem => 15
  | .smem => 2
  | _ => 0

abbrev bufTy : (tb : Table) → Fin (tcTables nBuf tb) → BufTy
  | .hbm, ⟨0, _⟩ => ⟨S24576x19712, .f32⟩
  | .hbm, ⟨1, _⟩ => ⟨S16384, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S24576, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S24576x1, .f32⟩
  | .hbm, ⟨16, _⟩ => ⟨S1x64, .f32⟩
  | .hbm, ⟨17, _⟩ => ⟨S24576x64, .f32⟩
  | .hbm, ⟨18, _⟩ => ⟨S24576x64, .f32⟩
  | .hbm, ⟨19, _⟩ => ⟨S24576x64, .f32⟩
  | .hbm, ⟨20, _⟩ => ⟨S24576x64, .f32⟩
  | .hbm, ⟨21, _⟩ => ⟨S24576x64, .f32⟩
  | .hbm, ⟨22, _⟩ => ⟨S24576x128, .f32⟩
  | .hbm, ⟨23, _⟩ => ⟨S24576x64, .f32⟩
  | .hbm, ⟨24, _⟩ => ⟨S24576x128, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S128, .f32⟩
  | .hbm, ⟨37, _⟩ => ⟨S4x1x1, .f32⟩
  | .hbm, ⟨38, _⟩ => ⟨S128x1, .f32⟩
  | .hbm, ⟨39, _⟩ => ⟨S1x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S1x128x128, .f32⟩
  | .hbm, ⟨45, _⟩ => ⟨S4x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S4x1, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S4x128, .f32⟩
  | .hbm, ⟨58, _⟩ => ⟨S4x1, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S4x128, .f32⟩
  | .hbm, ⟨64, _⟩ => ⟨S4x128, .f32⟩
  | .hbm, ⟨65, _⟩ => ⟨S4x128, .f32⟩
  | .hbm, ⟨66, _⟩ => ⟨S4x128, .f32⟩
  | .hbm, ⟨67, _⟩ => ⟨S4x1, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S4x128, .f32⟩
  | .hbm, ⟨73, _⟩ => ⟨S4x128, .f32⟩
  | .hbm, ⟨74, _⟩ => ⟨S4x128, .f32⟩
  | .hbm, ⟨75, _⟩ => ⟨S4x128, .f32⟩
  | .hbm, ⟨76, _⟩ => ⟨S4x1, .f32⟩
  | .hbm, ⟨77, _⟩ => ⟨S1x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x128, .f32⟩
  | .hbm, ⟨82, _⟩ => ⟨S4x1x128, .f32⟩
  | .hbm, ⟨83, _⟩ => ⟨S4x1x128, .f32⟩
  | .hbm, ⟨84, _⟩ => ⟨S4x1x128, .f32⟩
  | .hbm, ⟨85, _⟩ => ⟨S4x1x128, .f32⟩
  | .hbm, ⟨86, _⟩ => ⟨S4x4x128, .f32⟩
  | .hbm, ⟨87, _⟩ => ⟨S4x4x128x1, .f32⟩
  | .hbm, ⟨88, _⟩ => ⟨S4x4x128x128, .f32⟩
  | .hbm, ⟨89, _⟩ => ⟨S2x24576x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4x128x128, .f32⟩
  | .local _ .vmem, ⟨11, _⟩ => ⟨S4x4x128x128, .f32⟩
  | .local _ .vmem, ⟨12, _⟩ => ⟨S1x1024x1024, .bf16⟩
  | .local _ .vmem, ⟨13, _⟩ => ⟨S1x1024x1024, .bf16⟩
  | .local _ .vmem, ⟨14, _⟩ => ⟨S4x128x256, .f32⟩
  | .local _ .smem, ⟨0, _⟩ => ⟨S24, .i32⟩
  | .local _ .smem, ⟨1, _⟩ => ⟨S24, .i32⟩
  | _, _ => ⟨S24576x19712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_1 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_2 : Ref sig .tc := ⟨.hbm, 26, rfl⟩
abbrev main_v23 : Ref sig .tc := ⟨.hbm, 27, rfl⟩
abbrev main_v24 : Ref sig .tc := ⟨.hbm, 28, rfl⟩
abbrev main_cst_3 : Ref sig .tc := ⟨.hbm, 29, rfl⟩
abbrev main_v25 : Ref sig .tc := ⟨.hbm, 30, rfl⟩
abbrev main_v26 : Ref sig .tc := ⟨.hbm, 31, rfl⟩
abbrev main_cst_4 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_5 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_6 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_7 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 24], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let arg0 : BitVec 32 := BitVec.ofNat 32 (i 0).val
  let c23_i32 : BitVec 32 := 23#32
  let c2_i32 : BitVec 32 := 2#32
  let v0 : BitVec 32 := Scalar.muli c2_i32 arg1
  let v1 : BitVec 32 := Scalar.subi c23_i32 v0
  let v2 : BitVec 32 := Scalar.muli arg0 v1
  let v3 : BitVec 32 := Scalar.addi arg1 v2
  let v5 : Index := Scalar.indexCast v3
  ![v5.toNat]
def k0_cond2 (i : grid0.Coords) : BitVec 1 :=
  let arg0 : BitVec 32 := BitVec.ofNat 32 (i 0).val
  let c0_i32_1 : BitVec 32 := 0#32
  let v13 : BitVec 1 := Scalar.cmpi .eq arg0 c0_i32_1
  let v14 : BitVec 32 := Scalar.extui v13
  let c0_i32_2 : BitVec 32 := 0#32
  let v15 : BitVec 1 := Scalar.cmpi .ne v14 c0_i32_2
  v15

def k0_cond3 (i : grid0.Coords) : BitVec 1 :=
  let arg0 : BitVec 32 := BitVec.ofNat 32 (i 0).val
  let c1_i32_3 : BitVec 32 := 1#32
  let v16 : BitVec 1 := Scalar.cmpi .eq arg0 c1_i32_3
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c23_i32 : BitVec 32 := 23#32
  let v1 : BitVec 32 := Scalar.subi c23_i32 v0
  let v2 : BitVec 32 := Scalar.muli arg0 v1
  let v3 : BitVec 32 := Scalar.addi arg1 v2
  let c36_i32 : BitVec 32 := 36#32
  let c0_i32 : BitVec 32 := 0#32
  ![v3.toNat, c36_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c23_i32 : BitVec 32 := 23#32
  let v1 : BitVec 32 := Scalar.subi c23_i32 v0
  let v2 : BitVec 32 := Scalar.muli arg0 v1
  let v3 : BitVec 32 := Scalar.addi arg1 v2
  let c37_i32 : BitVec 32 := 37#32
  let c0_i32 : BitVec 32 := 0#32
  ![v3.toNat, c37_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c23_i32 : BitVec 32 := 23#32
  let v1 : BitVec 32 := Scalar.subi c23_i32 v0
  let v2 : BitVec 32 := Scalar.muli arg0 v1
  let v3 : BitVec 32 := Scalar.addi arg1 v2
  let c6_i32 : BitVec 32 := 6#32
  let c0_i32 : BitVec 32 := 0#32
  ![v3.toNat, c6_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c23_i32 : BitVec 32 := 23#32
  let v1 : BitVec 32 := Scalar.subi c23_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c23_i32 : BitVec 32 := 23#32
  let v1 : BitVec 32 := Scalar.subi c23_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c23_i32 : BitVec 32 := 23#32
  let v1 : BitVec 32 := Scalar.subi c23_i32 v0
  let v2 : BitVec 32 := Scalar.muli arg0 v1
  let v3 : BitVec 32 := Scalar.addi arg1 v2
  let c0_i32 : BitVec 32 := 0#32
  let c0_i32_0 : BitVec 32 := 0#32
  ![arg0.toNat, v3.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetIdeal.lean ====
variable {F : FTy → Type} [FloatOps F] [Named F]
def κ : String → Option EReal := fun
  | "g0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== RetRefIdeal.lean ====
abbrev S24576x19712 : Shape := ⟨2, ![24576, 19712]⟩
abbrev S8192x19712 : Shape := ⟨2, ![8192, 19712]⟩
abbrev S4x2048x19712 : Shape := ⟨3, ![4, 2048, 19712]⟩
abbrev S_ : Shape := ⟨0, ![]⟩
abbrev S4x16384x19712 : Shape := ⟨3, ![4, 16384, 19712]⟩
abbrev S16384x19712 : Shape := ⟨2, ![16384, 19712]⟩
abbrev S1x16384x19712 : Shape := ⟨3, ![1, 16384, 19712]⟩
abbrev S5x16384x19712 : Shape := ⟨3, ![5, 16384, 19712]⟩
abbrev S16384 : Shape := ⟨1, ![16384]⟩
abbrev S5x16384x512 : Shape := ⟨3, ![5, 16384, 512]⟩
abbrev S5x16384x4x128 : Shape := ⟨4, ![5, 16384, 4, 128]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S5x16384x4x64 : Shape := ⟨4, ![5, 16384, 4, 64]⟩
abbrev S5x16384x1024 : Shape := ⟨3, ![5, 16384, 1024]⟩
abbrev S5x128x128x4x128 : Shape := ⟨5, ![5, 128, 128, 4, 128]⟩
abbrev S5x128x128x4x256 : Shape := ⟨5, ![5, 128, 128, 4, 256]⟩
abbrev S4 : Shape := ⟨1, ![4]⟩
abbrev S128 : Shape := ⟨1, ![128]⟩
abbrev S4x1x1 : Shape := ⟨3, ![4, 1, 1]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x128 : Shape := ⟨3, ![4, 128, 128]⟩
abbrev S5x128x4x128x128 : Shape := ⟨5, ![5, 128, 4, 128, 128]⟩
abbrev S1x1x4x128x128 : Shape := ⟨5, ![1, 1, 4, 128, 128]⟩
abbrev S128x5x4x256x128 : Shape := ⟨5, ![128, 5, 4, 256, 128]⟩
abbrev S128x5x128x4x256 : Shape := ⟨5, ![128, 5, 128, 4, 256]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S128x5x4x128x256 : Shape := ⟨5, ![128, 5, 4, 128, 256]⟩
abbrev S128x5x128x4x128 : Shape := ⟨5, ![128, 5, 128, 4, 128]⟩
abbrev S1x4x1x1 : Shape := ⟨4, ![1, 4, 1, 1]⟩
abbrev S5x4x128x256 : Shape := ⟨4, ![5, 4, 128, 256]⟩
abbrev S1x5x128x4x256 : Shape := ⟨5, ![1, 5, 128, 4, 256]⟩
abbrev S5x128x4x256 : Shape := ⟨4, ![5, 128, 4, 256]⟩
abbrev S1x5x128x4x128 : Shape := ⟨5, ![1, 5, 128, 4, 128]⟩
abbrev S5x128x4x128 : Shape := ⟨4, ![5, 128, 4, 128]⟩
abbrev S1x5x4x128x256 : Shape := ⟨5, ![1, 5, 4, 128, 256]⟩
abbrev S5x4x256x128 : Shape := ⟨4, ![5, 4, 256, 128]⟩
abbrev S1x128x128x4x256 : Shape := ⟨5, ![1, 128, 128, 4, 256]⟩
abbrev S128x128x4x256 : Shape := ⟨4, ![128, 128, 4, 256]⟩
abbrev S16384x1024 : Shape := ⟨2, ![16384, 1024]⟩
abbrev S4x16x128x4x256 : Shape := ⟨5, ![4, 16, 128, 4, 256]⟩
abbrev S8192x1024 : Shape := ⟨2, ![8192, 1024]⟩
abbrev S49152x1024 : Shape := ⟨2, ![49152, 1024]⟩
abbrev S2x24576x1024 : Shape := ⟨3, ![2, 24576, 1024]⟩

abbrev nBuf : Space → Nat
  | .hbm => 262
  | .vmem => 0
  | .smem => 0
  | _ => 0

abbrev hbmTy0_0 (i : Nat) : BufTy := match i % 128 with
  | 0 => ⟨S24576x19712, .f32⟩
  | 1 => ⟨S8192x19712, .f32⟩
  | 2 => ⟨S4x2048x19712, .f32⟩
  | 3 => ⟨S_, .i32⟩
  | 4 => ⟨S_, .f32⟩
  | 5 => ⟨S4x16384x19712, .f32⟩
  | 6 => ⟨S16384x19712, .f32⟩
  | 7 => ⟨S1x16384x19712, .f32⟩
  | 8 => ⟨S5x16384x19712, .f32⟩
  | 9 => ⟨S16384, .f32⟩
  | 10 => ⟨S5x16384x512, .f32⟩
  | 11 => ⟨S5x16384x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S16384x1, .f32⟩
  | 21 => ⟨S1x64, .f32⟩
  | 22 => ⟨S16384x64, .f32⟩
  | 23 => ⟨S16384x64, .f32⟩
  | 24 => ⟨S16384x64, .f32⟩
  | 25 => ⟨S16384x64, .f32⟩
  | 26 => ⟨S1x16384x1x64, .f32⟩
  | 27 => ⟨S16384x64, .f32⟩
  | 28 => ⟨S1x16384x1x64, .f32⟩
  | 29 => ⟨S5x16384x4x64, .f32⟩
  | 30 => ⟨S5x16384x4x64, .f32⟩
  | 31 => ⟨S5x16384x4x64, .f32⟩
  | 32 => ⟨S5x16384x4x64, .f32⟩
  | 33 => ⟨S5x16384x4x64, .f32⟩
  | 34 => ⟨S5x16384x4x64, .f32⟩
  | 35 => ⟨S5x16384x4x64, .f32⟩
  | 36 => ⟨S5x16384x4x64, .f32⟩
  | 37 => ⟨S5x16384x4x64, .f32⟩
  | 38 => ⟨S5x16384x4x64, .f32⟩
  | 39 => ⟨S5x16384x4x64, .f32⟩
  | 40 => ⟨S5x16384x4x64, .f32⟩
  | 41 => ⟨S5x16384x4x128, .f32⟩
  | 42 => ⟨S5x16384x512, .f32⟩
  | 43 => ⟨S5x16384x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S16384x1, .f32⟩
  | 53 => ⟨S1x64, .f32⟩
  | 54 => ⟨S16384x64, .f32⟩
  | 55 => ⟨S16384x64, .f32⟩
  | 56 => ⟨S16384x64, .f32⟩
  | 57 => ⟨S16384x64, .f32⟩
  | 58 => ⟨S1x16384x1x64, .f32⟩
  | 59 => ⟨S16384x64, .f32⟩
  | 60 => ⟨S1x16384x1x64, .f32⟩
  | 61 => ⟨S5x16384x4x64, .f32⟩
  | 62 => ⟨S5x16384x4x64, .f32⟩
  | 63 => ⟨S5x16384x4x64, .f32⟩
  | 64 => ⟨S5x16384x4x64, .f32⟩
  | 65 => ⟨S5x16384x4x64, .f32⟩
  | 66 => ⟨S5x16384x4x64, .f32⟩
  | 67 => ⟨S5x16384x4x64, .f32⟩
  | 68 => ⟨S5x16384x4x64, .f32⟩
  | 69 => ⟨S5x16384x4x64, .f32⟩
  | 70 => ⟨S5x16384x4x64, .f32⟩
  | 71 => ⟨S5x16384x4x64, .f32⟩
  | 72 => ⟨S5x16384x4x64, .f32⟩
  | 73 => ⟨S5x16384x4x128, .f32⟩
  | 74 => ⟨S_, .f32⟩
  | 75 => ⟨S5x16384x4x128, .f32⟩
  | 76 => ⟨S5x16384x4x128, .f32⟩
  | 77 => ⟨S5x16384x1024, .f32⟩
  | 78 => ⟨S5x128x128x4x128, .f32⟩
  | 79 => ⟨S5x128x128x4x128, .f32⟩
  | 80 => ⟨S5x128x128x4x256, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S4, .f32⟩
  | 92 => ⟨S128, .f32⟩
  | 93 => ⟨S4x1x1, .f32⟩
  | 94 => ⟨S128x1, .f32⟩
  | 95 => ⟨S1x128, .f32⟩
  | 96 => ⟨S128x128, .f32⟩
  | 97 => ⟨S128x128, .f32⟩
  | 98 => ⟨S128x128, .f32⟩
  | 99 => ⟨S128x128, .f32⟩
  | 100 => ⟨S1x128x128, .f32⟩
  | 101 => ⟨S4x128x128, .f32⟩
  | 102 => ⟨S4x128x128, .f32⟩
  | 103 => ⟨S4x128x128, .f32⟩
  | 104 => ⟨S4x128x128, .f32⟩
  | 105 => ⟨S5x128x4x128x128, .f32⟩
  | 106 => ⟨S1x1x4x128x128, .f32⟩
  | 107 => ⟨S5x128x4x128x128, .f32⟩
  | 108 => ⟨S5x128x4x128x128, .f32⟩
  | 109 => ⟨S128x5x4x256x128, .f32⟩
  | 110 => ⟨S128x5x128x4x256, .f32⟩
  | 111 => ⟨S1x4, .f32⟩
  | 112 => ⟨S128x1, .f32⟩
  | 113 => ⟨S_, .f32⟩
  | 114 => ⟨S128x1, .f32⟩
  | 115 => ⟨S128x1, .f32⟩
  | 116 => ⟨S128x4, .f32⟩
  | 117 => ⟨S128x4, .f32⟩
  | 118 => ⟨S128x4, .f32⟩
  | 119 => ⟨S128x4, .f32⟩
  | 120 => ⟨S128x4x1, .f32⟩
  | 121 => ⟨S1x4, .f32⟩
  | 122 => ⟨S128x1, .f32⟩
  | 123 => ⟨S128x4, .f32⟩
  | 124 => ⟨S128x4, .f32⟩
  | 125 => ⟨S128x4, .f32⟩
  | 126 => ⟨S128x4, .f32⟩
  | 127 => ⟨S128x4x1, .f32⟩
  | _ => ⟨S24576x19712, .f32⟩

abbrev hbmTy0_1 (i : Nat) : BufTy := match i % 128 with
  | 0 => ⟨S1x1x128x4x1, .f32⟩
  | 1 => ⟨S5x128x128x4x128, .f32⟩
  | 2 => ⟨S5x128x128x4x128, .f32⟩
  | 3 => ⟨S128x5x4x128x256, .f32⟩
  | 4 => ⟨S1x1x128x4x1, .f32⟩
  | 5 => ⟨S5x128x128x4x128, .f32⟩
  | 6 => ⟨S5x128x128x4x128, .f32⟩
  | 7 => ⟨S128x5x4x128x256, .f32⟩
  | 8 => ⟨S1x4, .f32⟩
  | 9 => ⟨S128x1, .f32⟩
  | 10 => ⟨S_, .f32⟩
  | 11 => ⟨S128x1, .f32⟩
  | 12 => ⟨S128x1, .f32⟩
  | 13 => ⟨S128x4, .f32⟩
  | 14 => ⟨S128x4, .f32⟩
  | 15 => ⟨S128x4, .f32⟩
  | 16 => ⟨S128x4, .f32⟩
  | 17 => ⟨S128x4x1, .f32⟩
  | 18 => ⟨S1x4, .f32⟩
  | 19 => ⟨S128x1, .f32⟩
  | 20 => ⟨S_, .f32⟩
  | 21 => ⟨S128x1, .f32⟩
  | 22 => ⟨S128x1, .f32⟩
  | 23 => ⟨S128x4, .f32⟩
  | 24 => ⟨S128x4, .f32⟩
  | 25 => ⟨S128x4, .f32⟩
  | 26 => ⟨S128x4, .f32⟩
  | 27 => ⟨S128x4x1, .f32⟩
  | 28 => ⟨S1x1x128x4x1, .f32⟩
  | 29 => ⟨S5x128x128x4x128, .f32⟩
  | 30 => ⟨S5x128x128x4x128, .f32⟩
  | 31 => ⟨S128x5x128x4x128, .f32⟩
  | 32 => ⟨S1x1x128x4x1, .f32⟩
  | 33 => ⟨S5x128x128x4x128, .f32⟩
  | 34 => ⟨S5x128x128x4x128, .f32⟩
  | 35 => ⟨S128x5x128x4x128, .f32⟩
  | 36 => ⟨S_, .f32⟩
  | 37 => ⟨S4, .f32⟩
  | 38 => ⟨S4, .f32⟩
  | 39 => ⟨S4, .f32⟩
  | 40 => ⟨S1x4x1x1, .f32⟩
  | 41 => ⟨S_, .f32⟩
  | 42 => ⟨S5x4x128x256, .f32⟩
  | 43 => ⟨S128x5x128x4x128, .f32⟩
  | 44 => ⟨S128x5x4x128x256, .f32⟩
  | 45 => ⟨S_, .f32⟩
  | 46 => ⟨S128x5x128x4x256, .f32⟩
  | 47 => ⟨S_, .f32⟩
  | 48 => ⟨S128x5x128x4x256, .f32⟩
  | 49 => ⟨S_, .i32⟩
  | 50 => ⟨S128x5x128x4x256, .f32⟩
  | 51 => ⟨S128x5x128x4x128, .f32⟩
  | 52 => ⟨S128x5x4x128x256, .f32⟩
  | 53 => ⟨S128x5x128x4x128, .f32⟩
  | 54 => ⟨S128x5x4x128x256, .f32⟩
  | 55 => ⟨S1x4x1x1, .f32⟩
  | 56 => ⟨S_, .i32⟩
  | 57 => ⟨S5x4x128x256, .f32⟩
  | 58 => ⟨S5x4x128x256, .f32⟩
  | 59 => ⟨S128x5x128x4x256, .f32⟩
  | 60 => ⟨S128x5x128x4x256, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x5x128x4x256, .f32⟩
  | 68 => ⟨S5x128x4x256, .f32⟩
  | 69 => ⟨S_, .i32⟩
  | 70 => ⟨S_, .i32⟩
  | 71 => ⟨S_, .i32⟩
  | 72 => ⟨S_, .i32⟩
  | 73 => ⟨S1x5x128x4x128, .f32⟩
  | 74 => ⟨S5x128x4x128, .f32⟩
  | 75 => ⟨S_, .i32⟩
  | 76 => ⟨S_, .i32⟩
  | 77 => ⟨S_, .i32⟩
  | 78 => ⟨S_, .i32⟩
  | 79 => ⟨S1x5x4x128x256, .f32⟩
  | 80 => ⟨S5x4x128x256, .f32⟩
  | 81 => ⟨S_, .i32⟩
  | 82 => ⟨S_, .i32⟩
  | 83 => ⟨S_, .i32⟩
  | 84 => ⟨S_, .i32⟩
  | 85 => ⟨S1x5x128x4x128, .f32⟩
  | 86 => ⟨S5x128x4x128, .f32⟩
  | 87 => ⟨S_, .i32⟩
  | 88 => ⟨S_, .i32⟩
  | 89 => ⟨S_, .i32⟩
  | 90 => ⟨S_, .i32⟩
  | 91 => ⟨S1x5x4x128x256, .f32⟩
  | 92 => ⟨S5x4x128x256, .f32⟩
  | 93 => ⟨S5x4x256x128, .f32⟩
  | 94 => ⟨S5x128x4x256, .f32⟩
  | 95 => ⟨S5x128x4x256, .f32⟩
  | 96 => ⟨S5x4x256x128, .f32⟩
  | 97 => ⟨S5x128x4x256, .f32⟩
  | 98 => ⟨S5x4x128x256, .f32⟩
  | 99 => ⟨S5x4x128x256, .f32⟩
  | 100 => ⟨S5x4x128x256, .f32⟩
  | 101 => ⟨S5x4x128x256, .f32⟩
  | 102 => ⟨S5x4x128x256, .f32⟩
  | 103 => ⟨S5x4x128x256, .f32⟩
  | 104 => ⟨S1x5x128x4x256, .f32⟩
  | 105 => ⟨S_, .i32⟩
  | 106 => ⟨S_, .i32⟩
  | 107 => ⟨S_, .i32⟩
  | 108 => ⟨S_, .i32⟩
  | 109 => ⟨S128x5x128x4x256, .f32⟩
  | 110 => ⟨S1x5x128x4x256, .f32⟩
  | 111 => ⟨S_, .i32⟩
  | 112 => ⟨S_, .i32⟩
  | 113 => ⟨S_, .i32⟩
  | 114 => ⟨S_, .i32⟩
  | 115 => ⟨S128x5x128x4x256, .f32⟩
  | 116 => ⟨S_, .i32⟩
  | 117 => ⟨S_, .i32⟩
  | 118 => ⟨S5x128x128x4x256, .f32⟩
  | 119 => ⟨S128x5x128x4x256, .f32⟩
  | 120 => ⟨S5x128x128x4x256, .f32⟩
  | 121 => ⟨S1x128x128x4x256, .f32⟩
  | 122 => ⟨S128x128x4x256, .f32⟩
  | 123 => ⟨S16384x1024, .f32⟩
  | 124 => ⟨S4x16x128x4x256, .f32⟩
  | 125 => ⟨S8192x1024, .f32⟩
  | 126 => ⟨S1x128x128x4x256, .f32⟩
  | 127 => ⟨S128x128x4x256, .f32⟩
  | _ => ⟨S24576x19712, .f32⟩

abbrev hbmTy0_2 (i : Nat) : BufTy := match i % 128 with
  | 0 => ⟨S16384x1024, .f32⟩
  | 1 => ⟨S4x16x128x4x256, .f32⟩
  | 2 => ⟨S8192x1024, .f32⟩
  | 3 => ⟨S49152x1024, .f32⟩
  | 4 => ⟨S2x24576x1024, .f32⟩
  | 5 => ⟨S2x24576x1024, .bf16⟩
  | _ => ⟨S24576x19712, .f32⟩

abbrev hbmTy (i : Nat) : BufTy := match i / 128 with
  | 0 => hbmTy0_0 i
  | 1 => hbmTy0_1 i
  | 2 => hbmTy0_2 i
  | _ => ⟨S24576x19712, .f32⟩

abbrev bufTy : (tb : Table) → Fin (tcTables nBuf tb) → BufTy
  | .hbm, ⟨i, _⟩ => hbmTy i
  | _, _ => ⟨S24576x19712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_4 : Ref sig .tc := ⟨.hbm, 82, rfl⟩
abbrev main_v74 : Ref sig .tc := ⟨.hbm, 83, rfl⟩
abbrev main_v75 : Ref sig .tc := ⟨.hbm, 84, rfl⟩
abbrev main_cst_5 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_7 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_cst_8 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_cst_9 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_cst_10 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_cst_11 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_cst_12 : Ref sig .tc := ⟨.hbm, 173, rfl⟩
abbrev main_v157 : Ref sig .tc := ⟨.hbm, 174, rfl⟩
abbrev main_cst_13 : Ref sig .tc := ⟨.hbm, 175, rfl⟩
abbrev main_v158 : Ref sig .tc := ⟨.hbm, 176, rfl⟩
abbrev main_c_14 : Ref sig .tc := ⟨.hbm, 177, rfl⟩
abbrev main_v159_0 : Ref sig .tc := ⟨.hbm, 178, rfl⟩
abbrev main_v159_1 : Ref sig .tc := ⟨.hbm, 179, rfl⟩
abbrev main_v159_2 : Ref sig .tc := ⟨.hbm, 180, rfl⟩
abbrev main_v159_3 : Ref sig .tc := ⟨.hbm, 181, rfl⟩
abbrev main_v159_4 : Ref sig .tc := ⟨.hbm, 182, rfl⟩
abbrev main_v159_5 : Ref sig .tc := ⟨.hbm, 183, rfl⟩
abbrev main_v159_6 : Ref sig .tc := ⟨.hbm, 184, rfl⟩
abbrev main_v159_7 : Ref sig .tc := ⟨.hbm, 185, rfl⟩
abbrev main_v159_8 : Ref sig .tc := ⟨.hbm, 186, rfl⟩
abbrev main_v159_9 : Ref sig .tc := ⟨.hbm, 187, rfl⟩
abbrev main_v159_10 : Ref sig .tc := ⟨.hbm, 188, rfl⟩
abbrev main_while0c_c_25 : Ref sig .tc := ⟨.hbm, 189, rfl⟩
abbrev main_while0c_v176 : Ref sig .tc := ⟨.hbm, 190, rfl⟩
abbrev main_while0b_call1_c : Ref sig .tc := ⟨.hbm, 191, rfl⟩
abbrev main_while0b_call1_c_0 : Ref sig .tc := ⟨.hbm, 192, rfl⟩
abbrev main_while0b_call1_c_1 : Ref sig .tc := ⟨.hbm, 193, rfl⟩
abbrev main_while0b_call1_c_2 : Ref sig .tc := ⟨.hbm, 194, rfl⟩
abbrev main_while0b_call1_v0 : Ref sig .tc := ⟨.hbm, 195, rfl⟩
abbrev main_while0b_v176 : Ref sig .tc := ⟨.hbm, 196, rfl⟩
abbrev main_while0b_call2_c : Ref sig .tc := ⟨.hbm, 197, rfl⟩
abbrev main_while0b_call2_c_0 : Ref sig .tc := ⟨.hbm, 198, rfl⟩
abbrev main_while0b_call2_c_1 : Ref sig .tc := ⟨.hbm, 199, rfl⟩
abbrev main_while0b_call2_c_2 : Ref sig .tc := ⟨.hbm, 200, rfl⟩
abbrev main_while0b_call2_v0 : Ref sig .tc := ⟨.hbm, 201, rfl⟩
abbrev main_while0b_v177 : Ref sig .tc := ⟨.hbm, 202, rfl⟩
abbrev main_while0b_call3_c : Ref sig .tc := ⟨.hbm, 203, rfl⟩
abbrev main_while0b_call3_c_0 : Ref sig .tc := ⟨.hbm, 204, rfl⟩
abbrev main_while0b_call3_c_1 : Ref sig .tc := ⟨.hbm, 205, rfl⟩
abbrev main_while0b_call3_c_2 : Ref sig .tc := ⟨.hbm, 206, rfl⟩
abbrev main_while0b_call3_v0 : Ref sig .tc := ⟨.hbm, 207, rfl⟩
abbrev main_while0b_v178 : Ref sig .tc := ⟨.hbm, 208, rfl⟩
abbrev main_while0b_call4_c : Ref sig .tc := ⟨.hbm, 209, rfl⟩
abbrev main_while0b_call4_c_0 : Ref sig .tc := ⟨.hbm, 210, rfl⟩
abbrev main_while0b_call4_c_1 : Ref sig .tc := ⟨.hbm, 211, rfl⟩
abbrev main_while0b_call4_c_2 : Ref sig .tc := ⟨.hbm, 212, rfl⟩
abbrev main_while0b_call4_v0 : Ref sig .tc := ⟨.hbm, 213, rfl⟩
abbrev main_while0b_v179 : Ref sig .tc := ⟨.hbm, 214, rfl⟩
abbrev main_while0b_call5_c : Ref sig .tc := ⟨.hbm, 215, rfl⟩
abbrev main_while0b_call5_c_0 : Ref sig .tc := ⟨.hbm, 216, rfl⟩
abbrev main_while0b_call5_c_1 : Ref sig .tc := ⟨.hbm, 217, rfl⟩
abbrev main_while0b_call5_c_2 : Ref sig .tc := ⟨.hbm, 218, rfl⟩
abbrev main_while0b_call5_v0 : Ref sig .tc := ⟨.hbm, 219, rfl⟩
abbrev main_while0b_v180 : Ref sig .tc := ⟨.hbm, 220, rfl⟩
abbrev main_while0b_v181 : Ref sig .tc := ⟨.hbm, 221, rfl⟩
abbrev main_while0b_v182 : Ref sig .tc := ⟨.hbm, 222, rfl⟩
abbrev main_while0b_v183 : Ref sig .tc := ⟨.hbm, 223, rfl⟩
abbrev main_while0b_v184 : Ref sig .tc := ⟨.hbm, 224, rfl⟩
abbrev main_while0b_v185 : Ref sig .tc := ⟨.hbm, 225, rfl⟩
abbrev main_while0b_v186 : Ref sig .tc := ⟨.hbm, 226, rfl⟩
abbrev main_while0b_v187 : Ref sig .tc := ⟨.hbm, 227, rfl⟩
abbrev main_while0b_v188 : Ref sig .tc := ⟨.hbm, 228, rfl⟩
abbrev main_while0b_v189 : Ref sig .tc := ⟨.hbm, 229, rfl⟩
abbrev main_while0b_v190 : Ref sig .tc := ⟨.hbm, 230, rfl⟩
abbrev main_while0b_v191 : Ref sig .tc := ⟨.hbm, 231, rfl⟩
abbrev main_while0b_call6_v0 : Ref sig .tc := ⟨.hbm, 232, rfl⟩
abbrev main_while0b_call6_c : Ref sig .tc := ⟨.hbm, 233, rfl⟩
abbrev main_while0b_call6_c_0 : Ref sig .tc := ⟨.hbm, 234, rfl⟩
abbrev main_while0b_call6_c_1 : Ref sig .tc := ⟨.hbm, 235, rfl⟩
abbrev main_while0b_call6_c_2 : Ref sig .tc := ⟨.hbm, 236, rfl⟩
abbrev main_while0b_v192 : Ref sig .tc := ⟨.hbm, 237, rfl⟩
abbrev main_while0b_call7_v0 : Ref sig .tc := ⟨.hbm, 238, rfl⟩
abbrev main_while0b_call7_c : Ref sig .tc := ⟨.hbm, 239, rfl⟩
abbrev main_while0b_call7_c_0 : Ref sig .tc := ⟨.hbm, 240, rfl⟩
abbrev main_while0b_call7_c_1 : Ref sig .tc := ⟨.hbm, 241, rfl⟩
abbrev main_while0b_call7_c_2 : Ref sig .tc := ⟨.hbm, 242, rfl⟩
abbrev main_while0b_v193 : Ref sig .tc := ⟨.hbm, 243, rfl⟩
abbrev main_while0b_c_25 : Ref sig .tc := ⟨.hbm, 244, rfl⟩
abbrev main_while0b_v194 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩

abbrev nD : Nat := 1
abbrev τ : Topo := Topo.v7x

variable {F : FTy → Type} [FloatOps F]

abbrev main_while0_count : Scf.Loop 32 := ⟨0#32, 128#32, 1#32⟩
-- ==== Proof.ProjValue.lean ====
/-
  The layer's input product: every token times the weights of all projections, in blocks of 1024 tokens by 1792 columns.

  The kernel multiplies by the weights with their columns in its own order and 64 columns of zeros after them; the
  reference multiplies by the weights as given and then lays the columns out in that order. `weight w k l` is the weight
  at row `k` and column `l` of the kernel's order; both programs leave `∑ k, h r k · weight w k l` at row `r`, column `l`
  (`final`, `ref_eq`).
-/
module

public import proofs.«01_k».proof.Defs
public import proofs.«01_k».proof.Proof.Gen.ProjIdeal.Value
public import proofs.«01_k».proof.Proof.Gen.ProjRefIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen

/-- The kernel's stored block at an index. -/
theorem pay_apply (v0 : Vec Ideal S1024x2048 .bf16) (v1 : Vec Ideal S2048x1792 .bf16) (r : Fin 1024) (l : Fin 1792) :
    k0_pay1 (F := Ideal) v0 v1 (ix2 r l) = ∑ k : Fin 2048, (v0 (ix2 r k) : EReal) * v1 (ix2 k l) := by
  pointwise [k0_pay1]

/-- The weight at row `k`, column `l` of the kernel's column order: five pieces of the given order, then zeros. -/
def weight (w : S2048x19648.Idx → EReal) (k : Fin 2048) (l : Fin 19712) : EReal :=
  if h : l.val < 5120 then w (ix2 k ⟨l.val, by omega⟩)
  else if h : l.val < 6144 then w (ix2 k ⟨l.val + 192, by omega⟩)
  else if h : l.val < 18432 then w (ix2 k ⟨l.val + 1216, by omega⟩)
  else if h : l.val < 19456 then w (ix2 k ⟨l.val - 12096, by omega⟩)
  else if h : l.val < 19648 then w (ix2 k ⟨l.val - 14336, by omega⟩)
  else 0

variable (m : (ℓ : Loc nD τ sig) → Buf (Elt Ideal) ℓ) (ρ : Dev nD → PrngReg)

/-- The weights' columns in the kernel's order, as the host lays them out before the region. -/
def laidOut (w : FVec Ideal S2048x19648 .f32) : FVec Ideal S2048x19712 .bf16 :=
  truncf .bf16 (concatenate S2048x19712 1
    [⟨S2048x19648, (concatenate S2048x19648 1 [⟨S2048x1024, (extractStridedSlice S2048x1024 ![0, 0] w slices_S2048x19648_S2048x1024_0_0 : FVec Ideal S2048x1024 .f32)⟩, ⟨S2048x1024, (extractStridedSlice S2048x1024 ![0, 1024] w slices_S2048x19648_S2048x1024_0_1024 : FVec Ideal S2048x1024 .f32)⟩, ⟨S2048x1024, (extractStridedSlice S2048x1024 ![0, 2048] w slices_S2048x19648_S2048x1024_0_2048 : FVec Ideal S2048x1024 .f32)⟩, ⟨S2048x1024, (extractStridedSlice S2048x1024 ![0, 3072] w slices_S2048x19648_S2048x1024_0_3072 : FVec Ideal S2048x1024 .f32)⟩, ⟨S2048x1024, (extractStridedSlice S2048x1024 ![0, 4096] w slices_S2048x19648_S2048x1024_0_4096 : FVec Ideal S2048x1024 .f32)⟩, ⟨S2048x1024, (extractStridedSlice S2048x1024 ![0, 5312] w slices_S2048x19648_S2048x1024_0_5312 : FVec Ideal S2048x1024 .f32)⟩, ⟨S2048x1024, (extractStridedSlice S2048x1024 ![0, 7360] w slices_S2048x19648_S2048x1024_0_7360 : FVec Ideal S2048x1024 .f32)⟩, ⟨S2048x1024, (extractStridedSlice S2048x1024 ![0, 8384] w slices_S2048x19648_S2048x1024_0_8384 : FVec Ideal S2048x1024 .f32)⟩, ⟨S2048x1024, (extractStridedSlice S2048x1024 ![0, 9408] w slices_S2048x19648_S2048x1024_0_9408 : FVec Ideal S2048x1024 .f32)⟩, ⟨S2048x1024, (extractStridedSlice S2048x1024 ![0, 10432] w slices_S2048x19648_S2048x1024_0_10432 : FVec Ideal S2048x1024 .f32)⟩, ⟨S2048x8192, (extractStridedSlice S2048x8192 ![0, 11456] w slices_S2048x19648_S2048x8192_0_11456 : FVec Ideal S2048x8192 .f32)⟩, ⟨S2048x512, (extractStridedSlice S2048x512 ![0, 6336] w slices_S2048x19648_S2048x512_0_6336 : FVec Ideal S2048x512 .f32)⟩, ⟨S2048x512, (extractStridedSlice S2048x512 ![0, 6848] w slices_S2048x19648_S2048x512_0_6848 : FVec Ideal S2048x512 .f32)⟩, ⟨S2048x64, (extractStridedSlice S2048x64 ![0, 5120] w slices_S2048x19648_S2048x64_0_5120 : FVec Ideal S2048x64 .f32)⟩, ⟨S2048x64, (extractStridedSlice S2048x64 ![0, 5184] w slices_S2048x19648_S2048x64_0_5184 : FVec Ideal S2048x64 .f32)⟩, ⟨S2048x64, (extractStridedSlice S2048x64 ![0, 5248] w slices_S2048x19648_S2048x64_0_5248 : FVec Ideal S2048x64 .f32)⟩]
      concatenates_S2048x1024_S2048x1024_S2048x1024_S2048x1024_S2048x1024_S2048x1024_S2048x1024_S2048x1024_S2048x1024_S2048x1024_S2048x8192_S2048x512_S2048x512_S2048x64_S2048x64_S2048x64_S2048x19648_d1 : FVec Ideal S2048x19648 .f32)⟩,
     ⟨S2048x64, (broadcastInDim S2048x64 ![] bcast_S_S2048x64 (constant S_ .f32 0x00000000#32) : FVec Ideal S2048x64 .f32)⟩]
    concatenates_S2048x19648_S2048x64_S2048x19712_d1 : FVec Ideal S2048x19712 .f32) bitsLt_bf16_f32

/-- A concatenation read at position `c` is `W` if its first piece is, where `c` is in it, and the others are elsewhere. -/
theorem peel {t s : Shape} (a : Fin t.rank) (j : t.Idx) (x : s.Idx → EReal) (q : (s : Shape) × (s.Idx → EReal))
    (xs : List ((s : Shape) × (s.Idx → EReal)))
    (hs : ∀ s' ∈ (⟨s, x⟩ :: q :: xs : List ((s : Shape) × (s.Idx → EReal))).map (·.1), s'.FitsOff t a) (c : Nat)
    (hc : c < (axisSizes t a (⟨s, x⟩ :: q :: xs)).sum) {W : EReal}
    (h1 : ∀ hlt : c < s.size (a.cast (hs s List.mem_cons_self).rank_eq.symm),
      x (Shape.Idx.norm fun b => ⟨if b.val = a.val then c else (j (b.cast (hs s List.mem_cons_self).rank_eq)).val,
        concatAt_fst_lt (hs s List.mem_cons_self) j c hlt b⟩) = W)
    (h2 : ∀ hlt : ¬ c < s.size (a.cast (hs s List.mem_cons_self).rank_eq.symm),
      concatenateAt t a j (q :: xs) (fun s' h => hs s' (List.mem_cons_of_mem _ h))
        (c - s.size (a.cast (hs s List.mem_cons_self).rank_eq.symm))
        (by rw [axisSizes_cons t a ⟨s, x⟩ (q :: xs) (hs s List.mem_cons_self), List.sum_cons] at hc
            exact Nat.sub_lt_left_of_lt_add (Nat.le_of_not_lt hlt) hc) = W) :
    concatenateAt t a j (⟨s, x⟩ :: q :: xs) hs c hc = W := by
  rw [concatenateAt_cons]
  split
  · next h => exact h1 h
  · next h => exact h2 h

theorem weight_1 (w : S2048x19648.Idx → EReal) (k : Fin 2048) (l : Fin 19712) (h : l.val < 5120) (i : S2048x19648.Idx)
    (h0 : (i 0).val = k.val) (h1 : (i 1).val = l.val) : w i = weight w k l := by
  unfold weight
  rw [dif_pos h]
  exact congrArg w (funext fun a => Fin.ext (match a with | ⟨0, _⟩ => h0 | ⟨1, _⟩ => h1))
theorem weight_2 (w : S2048x19648.Idx → EReal) (k : Fin 2048) (l : Fin 19712) (h : l.val < 6144) (hn : ¬ l.val < 5120)
    (i : S2048x19648.Idx) (h0 : (i 0).val = k.val) (h1 : (i 1).val = l.val + 192) : w i = weight w k l := by
  unfold weight
  rw [dif_neg hn, dif_pos h]
  exact congrArg w (funext fun a => Fin.ext (match a with | ⟨0, _⟩ => h0 | ⟨1, _⟩ => h1))
theorem weight_3 (w : S2048x19648.Idx → EReal) (k : Fin 2048) (l : Fin 19712) (h : l.val < 18432) (hn : ¬ l.val < 6144)
    (i : S2048x19648.Idx) (h0 : (i 0).val = k.val) (h1 : (i 1).val = l.val + 1216) : w i = weight w k l := by
  unfold weight
  rw [dif_neg (by omega), dif_neg hn, dif_pos h]
  exact congrArg w (funext fun a => Fin.ext (match a with | ⟨0, _⟩ => h0 | ⟨1, _⟩ => h1))
theorem weight_4 (w : S2048x19648.Idx → EReal) (k : Fin 2048) (l : Fin 19712) (h : l.val < 19456) (hn : ¬ l.val < 18432)
    (i : S2048x19648.Idx) (h0 : (i 0).val = k.val) (h1 : (i 1).val = l.val - 12096) : w i = weight w k l := by
  unfold weight
  rw [dif_neg (by omega), dif_neg (by omega), dif_neg hn, dif_pos h]
  exact congrArg w (funext fun a => Fin.ext (match a with | ⟨0, _⟩ => h0 | ⟨1, _⟩ => h1))
theorem weight_5 (w : S2048x19648.Idx → EReal) (k : Fin 2048) (l : Fin 19712) (h : l.val < 19648) (hn : ¬ l.val < 19456)
    (i : S2048x19648.Idx) (h0 : (i 0).val = k.val) (h1 : (i 1).val = l.val - 14336) : w i = weight w k l := by
  unfold weight
  rw [dif_neg (by omega), dif_neg (by omega), dif_neg (by omega), dif_neg hn, dif_pos h]
  exact congrArg w (funext fun a => Fin.ext (match a with | ⟨0, _⟩ => h0 | ⟨1, _⟩ => h1))
theorem weight_6 (w : S2048x19648.Idx → EReal) (k : Fin 2048) (l : Fin 19712) (hn : ¬ l.val < 19648) : weight w k l = 0 := by
  unfold weight
  rw [dif_neg (by omega), dif_neg (by omega), dif_neg (by omega), dif_neg (by omega), dif_neg hn]

/-- The laid out columns, piece by piece. -/
theorem laidOut_apply (w : FVec Ideal S2048x19648 .f32) (k : Fin 2048) (l : Fin 19712) :
    laidOut w (ix2 k l) = weight w k l := by
  unfold laidOut
  refine (ValueIdx.truncf_apply (φ := .f32) (ψ := .bf16) _ bitsLt_bf16_f32 _).trans ?_
  rw [concatenate_pair_apply]
  split
  case isFalse h =>
    have h : ¬ l.val < 19648 := h
    rw [weight_6 w k l h]
    pointwise
  case isTrue h =>
  have h : l.val < 19648 := h
  rw [concatenate_cons_apply]
  refine peel _ _ _ _ _ _ _ _ (fun p0 => ?_) (fun n0 => ?_)
  · have p0 : l.val < 1024 := p0
    exact weight_1 w k l (by omega) _ (Nat.zero_add _) (by show 0 + (l.val) = l.val; omega)
  have n0 : ¬ l.val < 1024 := n0
  refine peel _ _ _ _ _ _ _ _ (fun p1 => ?_) (fun n1 => ?_)
  · have p1 : l.val - 1024 < 1024 := p1
    exact weight_1 w k l (by omega) _ (Nat.zero_add _) (by show 1024 + (l.val - 1024) = l.val; omega)
  have n1 : ¬ l.val - 1024 < 1024 := n1
  refine peel _ _ _ _ _ _ _ _ (fun p2 => ?_) (fun n2 => ?_)
  · have p2 : l.val - 1024 - 1024 < 1024 := p2
    exact weight_1 w k l (by omega) _ (Nat.zero_add _) (by show 2048 + (l.val - 1024 - 1024) = l.val; omega)
  have n2 : ¬ l.val - 1024 - 1024 < 1024 := n2
  refine peel _ _ _ _ _ _ _ _ (fun p3 => ?_) (fun n3 => ?_)
  · have p3 : l.val - 1024 - 1024 - 1024 < 1024 := p3
    exact weight_1 w k l (by omega) _ (Nat.zero_add _) (by show 3072 + (l.val - 1024 - 1024 - 1024) = l.val; omega)
  have n3 : ¬ l.val - 1024 - 1024 - 1024 < 1024 := n3
  refine peel _ _ _ _ _ _ _ _ (fun p4 => ?_) (fun n4 => ?_)
  · have p4 : l.val - 1024 - 1024 - 1024 - 1024 < 1024 := p4
    exact weight_1 w k l (by omega) _ (Nat.zero_add _) (by show 4096 + (l.val - 1024 - 1024 - 1024 - 1024) = l.val; omega)
  have n4 : ¬ l.val - 1024 - 1024 - 1024 - 1024 < 1024 := n4
  refine peel _ _ _ _ _ _ _ _ (fun p5 => ?_) (fun n5 => ?_)
  · have p5 : l.val - 1024 - 1024 - 1024 - 1024 - 1024 < 1024 := p5
    exact weight_2 w k l (by omega) (by omega) _ (Nat.zero_add _) (by show 5312 + (l.val - 1024 - 1024 - 1024 - 1024 - 1024) = l.val + 192; omega)
  have n5 : ¬ l.val - 1024 - 1024 - 1024 - 1024 - 1024 < 1024 := n5
  refine peel _ _ _ _ _ _ _ _ (fun p6 => ?_) (fun n6 => ?_)
  · have p6 : l.val - 1024 - 1024 - 1024 - 1024 - 1024 - 1024 < 1024 := p6
    exact weight_3 w k l (by omega) (by omega) _ (Nat.zero_add _) (by show 7360 + (l.val - 1024 - 1024 - 1024 - 1024 - 1024 - 1024) = l.val + 1216; omega)
  have n6 : ¬ l.val - 1024 - 1024 - 1024 - 1024 - 1024 - 1024 < 1024 := n6
  refine peel _ _ _ _ _ _ _ _ (fun p7 => ?_) (fun n7 => ?_)
  · have p7 : l.val - 1024 - 1024 - 1024 - 1024 - 1024 - 1024 - 1024 < 1024 := p7
    exact weight_3 w k l (by omega) (by omega) _ (Nat.zero_add _) (by show 8384 + (l.val - 1024 - 1024 - 1024 - 1024 - 1024 - 1024 - 1024) = l.val + 1216; omega)
  have n7 : ¬ l.val - 1024 - 1024 - 1024 - 1024 - 1024 - 1024 - 1024 < 1024 := n7
  refine peel _ _ _ _ _ _ _ _ (fun p8 => ?_) (fun n8 => ?_)
  · have p8 : l.val - 1024 - 1024 - 1024 - 1024 - 1024 - 1024 - 1024 - 1024 < 1024 := p8
    exact weight_3 w k l (by omega) (by omega) _ (Nat.zero_add _) (by show 9408 + (l.val - 1024 - 1024 - 1024 - 1024 - 1024 - 1024 - 1024 - 1024) = l.val + 1216; omega)
  have n8 : ¬ l.val - 1024 - 1024 - 1024 - 1024 - 1024 - 1024 - 1024 - 1024 < 1024 := n8
  refine peel _ _ _ _ _ _ _ _ (fun p9 => ?_) (fun n9 => ?_)
  · have p9 : l.val - 1024 - 1024 - 1024 - 1024 - 1024 - 1024 - 1024 - 1024 - 1024 < 1024 := p9
    exact weight_3 w k l (by omega) (by omega) _ (Nat.zero_add _) (by show 10432 + (l.val - 1024 - 1024 - 1024 - 1024 - 1024 - 1024 - 1024 - 1024 - 1024) = l.val + 1216; omega)
  have n9 : ¬ l.val - 1024 - 1024 - 1024 - 1024 - 1024 - 1024 - 1024 - 1024 - 1024 < 1024 := n9
  refine peel _ _ _ _ _ _ _ _ (fun p10 => ?_) (fun n10 => ?_)
  · have p10 : l.val - 1024 - 1024 - 1024 - 1024 - 1024 - 1024 - 1024 - 1024 - 1024 - 1024 < 8192 := p10
    exact weight_3 w k l (by omega) (by omega) _ (Nat.zero_add _) (by show 11456 + (l.val - 1024 - 1024 - 1024 - 1024 - 1024 - 1024 - 1024 - 1024 - 1024 - 1024) = l.val + 1216; omega)
  have n10 : ¬ l.val - 1024 - 1024 - 1024 - 1024 - 1024 - 1024 - 1024 - 1024 - 1024 - 1024 < 8192 := n10
  refine peel _ _ _ _ _ _ _ _ (fun p11 => ?_) (fun n11 => ?_)
  · have p11 : l.val - 1024 - 1024 - 1024 - 1024 - 1024 - 1024 - 1024 - 1024 - 1024 - 1024 - 8192 < 512 := p11
    exact weight_4 w k l (by omega) (by omega) _ (Nat.zero_add _) (by show 6336 + (l.val - 1024 - 1024 - 1024 - 1024 - 1024 - 1024 - 1024 - 1024 - 1024 - 1024 - 8192) = l.val - 12096; omega)
  have n11 : ¬ l.val - 1024 - 1024 - 1024 - 1024 - 1024 - 1024 - 1024 - 1024 - 1024 - 1024 - 8192 < 512 := n11
  refine peel _ _ _ _ _ _ _ _ (fun p12 => ?_) (fun n12 => ?_)
  · have p12 : l.val - 1024 - 1024 - 1024 - 1024 - 1024 - 1024 - 1024 - 1024 - 1024 - 1024 - 8192 - 512 < 512 := p12
    exact weight_4 w k l (by omega) (by omega) _ (Nat.zero_add _) (by show 6848 + (l.val - 1024 - 1024 - 1024 - 1024 - 1024 - 1024 - 1024 - 1024 - 1024 - 1024 - 8192 - 512) = l.val - 12096; omega)
  have n12 : ¬ l.val - 1024 - 1024 - 1024 - 1024 - 1024 - 1024 - 1024 - 1024 - 1024 - 1024 - 8192 - 512 < 512 := n12
  refine peel _ _ _ _ _ _ _ _ (fun p13 => ?_) (fun n13 => ?_)
  · have p13 : l.val - 1024 - 1024 - 1024 - 1024 - 1024 - 1024 - 1024 - 1024 - 1024 - 1024 - 8192 - 512 - 512 < 64 := p13
    exact weight_5 w k l (by omega) (by omega) _ (Nat.zero_add _) (by show 5120 + (l.val - 1024 - 1024 - 1024 - 1024 - 1024 - 1024 - 1024 - 1024 - 1024 - 1024 - 8192 - 512 - 512) = l.val - 14336; omega)
  have n13 : ¬ l.val - 1024 - 1024 - 1024 - 1024 - 1024 - 1024 - 1024 - 1024 - 1024 - 1024 - 8192 - 512 - 512 < 64 := n13
  refine peel _ _ _ _ _ _ _ _ (fun p14 => ?_) (fun n14 => ?_)
  · have p14 : l.val - 1024 - 1024 - 1024 - 1024 - 1024 - 1024 - 1024 - 1024 - 1024 - 1024 - 8192 - 512 - 512 - 64 < 64 := p14
    exact weight_5 w k l (by omega) (by omega) _ (Nat.zero_add _) (by show 5184 + (l.val - 1024 - 1024 - 1024 - 1024 - 1024 - 1024 - 1024 - 1024 - 1024 - 1024 - 8192 - 512 - 512 - 64) = l.val - 14336; omega)
  have n14 : ¬ l.val - 1024 - 1024 - 1024 - 1024 - 1024 - 1024 - 1024 - 1024 - 1024 - 1024 - 8192 - 512 - 512 - 64 < 64 := n14
  rw [concatenateAt_singleton]
  exact weight_5 w k l (by omega) (by omega) _ (Nat.zero_add _) (by show 5248 + (l.val - 1024 - 1024 - 1024 - 1024 - 1024 - 1024 - 1024 - 1024 - 1024 - 1024 - 8192 - 512 - 512 - 64 - 64) = l.val - 14336; omega)

theorem V_eq (c : Dev nD) : V m c main_v19 = laidOut (m ((c : Thread nD τ).loc main_arg1)) := by
  show StableHlo.after hostOps0 (fun b => m (c, b)) (Proc.devRef .tc main_v19) = _
  unfold laidOut
  after_results <;> rfl

theorem hz : (![0, 0] : Fin 2 → Nat) = fun _ => 0 := funext fun a => by fin_cases a <;> rfl

/-! ## Where the windows' blocks lie: point `t` is row block `t mod 24` and column block `t / 24` -/

theorem idx0 : ∀ t : Fin cfg0.N, win0_0.index t (0 : Fin 2) = t.val % 24 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 24 :=
  (by decide +kernel : ∀ t : Fin grid0.N, _)
theorem idx2 : ∀ t : Fin cfg0.N, win0_2.index t (0 : Fin 2) = t.val % 24 ∧ win0_2.index t (1 : Fin 2) = t.val / 24 :=
  (by decide +kernel : ∀ t : Fin grid0.N, _)

theorem lt_rows (t : Fin cfg0.N) (r : Fin 1024) : t.val % 24 * 1024 + r.val < 24576 := by
  have := r.isLt
  omega
theorem lt_cols (t : Fin cfg0.N) (l : Fin 1792) : t.val / 24 * 1792 + l.val < 19712 := by
  have h : t.val < 264 := t.isLt
  have := l.isLt
  omega

theorem emb0 (t : Fin cfg0.N) (r : Fin 1024) (l : Fin 2048) :
    ((cfg0.win 0).blk t).view.emb (ix2 r l) = ix2 ⟨t.val % 24 * 1024 + r.val, lt_rows t r⟩ l := by
  obtain ⟨e0, e1⟩ := idx0 t
  funext a; apply Fin.ext
  match a with
  | ⟨0, _⟩ => show win0_0.index t (0 : Fin 2) * 1024 + 1 * r.val = t.val % 24 * 1024 + r.val; omega
  | ⟨1, _⟩ => show win0_0.index t (1 : Fin 2) * 2048 + 1 * l.val = l.val; omega

theorem emb1 (t : Fin cfg0.N) (r : Fin 2048) (l : Fin 1792) :
    ((cfg0.win 1).blk t).view.emb (ix2 r l) = ix2 r ⟨t.val / 24 * 1792 + l.val, lt_cols t l⟩ := by
  obtain ⟨e0, e1⟩ := idx1 t
  funext a; apply Fin.ext
  match a with
  | ⟨0, _⟩ => show win0_1.index t (0 : Fin 2) * 2048 + 1 * r.val = r.val; omega
  | ⟨1, _⟩ => show win0_1.index t (1 : Fin 2) * 1792 + 1 * l.val = t.val / 24 * 1792 + l.val; omega

theorem emb2 (t : Fin cfg0.N) (r : Fin 1024) (l : Fin 1792) :
    ((cfg0.win 2).blk t).view.emb (ix2 r l)
      = ix2 ⟨t.val % 24 * 1024 + r.val, lt_rows t r⟩ ⟨t.val / 24 * 1792 + l.val, lt_cols t l⟩ := by
  obtain ⟨e0, e1⟩ := idx2 t
  funext a; apply Fin.ext
  match a with
  | ⟨0, _⟩ => show win0_2.index t (0 : Fin 2) * 1024 + 1 * r.val = t.val % 24 * 1024 + r.val; omega
  | ⟨1, _⟩ => show win0_2.index t (1 : Fin 2) * 1792 + 1 * l.val = t.val / 24 * 1792 + l.val; omega

/-! ## The result array -/

/-- What the result array is shown to hold, from the argument arrays. -/
def G (h : S24576x2048.Idx → EReal) (w : S2048x19648.Idx → EReal) : S24576x19712.Idx → EReal := fun i =>
  ∑ k : Fin 2048, h (ix2 (i 0) k) * weight w k (i 1)

/-- The result array's contents at the arguments in memory. -/
def val (c : Dev nD) : Buf (Elt Ideal) ((c : Thread nD τ).loc main_v20) :=
  G (m ((c : Thread nD τ).loc main_arg0)) (m ((c : Thread nD τ).loc main_arg1))

/-- What a point writes back is its block of `val`. -/
theorem flushed_eq (c : Dev nD) (t : Fin cfg0.N) :
    (dats m 0 c).flushed 2 t = ((cfg0.win 2).blk t).view.read (Elt Ideal) (val m c) := by
  rw [Value.flushed2]
  unfold out0_2
  rw [View.canon_unit_zero hz, View.ld_unit_zero hz, View.ld_unit_zero hz]
  funext j
  obtain ⟨r, l, rfl⟩ : ∃ (r : Fin 1024) (l : Fin 1792), j = ix2 r l := ⟨j 0, j 1, eq_ix2 j⟩
  show k0_pay1 (F := Ideal) (iblk m c 0 t) (iblk m c 1 t) (ix2 r l) = val m c (((cfg0.win 2).blk t).view.emb (ix2 r l))
  rw [emb2]
  refine (pay_apply _ _ r l).trans ?_
  have h0 (k : Fin 2048) : (iblk m c 0 t : S1024x2048.Idx → EReal) (ix2 r k)
      = (m ((c : Thread nD τ).loc main_arg0) : S24576x2048.Idx → EReal) (ix2 ⟨t.val % 24 * 1024 + r.val, lt_rows t r⟩ k) := by
    show V m c main_arg0 (((cfg0.win 0).blk t).view.emb (ix2 r k)) = _
    rw [emb0, V_main_arg0]
  have h1 (k : Fin 2048) : (iblk m c 1 t : S2048x1792.Idx → EReal) (ix2 k l)
      = weight (m ((c : Thread nD τ).loc main_arg1)) k ⟨t.val / 24 * 1792 + l.val, lt_cols t l⟩ := by
    show V m c main_v19 (((cfg0.win 1).blk t).view.emb (ix2 k l)) = _
    rw [emb1, V_eq]; exact laidOut_apply _ k _
  exact Finset.sum_congr rfl fun k _ => congrArg₂ (HMul.hMul (α := EReal) (β := EReal) (γ := EReal)) (h0 k) (h1 k)

/-- Every index of the result array is in the block of its row and column. -/
theorem cover (i : S24576x19712.Idx) :
    ∃ t : Fin cfg0.N, (cfg0.win 2).flush t = true ∧ i ∈ ((cfg0.win 2).blk t).view.set := by
  have h0 : (i 0).val < 24576 := (i 0).isLt
  have h1 : (i 1).val < 19712 := (i 1).isLt
  obtain ⟨t, ht⟩ : ∃ t : Fin cfg0.N, t.val = (i 1).val / 1792 * 24 + (i 0).val / 1024 :=
    ⟨⟨(i 1).val / 1792 * 24 + (i 0).val / 1024, by show _ < 264; omega⟩, rfl⟩
  refine ⟨t, flush0_2 _, ?_⟩
  have e : ((cfg0.win 2).blk t).view.emb (ix2 (⟨(i 0).val % 1024, Nat.mod_lt _ (by decide)⟩ : Fin 1024)
      (⟨(i 1).val % 1792, Nat.mod_lt _ (by decide)⟩ : Fin 1792)) = i := by
    refine (emb2 t _ _).trans (funext fun a => ?_)
    match a with
    | ⟨0, _⟩ => exact Fin.ext (by show t.val % 24 * 1024 + (i 0).val % 1024 = (i 0).val; omega)
    | ⟨1, _⟩ => exact Fin.ext (by show t.val / 24 * 1792 + (i 1).val % 1792 = (i 1).val; omega)
  have h := ((cfg0.win 2).blk t).view.emb_mem_set (ix2 (⟨(i 0).val % 1024, Nat.mod_lt _ (by decide)⟩ : Fin 1024)
      (⟨(i 1).val % 1792, Nat.mod_lt _ (by decide)⟩ : Fin 1792))
  rwa [e] at h

/-- The result array after the run. -/
theorem final (c : Dev nD) : (dats m 0 c).arrAt 2 cfg0.N = val m c :=
  (dats m 0 c).arrAt_eq_of_cover 2 (val m c) (fun t _ => flushed_eq m c t) cover

/-- The run, read: the result array at `val`, the arguments unchanged. -/
theorem run : θ_run defs (onTc (τ := τ) (main (F := Ideal))) ⟨m, fun _ => 0, ρ⟩ fun r => ∀ c : Dev nD,
      r.2.mem ((c : Thread nD τ).loc main_v20) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ProjIdeal.RefValue

namespace Cert.ProjRefIdeal.RefValue

open Cert.ProjRefIdeal Cert.ProjRefIdeal.Gen

/-- The product with the weights as given. -/
abbrev prod (h : FVec Ideal S24576x2048 .bf16) (w : FVec Ideal S2048x19648 .f32) : FVec Ideal S24576x19648 .f32 :=
  Host.dotGeneral dot_S24576x2048_S2048x19648_S24576x19648_1_0_0_1_n_n none (extf .f32 h bitsLt_bf16_f32) w

theorem prod_apply (h : FVec Ideal S24576x2048 .bf16) (w : FVec Ideal S2048x19648 .f32) (r : Fin 24576) (l : Fin 19648) :
    prod h w (ix2 r l) = ∑ k : Fin 2048, (h (ix2 r k) : EReal) * w (ix2 k l) := by
  unfold prod
  pointwise

/-- The reference's columns, laid out, are the products with `weight`'s columns. -/
theorem ref_eq (h : FVec Ideal S24576x2048 .bf16) (w : FVec Ideal S2048x19648 .f32) :
    (concatenate S24576x19712 1 [⟨S24576x5120, ((extractStridedSlice S24576x5120 ![0, 0] (prod h w) slices_S24576x19648_S24576x5120_0_0) : FVec Ideal S24576x5120 .f32)⟩, ⟨S24576x1024, ((extractStridedSlice S24576x1024 ![0, 5312] (prod h w) slices_S24576x19648_S24576x1024_0_5312) : FVec Ideal S24576x1024 .f32)⟩, ⟨S24576x12288, ((extractStridedSlice S24576x12288 ![0, 7360] (prod h w) slices_S24576x19648_S24576x12288_0_7360) : FVec Ideal S24576x12288 .f32)⟩, ⟨S24576x1024, ((extractStridedSlice S24576x1024 ![0, 6336] (prod h w) slices_S24576x19648_S24576x1024_0_6336) : FVec Ideal S24576x1024 .f32)⟩, ⟨S24576x192, ((extractStridedSlice S24576x192 ![0, 5120] (prod h w) slices_S24576x19648_S24576x192_0_5120) : FVec Ideal S24576x192 .f32)⟩, ⟨S24576x64, ((broadcastInDim S24576x64 ![] bcast_S_S24576x64 (constant S_ .f32 0x00000000#32)) : FVec Ideal S24576x64 .f32)⟩] concatenates_S24576x5120_S24576x1024_S24576x12288_S24576x1024_S24576x192_S24576x64_S24576x19712_d1 : FVec Ideal S24576x19712 .f32)
      = Cert.ProjIdeal.RefValue.G h w := by
  funext j
  obtain ⟨r, l, rfl⟩ : ∃ (r : Fin 24576) (l : Fin 19712), j = ix2 r l := ⟨j 0, j 1, eq_ix2 j⟩
  show _ = ∑ k : Fin 2048, (h (ix2 r k) : EReal) * Cert.ProjIdeal.RefValue.weight w k l
  have hl := l.isLt
  have at_ (n : Nat) (hn : n < 19648) (e : ∀ k : Fin 2048, w (ix2 k ⟨n, hn⟩) = Cert.ProjIdeal.RefValue.weight w k l) :
      prod h w (ix2 r ⟨n, hn⟩) = ∑ k : Fin 2048, (h (ix2 r k) : EReal) * Cert.ProjIdeal.RefValue.weight w k l :=
    (prod_apply h w r ⟨n, hn⟩).trans (Finset.sum_congr rfl fun k _ =>
      congrArg (HMul.hMul (α := EReal) (β := EReal) (γ := EReal) (h (ix2 r k))) (e k))
  generalize hp : prod h w = P
  pointwise
  subst hp
  split
  · exact at_ _ _ fun k => Cert.ProjIdeal.RefValue.weight_1 w k l (by omega) _ rfl rfl
  split
  · exact at_ _ _ fun k => Cert.ProjIdeal.RefValue.weight_2 w k l (by omega) (by omega) _ rfl (by show 5312 + (l.val - 5120) = _; omega)
  split
  · exact at_ _ _ fun k => Cert.ProjIdeal.RefValue.weight_3 w k l (by omega) (by omega) _ rfl (by show 7360 + (l.val - 5120 - 1024) = _; omega)
  split
  · exact at_ _ _ fun k => Cert.ProjIdeal.RefValue.weight_4 w k l (by omega) (by omega) _ rfl (by show 6336 + (l.val - 5120 - 1024 - 12288) = _; omega)
  split
  · exact at_ _ _ fun k => Cert.ProjIdeal.RefValue.weight_5 w k l (by omega) (by omega) _ rfl (by show 5120 + (l.val - 5120 - 1024 - 12288 - 1024) = _; omega)
  · refine (Finset.sum_eq_zero fun k _ => ?_).symm
    rw [Cert.ProjIdeal.RefValue.weight_6 w k l (by omega)]
    exact mul_zero _

end Cert.ProjRefIdeal.RefValue
-- ==== Proof.MergeValue.lean ====
/-
  The gated merge of the four branches: one block of 512 tokens by 1024 channels per grid point.

  Both programs leave, at token `r` and channel `l`, the sum over the four branches of the sigmoid of the branch's gate times the
  product of the branch's row with its weights (`cell`). The kernel does so on the rows and columns of its block (`out_apply`),
  its 96 blocks tile the result array, and the reference is the same expression at every index (`ref_eq`).
-/
module

public import proofs.«01_k».proof.Defs
public import proofs.«01_k».proof.Proof.Gen.MergeIdeal.Value
public import proofs.«01_k».proof.Proof.Gen.MergeRefIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

/-- The sigmoid. -/
def gate (x : EReal) : EReal := Ideal.div 1 (1 + Ideal.exp (-x))

/-- One branch's part of an element: its gate times the product of its row with its weights' column. -/
def part (g : EReal) (y w : Fin 1024 → EReal) : EReal := gate g * ∑ k : Fin 1024, y k * w k

/-- One element of the result. -/
def cell (g : Fin 4 → EReal) (y w : Fin 4 → Fin 1024 → EReal) : EReal :=
  part (g 0) (y 0) (w 0) + part (g 1) (y 1) (w 1) + part (g 2) (y 2) (w 2) + part (g 3) (y 3) (w 3)

theorem hz : (![0, 0] : Fin 2 → Nat) = fun _ => 0 := funext fun a => by fin_cases a <;> rfl

/-- The first two branches' parts at an index. -/
theorem pay2_apply (v0 : Vec Ideal S512x1024 .f32) (v8 : Vec Ideal S1x512x1024 .bf16) (v10 : Vec Ideal S1x1024x1024 .bf16)
    (v14 : Vec Ideal S512x1024 .f32) (v22 : Vec Ideal S1x512x1024 .bf16) (v24 : Vec Ideal S1x1024x1024 .bf16)
    (r : Fin 512) (l : Fin 1024) :
    k0_pay2 (F := Ideal) v0 v8 v10 v14 v22 v24 (ix2 r l)
      = part (v0 (ix2 r l)) (fun k => v8 (ix3 0 r k)) (fun k => v10 (ix3 0 k l))
        + part (v14 (ix2 r l)) (fun k => v22 (ix3 0 r k)) (fun k => v24 (ix3 0 k l)) := by
  unfold part gate
  pointwise [k0_pay2]
  rw [zero_sub, zero_sub]

/-- The four branches' parts at an index. -/
theorem pay1_apply (v28 : FVec Ideal S512x1024 .f32) (v29 : Vec Ideal S512x1024 .f32) (v37 : Vec Ideal S1x512x1024 .bf16)
    (v39 : Vec Ideal S1x1024x1024 .bf16) (v44 : Vec Ideal S512x1024 .f32) (v52 : Vec Ideal S1x512x1024 .bf16)
    (v54 : Vec Ideal S1x1024x1024 .bf16) (r : Fin 512) (l : Fin 1024) :
    k0_pay1 (F := Ideal) v28 v29 k0_pay3 v37 v39 v44 v52 v54 (ix2 r l)
      = v28 (ix2 r l) + part (v29 (ix2 r l)) (fun k => v37 (ix3 0 r k)) (fun k => v39 (ix3 0 k l))
        + part (v44 (ix2 r l)) (fun k => v52 (ix3 0 r k)) (fun k => v54 (ix3 0 k l)) := by
  unfold part gate
  pointwise [k0_pay1, k0_pay3]
  rw [zero_sub, zero_sub]

/-- What the body leaves in the result's staging buffer, at an index, from the blocks it reads. -/
theorem out_apply (c : Dev nD) (i : grid0.Coords) (arg2 : Memref sig .tc .vmem S4x512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S4x1024x1024 .bf16) (harg7 : arg7.IsWhole) (arg8 : Memref sig .tc .vmem S512x1024 .bf16) (harg8 : arg8.IsWhole)
    (x0 : Vec Ideal S4x512x1024 .bf16) (x1 : Vec Ideal S512x1024 .f32) (x2 : Vec Ideal S512x1024 .f32) (x3 : Vec Ideal S512x1024 .f32) (x4 : Vec Ideal S512x1024 .f32) (x5 : Vec Ideal S4x1024x1024 .bf16) (r : Fin 512) (l : Fin 1024) :
    out0_A_6 c i arg2 harg2 arg3 harg3 arg4 harg4 arg5 harg5 arg6 harg6 arg7 harg7 arg8 harg8 x0 x1 x2 x3 x4 x5 (ix2 r l)
      = cell ![x1 (ix2 r l), x2 (ix2 r l), x3 (ix2 r l), x4 (ix2 r l)] (fun a k => x0 (ix3 a r k)) (fun a k => x5 (ix3 a k l)) := by
  unfold out0_A_6
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread,
    harg7.read_unread, View.ld_unit_zero (S := S512x1024) hz]
  refine (pay1_apply _ _ _ _ _ _ _ r l).trans ?_
  rw [pay2_apply]
  unfold cell
  pointwise

variable (m : (ℓ : Loc nD τ sig) → Buf (Elt Ideal) ℓ) (ρ : Dev nD → PrngReg)

/-! ## Where the windows' blocks lie: point `t` is row block `t mod 48` and column block `t / 48` -/

theorem lt_rows (t : Fin cfg0.N) (r : Fin 512) : t.val % 48 * 512 + r.val < 24576 := by
  have := r.isLt
  omega
theorem lt_cols (t : Fin cfg0.N) (l : Fin 1024) : t.val / 48 * 1024 + l.val < 2048 := by
  have h : t.val < 96 := t.isLt
  have := l.isLt
  omega

theorem idx1 : ∀ t : Fin cfg0.N, win0_1.index t (0 : Fin 2) = t.val % 48 ∧ win0_1.index t (1 : Fin 2) = 10 + t.val / 48 :=
  (by decide +kernel : ∀ t : Fin grid0.N, _)

theorem idx2 : ∀ t : Fin cfg0.N, win0_2.index t (0 : Fin 2) = t.val % 48 ∧ win0_2.index t (1 : Fin 2) = 12 + t.val / 48 :=
  (by decide +kernel : ∀ t : Fin grid0.N, _)

theorem idx3 : ∀ t : Fin cfg0.N, win0_3.index t (0 : Fin 2) = t.val % 48 ∧ win0_3.index t (1 : Fin 2) = 14 + t.val / 48 :=
  (by decide +kernel : ∀ t : Fin grid0.N, _)

theorem idx4 : ∀ t : Fin cfg0.N, win0_4.index t (0 : Fin 2) = t.val % 48 ∧ win0_4.index t (1 : Fin 2) = 16 + t.val / 48 :=
  (by decide +kernel : ∀ t : Fin grid0.N, _)

theorem idx6 : ∀ t : Fin cfg0.N, win0_6.index t (0 : Fin 2) = t.val % 48 ∧ win0_6.index t (1 : Fin 2) = t.val / 48 :=
  (by decide +kernel : ∀ t : Fin grid0.N, _)
theorem emb6 (t : Fin cfg0.N) (r : Fin 512) (l : Fin 1024) :
    ((cfg0.win 6).blk t).view.emb (ix2 r l) = ix2 ⟨t.val % 48 * 512 + r.val, lt_rows t r⟩ ⟨t.val / 48 * 1024 + l.val, lt_cols t l⟩ := by
  obtain ⟨e0, e1⟩ := idx6 t
  funext a; apply Fin.ext
  match a with
  | ⟨0, _⟩ => show win0_6.index t (0 : Fin 2) * 512 + 1 * r.val = t.val % 48 * 512 + r.val; omega
  | ⟨1, _⟩ => show win0_6.index t (1 : Fin 2) * 1024 + 1 * l.val = t.val / 48 * 1024 + l.val; omega

theorem idx0 : ∀ t : Fin cfg0.N, win0_0.index t (0 : Fin 3) = 0 ∧ win0_0.index t (1 : Fin 3) = t.val % 48 ∧ win0_0.index t (2 : Fin 3) = 0 :=
  (by decide +kernel : ∀ t : Fin grid0.N, _)
theorem emb0 (t : Fin cfg0.N) (b : Fin 4) (r : Fin 512) (l : Fin 1024) :
    ((cfg0.win 0).blk t).view.emb (ix3 b r l) = ix3 b ⟨t.val % 48 * 512 + r.val, lt_rows t r⟩ l := by
  obtain ⟨e0, e1, e2⟩ := idx0 t
  funext a; apply Fin.ext
  match a with
  | ⟨0, _⟩ => show win0_0.index t (0 : Fin 3) * 4 + 1 * b.val = b.val; omega
  | ⟨1, _⟩ => show win0_0.index t (1 : Fin 3) * 512 + 1 * r.val = t.val % 48 * 512 + r.val; omega
  | ⟨2, _⟩ => show win0_0.index t (2 : Fin 3) * 1024 + 1 * l.val = l.val; omega

theorem idx5 : ∀ t : Fin cfg0.N, win0_5.index t (0 : Fin 3) = 0 ∧ win0_5.index t (1 : Fin 3) = 0 ∧ win0_5.index t (2 : Fin 3) = t.val / 48 :=
  (by decide +kernel : ∀ t : Fin grid0.N, _)
theorem emb5 (t : Fin cfg0.N) (b : Fin 4) (k l : Fin 1024) :
    ((cfg0.win 5).blk t).view.emb (ix3 b k l) = ix3 b k ⟨t.val / 48 * 1024 + l.val, lt_cols t l⟩ := by
  obtain ⟨e0, e1, e2⟩ := idx5 t
  funext a; apply Fin.ext
  match a with
  | ⟨0, _⟩ => show win0_5.index t (0 : Fin 3) * 4 + 1 * b.val = b.val; omega
  | ⟨1, _⟩ => show win0_5.index t (1 : Fin 3) * 1024 + 1 * k.val = k.val; omega
  | ⟨2, _⟩ => show win0_5.index t (2 : Fin 3) * 1024 + 1 * l.val = t.val / 48 * 1024 + l.val; omega

/-! ## The arrays as the region finds them -/

/-- The weights rounded on the host: at ideal values the weights themselves. -/
theorem V_weights (c : Dev nD) : (V m c main_v0 : S4x1024x2048.Idx → EReal)
    = (m ((c : Thread nD τ).loc main_arg2) : S4x1024x2048.Idx → EReal) := by
  have h : V m c main_v0 = (truncf .bf16 (m ((c : Thread nD τ).loc main_arg2) : FVec Ideal S4x1024x2048 .f32)
      bitsLt_bf16_f32 : FVec Ideal S4x1024x2048 .bf16) := by
    show StableHlo.after hostOps0 (fun b => m (c, b)) (Proc.devRef .tc main_v0) = _
    after_results
  rw [h]; rfl

/-- The gate block of branch 0, at an index. -/
theorem gate1 (c : Dev nD) (t : Fin cfg0.N) (r : Fin 512) (l : Fin 1024) :
    (X0_1 m c t : S512x1024.Idx → EReal) (ix2 r l)
      = (m ((c : Thread nD τ).loc main_arg1) : S24576x19712.Idx → EReal)
          (ix2 ⟨t.val % 48 * 512 + r.val, lt_rows t r⟩ ⟨10240 + (t.val / 48 * 1024 + l.val), by have := lt_cols t l; omega⟩) := by
  obtain ⟨e0, e1⟩ := idx1 t
  unfold X0_1 Pipeline.Window.fill
  rw [dif_pos (moved0_1 t _)]
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 512 + 1 * r.val = t.val % 48 * 512 + r.val; omega
  | ⟨1, _⟩ => show win0_1.index t (1 : Fin 2) * 1024 + 1 * l.val = 10240 + (t.val / 48 * 1024 + l.val); omega

/-- The gate block of branch 1, at an index. -/
theorem gate2 (c : Dev nD) (t : Fin cfg0.N) (r : Fin 512) (l : Fin 1024) :
    (X0_2 m c t : S512x1024.Idx → EReal) (ix2 r l)
      = (m ((c : Thread nD τ).loc main_arg1) : S24576x19712.Idx → EReal)
          (ix2 ⟨t.val % 48 * 512 + r.val, lt_rows t r⟩ ⟨10240 + (2048 + (t.val / 48 * 1024 + l.val)), by have := lt_cols t l; omega⟩) := by
  obtain ⟨e0, e1⟩ := idx2 t
  unfold X0_2 Pipeline.Window.fill
  rw [dif_pos (moved0_2 t _)]
  show V m c main_arg1 (((cfg0.win 2).blk t).view.emb _) = _
  rw [V_main_arg1]
  refine congrArg (m ((c : Thread nD τ).loc main_arg1)) (funext fun a => Fin.ext ?_)
  match a with
  | ⟨0, _⟩ => show win0_2.index t (0 : Fin 2) * 512 + 1 * r.val = t.val % 48 * 512 + r.val; omega
  | ⟨1, _⟩ => show win0_2.index t (1 : Fin 2) * 1024 + 1 * l.val = 10240 + (2048 + (t.val / 48 * 1024 + l.val)); omega

/-- The gate block of branch 2, at an index. -/
theorem gate3 (c : Dev nD) (t : Fin cfg0.N) (r : Fin 512) (l : Fin 1024) :
    (X0_3 m c t : S512x1024.Idx → EReal) (ix2 r l)
      = (m ((c : Thread nD τ).loc main_arg1) : S24576x19712.Idx → EReal)
          (ix2 ⟨t.val % 48 * 512 + r.val, lt_rows t r⟩ ⟨10240 + (4096 + (t.val / 48 * 1024 + l.val)), by have := lt_cols t l; omega⟩) := by
  obtain ⟨e0, e1⟩ := idx3 t
  unfold X0_3 Pipeline.Window.fill
  rw [dif_pos (moved0_3 t _)]
  show V m c main_arg1 (((cfg0.win 3).blk t).view.emb _) = _
  rw [V_main_arg1]
  refine congrArg (m ((c : Thread nD τ).loc main_arg1)) (funext fun a => Fin.ext ?_)
  match a with
  | ⟨0, _⟩ => show win0_3.index t (0 : Fin 2) * 512 + 1 * r.val = t.val % 48 * 512 + r.val; omega
  | ⟨1, _⟩ => show win0_3.index t (1 : Fin 2) * 1024 + 1 * l.val = 10240 + (4096 + (t.val / 48 * 1024 + l.val)); omega

/-- The gate block of branch 3, at an index. -/
theorem gate4 (c : Dev nD) (t : Fin cfg0.N) (r : Fin 512) (l : Fin 1024) :
    (X0_4 m c t : S512x1024.Idx → EReal) (ix2 r l)
      = (m ((c : Thread nD τ).loc main_arg1) : S24576x19712.Idx → EReal)
          (ix2 ⟨t.val % 48 * 512 + r.val, lt_rows t r⟩ ⟨10240 + (6144 + (t.val / 48 * 1024 + l.val)), by have := lt_cols t l; omega⟩) := by
  obtain ⟨e0, e1⟩ := idx4 t
  unfold X0_4 Pipeline.Window.fill
  rw [dif_pos (moved0_4 t _)]
  show V m c main_arg1 (((cfg0.win 4).blk t).view.emb _) = _
  rw [V_main_arg1]
  refine congrArg (m ((c : Thread nD τ).loc main_arg1)) (funext fun a => Fin.ext ?_)
  match a with
  | ⟨0, _⟩ => show win0_4.index t (0 : Fin 2) * 512 + 1 * r.val = t.val % 48 * 512 + r.val; omega
  | ⟨1, _⟩ => show win0_4.index t (1 : Fin 2) * 1024 + 1 * l.val = 10240 + (6144 + (t.val / 48 * 1024 + l.val)); omega

/-! ## The result array -/

/-- What the result array is shown to hold, from the argument arrays. -/
def G (y : S4x24576x1024.Idx → EReal) (p : S24576x19712.Idx → EReal) (w : S4x1024x2048.Idx → EReal) :
    S24576x2048.Idx → EReal := fun i =>
  cell ![p (ix2 (i 0) ⟨10240 + (i 1).val, by have : (i 1).val < 2048 := (i 1).isLt; omega⟩),
      p (ix2 (i 0) ⟨10240 + (2048 + (i 1).val), by have : (i 1).val < 2048 := (i 1).isLt; omega⟩),
      p (ix2 (i 0) ⟨10240 + (4096 + (i 1).val), by have : (i 1).val < 2048 := (i 1).isLt; omega⟩),
      p (ix2 (i 0) ⟨10240 + (6144 + (i 1).val), by have : (i 1).val < 2048 := (i 1).isLt; omega⟩)]
    (fun b k => y (ix3 b (i 0) k)) (fun b k => w (ix3 b k (i 1)))

/-- The result array's contents at the arguments in memory. -/
def val (c : Dev nD) : Buf (Elt Ideal) ((c : Thread nD τ).loc main_v1) :=
  G (m ((c : Thread nD τ).loc main_arg0)) (m ((c : Thread nD τ).loc main_arg1)) (m ((c : Thread nD τ).loc main_arg2))

theorem G_apply (y : S4x24576x1024.Idx → EReal) (p : S24576x19712.Idx → EReal) (w : S4x1024x2048.Idx → EReal)
    (r : Fin 24576) (l : Fin 2048) : G y p w (ix2 r l)
      = cell ![p (ix2 r ⟨10240 + l.val, by omega⟩), p (ix2 r ⟨10240 + (2048 + l.val), by omega⟩),
          p (ix2 r ⟨10240 + (4096 + l.val), by omega⟩), p (ix2 r ⟨10240 + (6144 + l.val), by omega⟩)]
        (fun b k => y (ix3 b r k)) (fun b k => w (ix3 b k l)) := rfl

/-- Equal gates, rows and columns give equal elements. -/
theorem cell_congr {a0 a1 a2 a3 b0 b1 b2 b3 : EReal} {y y' w w' : Fin 4 → Fin 1024 → EReal} (h0 : a0 = b0) (h1 : a1 = b1)
    (h2 : a2 = b2) (h3 : a3 = b3) (hy : ∀ b k, y b k = y' b k) (hw : ∀ b k, w b k = w' b k) :
    cell ![a0, a1, a2, a3] y w = cell ![b0, b1, b2, b3] y' w' := by
  rw [h0, h1, h2, h3, show y = y' from funext fun b => funext (hy b), show w = w' from funext fun b => funext (hw b)]

/-- What a point writes back is its block of `val`. -/
theorem flushed_eq (c : Dev nD) (t : Fin cfg0.N) :
    (dats m 0 c).flushed 6 t = ((cfg0.win 6).blk t).view.read (Elt Ideal) (val m c) := by
  rw [Value.flushed6_A]
  funext j
  obtain ⟨r, l, rfl⟩ : ∃ (r : Fin 512) (l : Fin 1024), j = ix2 r l := ⟨j 0, j 1, eq_ix2 j⟩
  refine (out_apply c _ _ _ _ _ _ _ _ _ _ _ _ _ _ _ _ _ _ _ _ _ r l).trans ?_
  show _ = val m c (((cfg0.win 6).blk t).view.emb (ix2 r l))
  rw [emb6]
  have h0 (b : Fin 4) (k : Fin 1024) : (iblk m c 0 t : S4x512x1024.Idx → EReal) (ix3 b r k)
      = (m ((c : Thread nD τ).loc main_arg0) : S4x24576x1024.Idx → EReal) (ix3 b ⟨t.val % 48 * 512 + r.val, lt_rows t r⟩ k) := by
    show V m c main_arg0 (((cfg0.win 0).blk t).view.emb (ix3 b r k)) = _
    rw [emb0, V_main_arg0]
  have h5 (b : Fin 4) (k : Fin 1024) : (iblk m c 5 t : S4x1024x1024.Idx → EReal) (ix3 b k l)
      = (m ((c : Thread nD τ).loc main_arg2) : S4x1024x2048.Idx → EReal) (ix3 b k ⟨t.val / 48 * 1024 + l.val, lt_cols t l⟩) := by
    show V m c main_v0 (((cfg0.win 5).blk t).view.emb (ix3 b k l)) = _
    rw [emb5, V_weights]
  refine Eq.trans ?_ (G_apply _ _ _ ⟨t.val % 48 * 512 + r.val, lt_rows t r⟩ ⟨t.val / 48 * 1024 + l.val, lt_cols t l⟩).symm
  exact cell_congr (gate1 m c t r l) (gate2 m c t r l) (gate3 m c t r l) (gate4 m c t r l) h0 h5

/-- Every index of the result array is in the block of its row and column. -/
theorem cover (i : S24576x2048.Idx) :
    ∃ t : Fin cfg0.N, (cfg0.win 6).flush t = true ∧ i ∈ ((cfg0.win 6).blk t).view.set := by
  have h0 : (i 0).val < 24576 := (i 0).isLt
  have h1 : (i 1).val < 2048 := (i 1).isLt
  obtain ⟨t, ht⟩ : ∃ t : Fin cfg0.N, t.val = (i 1).val / 1024 * 48 + (i 0).val / 512 :=
    ⟨⟨(i 1).val / 1024 * 48 + (i 0).val / 512, by show _ < 96; omega⟩, rfl⟩
  refine ⟨t, flush0_6 _, ?_⟩
  have e : ((cfg0.win 6).blk t).view.emb (ix2 (⟨(i 0).val % 512, Nat.mod_lt _ (by decide)⟩ : Fin 512)
      (⟨(i 1).val % 1024, Nat.mod_lt _ (by decide)⟩ : Fin 1024)) = i := by
    refine (emb6 t _ _).trans (funext fun a => ?_)
    match a with
    | ⟨0, _⟩ => exact Fin.ext (by show t.val % 48 * 512 + (i 0).val % 512 = (i 0).val; omega)
    | ⟨1, _⟩ => exact Fin.ext (by show t.val / 48 * 1024 + (i 1).val % 1024 = (i 1).val; omega)
  have h := ((cfg0.win 6).blk t).view.emb_mem_set (ix2 (⟨(i 0).val % 512, Nat.mod_lt _ (by decide)⟩ : Fin 512)
      (⟨(i 1).val % 1024, Nat.mod_lt _ (by decide)⟩ : Fin 1024))
  rwa [e] at h

/-- The result array after the run. -/
theorem final (c : Dev nD) : (dats m 0 c).arrAt 6 cfg0.N = val m c :=
  (dats m 0 c).arrAt_eq_of_cover 6 (val m c) (fun t _ => flushed_eq m c t) cover

/-- The run, read: the result array at `val`, the arguments unchanged. -/
theorem run : θ_run defs (onTc (τ := τ) (main (F := Ideal))) ⟨m, fun _ => 0, ρ⟩ fun r => ∀ c : Dev nD,
      r.2.mem ((c : Thread nD τ).loc main_v1) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.MergeIdeal.RefValue

namespace Cert.MergeRefIdeal.RefValue

open Cert.MergeRefIdeal Cert.MergeRefIdeal.Gen

variable (m : (ℓ : Loc nD τ sig) → Buf (Elt Ideal) ℓ)

/-- The reference's composed term is the kernel's value, index by index. -/
theorem ref_eq (c : Dev nD) (y : FVec Ideal S4x24576x1024 .bf16) (p : FVec Ideal S24576x19712 .f32) (w : FVec Ideal S4x1024x2048 .f32)
    (hy : m ((c : Thread nD τ).loc main_arg0) = y) (hp : m ((c : Thread nD τ).loc main_arg1) = p)
    (hw : m ((c : Thread nD τ).loc main_arg2) = w) :
    Value.res_main_v49 m c = Cert.MergeIdeal.RefValue.G y p w := by
  funext j
  obtain ⟨r, l, rfl⟩ : ∃ (r : Fin 24576) (l : Fin 2048), j = ix2 r l := ⟨j 0, j 1, eq_ix2 j⟩
  unfold Value.res_main_v49
  rw [hy, hp, hw]
  show _ = Cert.MergeIdeal.RefValue.cell _ _ _
  unfold Cert.MergeIdeal.RefValue.cell Cert.MergeIdeal.RefValue.part Cert.MergeIdeal.RefValue.gate
  pointwise

end Cert.MergeRefIdeal.RefValue
-- ==== Proof.OutValue.lean ====
/-
  The last layer's output product with the final norm: one row block of 256 tokens per grid point.

  Both programs leave, at row `r` and column `c`, `y r c · rsqrt(mean of the squares of row r of y + 1e-6) · g c` where
  `y = x + merged · w_out` (`cell`). The kernel does so for the rows of its block (`pay_apply`), its 96 blocks tile the
  result array, and the reference is the same expression at every index (`ref_apply`).
-/
module

public import proofs.«01_k».proof.Defs
public import proofs.«01_k».proof.Proof.Gen.OutIdeal.Value
public import proofs.«01_k».proof.Proof.Gen.OutRefIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutIdeal.RefValue

open Cert.OutIdeal Cert.OutIdeal.Gen

/-- One row of the residual stream after the layer: the row of `x` plus the row of `merged` times the weights. -/
def row (x : Fin 2048 → EReal) (mg : Fin 2048 → EReal) (w : Fin 2048 → Fin 2048 → EReal) (l : Fin 2048) : EReal :=
  x l + ∑ k : Fin 2048, mg k * w k l

/-- One element of the result: the row's element over the root of the row's mean square, times the norm's weight. -/
def cell (x : Fin 2048 → EReal) (mg : Fin 2048 → EReal) (w : Fin 2048 → Fin 2048 → EReal) (g : Fin 2048 → EReal)
    (l : Fin 2048) : EReal :=
  row x mg w l * Ideal.rsqrt (Ideal.div (∑ k : Fin 2048, row x mg w k * row x mg w k) (Ideal.ofBits .f32 0x45000000#32)
    + Ideal.ofBits .f32 0x358637BD#32) * g l

/-- The kernel's stored block at an index. -/
theorem pay_apply (v0 : Vec Ideal S256x2048 .f32) (v1 : Vec Ideal S256x2048 .bf16) (v2 : Vec Ideal S2048x2048 .bf16)
    (v6 : Vec Ideal S1x2048 .f32) (r : Fin 256) (l : Fin 2048) :
    k0_pay1 (F := Ideal) v0 v1 v2 v6 (ix2 r l)
      = cell (fun k => v0 (ix2 r k)) (fun k => v1 (ix2 r k)) (fun a b => v2 (ix2 a b))
          (fun k => v6 (ix2 0 k)) l := by
  unfold cell row
  pointwise [k0_pay1]

variable (m : (ℓ : Loc nD τ sig) → Buf (Elt Ideal) ℓ) (ρ : Dev nD → PrngReg)

theorem hz : (![0, 0] : Fin 2 → Nat) = fun _ => 0 := funext fun a => by fin_cases a <;> rfl

/-! ## Where the windows' blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

theorem lt_rows (t : Fin cfg0.N) (r : Fin 256) : t.val * 256 + r.val < 24576 := by
  have h : t.val < 96 := t.isLt
  have := r.isLt
  omega

theorem emb0 (t : Fin cfg0.N) (r : Fin 256) (l : Fin 2048) :
    ((cfg0.win 0).blk t).view.emb (ix2 r l) = ix2 ⟨t.val * 256 + r.val, lt_rows t r⟩ l := by
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 2048 + 1 * l.val = l.val; omega

theorem emb1 (t : Fin cfg0.N) (r : Fin 256) (l : Fin 2048) :
    ((cfg0.win 1).blk t).view.emb (ix2 r l) = ix2 ⟨t.val * 256 + r.val, lt_rows t r⟩ l := by
  obtain ⟨e0, e1⟩ := idx1 t
  funext a; apply Fin.ext
  match a with
  | ⟨0, _⟩ => show win0_1.index t (0 : Fin 2) * 256 + 1 * r.val = t.val * 256 + r.val; omega
  | ⟨1, _⟩ => show win0_1.index t (1 : Fin 2) * 2048 + 1 * l.val = l.val; omega

theorem emb2 (t : Fin cfg0.N) (r : Fin 2048) (l : Fin 2048) :
    ((cfg0.win 2).blk t).view.emb (ix2 r l) = ix2 r l := by
  obtain ⟨e0, e1⟩ := idx2 t
  funext a; apply Fin.ext
  match a with
  | ⟨0, _⟩ => show win0_2.index t (0 : Fin 2) * 2048 + 1 * r.val = r.val; omega
  | ⟨1, _⟩ => show win0_2.index t (1 : Fin 2) * 2048 + 1 * l.val = l.val; omega

theorem emb3 (t : Fin cfg0.N) (r : Fin 1) (l : Fin 2048) :
    ((cfg0.win 3).blk t).view.emb (ix2 r l) = ix2 r l := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 2048 + 1 * l.val = l.val; omega

theorem emb4 (t : Fin cfg0.N) (r : Fin 256) (l : Fin 2048) :
    ((cfg0.win 4).blk t).view.emb (ix2 r l) = ix2 ⟨t.val * 256 + r.val, lt_rows t r⟩ l := by
  obtain ⟨e0, e1⟩ := idx4 t
  funext a; apply Fin.ext
  match a with
  | ⟨0, _⟩ => show win0_4.index t (0 : Fin 2) * 256 + 1 * r.val = t.val * 256 + r.val; omega
  | ⟨1, _⟩ => show win0_4.index t (1 : Fin 2) * 2048 + 1 * l.val = l.val; omega

/-! ## The arrays as the region finds them -/

/-- The weights rounded on the host: at ideal values the weights themselves. -/
theorem V_weights (c : Dev nD) (a b : Fin 2048) :
    (V m c main_v0 : S2048x2048.Idx → EReal) (ix2 a b)
      = (m ((c : Thread nD τ).loc main_arg2) : S2048x2048.Idx → EReal) (ix2 a b) := by
  have h : V m c main_v0 = (truncf .bf16 (m ((c : Thread nD τ).loc main_arg2) : FVec Ideal S2048x2048 .f32)
      bitsLt_bf16_f32 : FVec Ideal S2048x2048 .bf16) := by
    show StableHlo.after hostOps0 (fun b => m (c, b)) (Proc.devRef .tc main_v0) = _
    after_results
  rw [h]; rfl

/-- The norm's weight as a row. -/
theorem V_norm (c : Dev nD) (b : Fin 2048) :
    (V m c main_v1 : S1x2048.Idx → EReal) (ix2 0 b)
      = (m ((c : Thread nD τ).loc main_arg3) : S2048.Idx → EReal) (ix1 b) := by
  have h : V m c main_v1 = (shapeCast S1x2048 (m ((c : Thread nD τ).loc main_arg3) : FVec Ideal S2048 .f32)
      shapeCasts_S2048_S1x2048 : FVec Ideal S1x2048 .f32) := by
    show StableHlo.after hostOps0 (fun b => m (c, b)) (Proc.devRef .tc main_v1) = _
    after_results
    rfl
  rw [h]; pointwise

/-! ## The result array -/

/-- What the result array is shown to hold, from the argument arrays. -/
def G (x : S24576x2048.Idx → EReal) (mg : S24576x2048.Idx → EReal) (w : S2048x2048.Idx → EReal) (g : S2048.Idx → EReal) :
    S24576x2048.Idx → EReal := fun i =>
  cell (fun k => x (ix2 (i 0) k)) (fun k => mg (ix2 (i 0) k)) (fun a b => w (ix2 a b)) (fun k => g (ix1 k)) (i 1)

/-- The result array's contents at the arguments in memory. -/
def val (c : Dev nD) : Buf (Elt Ideal) ((c : Thread nD τ).loc main_v2) :=
  G (m ((c : Thread nD τ).loc main_arg0)) (m ((c : Thread nD τ).loc main_arg1)) (m ((c : Thread nD τ).loc main_arg2))
    (m ((c : Thread nD τ).loc main_arg3))

/-- What a point writes back is its block of `val`. -/
theorem flushed_eq (c : Dev nD) (t : Fin cfg0.N) :
    (dats m 0 c).flushed 4 t = ((cfg0.win 4).blk t).view.read (Elt Ideal) (val m c) := by
  rw [Value.flushed4]
  unfold out0_4
  rw [View.canon_unit_zero hz, View.ld_unit_zero hz, View.ld_unit_zero hz, View.ld_unit_zero hz, View.ld_unit_zero hz]
  funext j
  obtain ⟨r, l, rfl⟩ : ∃ (r : Fin 256) (l : Fin 2048), j = ix2 r l := ⟨j 0, j 1, eq_ix2 j⟩
  show k0_pay1 (F := Ideal) (iblk m c 0 t) (iblk m c 1 t) (iblk m c 2 t) (iblk m c 3 t) (ix2 r l)
    = val m c (((cfg0.win 4).blk t).view.emb (ix2 r l))
  rw [emb4]
  refine (pay_apply _ _ _ _ r l).trans ?_
  have h0 (k : Fin 2048) : (iblk m c 0 t : S256x2048.Idx → EReal) (ix2 r k)
      = (m ((c : Thread nD τ).loc main_arg0) : S24576x2048.Idx → EReal) (ix2 ⟨t.val * 256 + r.val, lt_rows t r⟩ k) := by
    show V m c main_arg0 (((cfg0.win 0).blk t).view.emb (ix2 r k)) = _
    rw [emb0, V_main_arg0]
  have h1 (k : Fin 2048) : (iblk m c 1 t : S256x2048.Idx → EReal) (ix2 r k)
      = (m ((c : Thread nD τ).loc main_arg1) : S24576x2048.Idx → EReal) (ix2 ⟨t.val * 256 + r.val, lt_rows t r⟩ k) := by
    show V m c main_arg1 (((cfg0.win 1).blk t).view.emb (ix2 r k)) = _
    rw [emb1, V_main_arg1]
  have h2 (a b : Fin 2048) : (iblk m c 2 t : S2048x2048.Idx → EReal) (ix2 a b)
      = (m ((c : Thread nD τ).loc main_arg2) : S2048x2048.Idx → EReal) (ix2 a b) := by
    show V m c main_v0 (((cfg0.win 2).blk t).view.emb (ix2 a b)) = _
    rw [emb2]; exact V_weights m c a b
  have h3 (b : Fin 2048) : (iblk m c 3 t : S1x2048.Idx → EReal) (ix2 0 b)
      = (m ((c : Thread nD τ).loc main_arg3) : S2048.Idx → EReal) (ix1 b) := by
    show V m c main_v1 (((cfg0.win 3).blk t).view.emb (ix2 0 b)) = _
    rw [emb3]; exact V_norm m c b
  show cell (fun k => (iblk m c 0 t : S256x2048.Idx → EReal) (ix2 r k))
      (fun k => (iblk m c 1 t : S256x2048.Idx → EReal) (ix2 r k))
      (fun a b => (iblk m c 2 t : S2048x2048.Idx → EReal) (ix2 a b))
      (fun k => (iblk m c 3 t : S1x2048.Idx → EReal) (ix2 0 k)) l = _
  simp only [h0, h1, h2, h3]
  rfl

/-- Every index of the result array is in the block of its row. -/
theorem cover (i : S24576x2048.Idx) :
    ∃ t : Fin cfg0.N, (cfg0.win 4).flush t = true ∧ i ∈ ((cfg0.win 4).blk t).view.set := by
  have h0 : (i 0).val < 24576 := (i 0).isLt
  obtain ⟨t, ht⟩ : ∃ t : Fin cfg0.N, t.val = (i 0).val / 256 :=
    ⟨⟨(i 0).val / 256, by show (i 0).val / 256 < 96; omega⟩, rfl⟩
  refine ⟨t, flush0_4 _, ?_⟩
  have e : ((cfg0.win 4).blk t).view.emb (ix2 (⟨(i 0).val % 256, Nat.mod_lt _ (by decide)⟩ : Fin 256) (i 1 : Fin 2048)) = i := by
    refine (emb4 t _ _).trans (funext fun a => ?_)
    match a with
    | ⟨0, _⟩ => exact Fin.ext (by show t.val * 256 + (i 0).val % 256 = (i 0).val; omega)
    | ⟨1, _⟩ => rfl
  have h := ((cfg0.win 4).blk t).view.emb_mem_set
    (ix2 (⟨(i 0).val % 256, Nat.mod_lt _ (by decide)⟩ : Fin 256) (i 1 : Fin 2048))
  rwa [e] at h

/-- The result array after the run. -/
theorem final (c : Dev nD) : (dats m 0 c).arrAt 4 cfg0.N = val m c :=
  (dats m 0 c).arrAt_eq_of_cover 4 (val m c) (fun t _ => flushed_eq m c t) cover

/-- The run, read: the result array at `val`, the arguments unchanged. -/
theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.OutIdeal.RefValue

namespace Cert.OutRefIdeal.RefValue

open Cert.OutRefIdeal Cert.OutRefIdeal.Gen

/-- The reference's expression is the same function of the arguments. -/
theorem ref_eq (x : FVec Ideal S24576x2048 .f32) (mg : FVec Ideal S24576x2048 .bf16) (w : FVec Ideal S2048x2048 .f32)
    (g : FVec Ideal S2048 .f32) :
    mulf (mulf (addf x (Host.dotGeneral dot_S24576x2048_S2048x2048_S24576x2048_1_0_0_1_n_n none (extf .f32 mg bitsLt_bf16_f32) w)) (broadcastInDim S24576x2048 ![0, 1] bcast_S24576x1_S24576x2048_0_1 (Host.rsqrt (addf (Host.divf (broadcastInDim S24576x1 ![0] bcast_S24576_S24576x1_0 (Host.reduceAdd (mulf (addf x (Host.dotGeneral dot_S24576x2048_S2048x2048_S24576x2048_1_0_0_1_n_n none (extf .f32 mg bitsLt_bf16_f32) w)) (addf x (Host.dotGeneral dot_S24576x2048_S2048x2048_S24576x2048_1_0_0_1_n_n none (extf .f32 mg bitsLt_bf16_f32) w))) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))
      = Cert.OutIdeal.RefValue.G x mg w g := by
  funext j
  obtain ⟨r, l, rfl⟩ : ∃ (r : Fin 24576) (l : Fin 2048), j = ix2 r l := ⟨j 0, j 1, eq_ix2 j⟩
  unfold Cert.OutIdeal.RefValue.G Cert.OutIdeal.RefValue.cell Cert.OutIdeal.RefValue.row
  pointwise

end Cert.OutRefIdeal.RefValue
-- ==== Proof.RetIdealHand.Base.lean ====
module

public import proofs.«01_k».proof.Proof.Gen.RetIdeal.Skeleton

@[expose] public section

set_option synthInstance.maxSize 4096

noncomputable section

/-! One head of one chunk of the retention sweep, forward and backward, as a program and as values. -/

namespace Cert.RetIdeal.Hand

open Cert.RetIdeal Cert.RetIdeal.Gen Idealize.ShloMosaic Idealize.SL.Sem

variable {F : FTy → Type} [FloatOps F] [Named F]

/-- The arguments of the kernel body: the grid point, the memrefs and their wholeness. -/
structure KArgs where
  i : grid0.Coords
  arg2 : Memref sig .tc .smem S24 .i32
  harg2 : arg2.IsWhole
  arg3 : Memref sig .tc .smem S24 .i32
  harg3 : arg3.IsWhole
  arg4 : Memref sig .tc .vmem S1024x512 .f32
  harg4 : arg4.IsWhole
  arg5 : Memref sig .tc .vmem S1024x512 .f32
  harg5 : arg5.IsWhole
  arg6 : Memref sig .tc .vmem S1024x1024 .f32
  harg6 : arg6.IsWhole
  arg7 : Memref sig .tc .vmem S1024x128 .f32
  harg7 : arg7.IsWhole
  arg8 : Memref sig .tc .vmem S1024x128 .f32
  harg8 : arg8.IsWhole
  arg9 : Memref sig .tc .vmem S4x128x128 .f32
  harg9 : arg9.IsWhole
  arg10 : Memref sig .tc .vmem S4x4x128x128 .f32
  harg10 : arg10.IsWhole
  arg11 : Memref sig .tc .vmem S1x1024x1024 .bf16
  harg11 : arg11.IsWhole
  arg12 : Memref sig .tc .vmem S4x128x256 .f32
  harg12 : arg12.IsWhole

/-- A program of the body. -/
abbrev KProg (F : FTy → Type) [FloatOps F] (α : Type) := Prog (TpuEff nD τ sig (Elt F) Λ₀ .tc) α

/-- A function of the body's arguments, at these. -/
abbrev KArgs.of {α : Type 1} (A : KArgs) (f : (i : grid0.Coords) → (arg2 : Memref sig .tc .smem S24 .i32) → (harg2 : arg2.IsWhole) → (arg3 : Memref sig .tc .smem S24 .i32) → (harg3 : arg3.IsWhole) → (arg4 : Memref sig .tc .vmem S1024x512 .f32) → (harg4 : arg4.IsWhole) → (arg5 : Memref sig .tc .vmem S1024x512 .f32) → (harg5 : arg5.IsWhole) → (arg6 : Memref sig .tc .vmem S1024x1024 .f32) → (harg6 : arg6.IsWhole) → (arg7 : Memref sig .tc .vmem S1024x128 .f32) → (harg7 : arg7.IsWhole) → (arg8 : Memref sig .tc .vmem S1024x128 .f32) → (harg8 : arg8.IsWhole) → (arg9 : Memref sig .tc .vmem S4x128x128 .f32) → (harg9 : arg9.IsWhole) → (arg10 : Memref sig .tc .vmem S4x4x128x128 .f32) → (harg10 : arg10.IsWhole) → (arg11 : Memref sig .tc .vmem S1x1024x1024 .bf16) → (harg11 : arg11.IsWhole) → (arg12 : Memref sig .tc .vmem S4x128x256 .f32) → (harg12 : arg12.IsWhole) → α) : α :=
  f A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12

/-- The decay of one chunk of head `h`. -/
def gOf : ℕ → F .f32
  | 0 => Named.named κ "g0" 0x3C8CC36A#32
  | 1 => Named.named κ "g1" 0x3E08698E#32
  | 2 => Named.named κ "g2" 0x3EBB9DB9#32
  | _ => Named.named κ "g3" 0x3F1B1EB1#32

theorem inbQ {c h : ℕ} (hc : c < 8) (hh : h < 4) : ∀ d, (![128 * c, 128 * h] : Fin 2 → ℕ) d + S128x128.size d ≤ S1024x512.size d := by
  intro d; fin_cases d
  · show 128 * c + 128 ≤ 1024; omega
  · show 128 * h + 128 ≤ 512; omega
theorem inbC {c : ℕ} (hc : c < 8) : ∀ d, (![128 * c, 0] : Fin 2 → ℕ) d + S128x128.size d ≤ S1024x128.size d := by
  intro d; fin_cases d
  · show 128 * c + 128 ≤ 1024; omega
  · show 0 + 128 ≤ 128; omega
theorem inbV {c h : ℕ} (hc : c < 8) (hh : h < 4) : ∀ d, (![128 * c, 256 * h] : Fin 2 → ℕ) d + S128x256.size d ≤ S1024x1024.size d := by
  intro d; fin_cases d
  · show 128 * c + 128 ≤ 1024; omega
  · show 256 * h + 256 ≤ 1024; omega
theorem inbS {h : ℕ} (hh : h < 4) : ∀ d, (![h, 0, 0] : Fin 3 → ℕ) d + S1x128x256.size d ≤ S4x128x256.size d := by
  intro d; fin_cases d
  · show h + 1 ≤ 4; omega
  · show 0 + 128 ≤ 128; omega
  · show 0 + 256 ≤ 256; omega
theorem inbD {h : ℕ} (hh : h < 4) : ∀ d, (![h, 0, 0] : Fin 3 → ℕ) d + S1x128x128.size d ≤ S4x128x128.size d := by
  intro d; fin_cases d
  · show h + 1 ≤ 4; omega
  · show 0 + 128 ≤ 128; omega
  · show 0 + 128 ≤ 128; omega
theorem inbR {h r : ℕ} (hh : h < 4) (hr : r < 4) : ∀ d, (![h, r, 0, 0] : Fin 4 → ℕ) d + S1x1x128x128.size d ≤ S4x4x128x128.size d := by
  intro d; fin_cases d
  · show h + 1 ≤ 4; omega
  · show r + 1 ≤ 4; omega
  · show 0 + 128 ≤ 128; omega
  · show 0 + 128 ≤ 128; omega
theorem inbO {c h : ℕ} (hc : c < 8) (hh : h < 4) : ∀ d, (![0, 128 * c, 256 * h] : Fin 3 → ℕ) d + S1x128x256.size d ≤ S1x1024x1024.size d := by
  intro d; fin_cases d
  · show 0 + 1 ≤ 1; omega
  · show 128 * c + 128 ≤ 1024; omega
  · show 256 * h + 256 ≤ 1024; omega
theorem packO {c h : ℕ} (hc : c < 8) (hh : h < 4) :
    (Rect.unit (s := S1x1024x1024) ![0, 128 * c, 256 * h] S1x128x256.size (inbO hc hh)).PackedRows (EltTy.packing .bf16) := by
  have H : ∀ (c : Fin 8) (h : Fin 4), (Rect.unit (s := S1x1024x1024) ![0, 128 * c.val, 256 * h.val] S1x128x256.size (inbO c.isLt h.isLt)).PackedRows (EltTy.packing .bf16) := by decide
  exact H ⟨c, hc⟩ ⟨h, hh⟩

/-- The rotated block: `x·cos + roll(x)·sin`. -/
def rotV (x c s : Vec F S128x128 .f32) : FVec F S128x128 .f32 :=
  addf (mulf x (shapeCast S128x128 c shapeCasts_S128x128_S128x128))
    (mulf (dynamicRotate 1 64#32 none x rotates_S128x128_d1) (shapeCast S128x128 s shapeCasts_S128x128_S128x128))
/-- The rotated and scaled key block. -/
def rotK (x c s : Vec F S128x128 .f32) : FVec F S128x128 .f32 :=
  mulf (rotV x c s) (broadcast S128x128 (Scalar.ofBits .f32 0x3DB504F3#32))
/-- The queries against the state. -/
def crossV (q c s : Vec F S128x128 .f32) (S : Vec F S1x128x256 .f32) (r : Vec F S1x1x128x128 .f32) : FVec F S128x256 .f32 :=
  matmul dot_S128x128_S128x256_S128x256_1_0_0_1_n_n none
    (truncf .bf16 (mulf (rotV q c s) (shapeCast S128x128 r shapeCasts_S1x1x128x128_S128x128)) bitsLt_bf16_f32)
    (truncf .bf16 (shapeCast S128x256 S shapeCasts_S1x128x256_S128x256) bitsLt_bf16_f32)
    (constant S128x256 .f32 0x00000000#32)
/-- The masked products of the chunk with itself. -/
def intraV (q qc qs k kc ks : Vec F S128x128 .f32) (v : Vec F S128x256 .f32) (dm : Vec F S1x128x128 .f32) : FVec F S128x256 .f32 :=
  matmul dot_S128x128_S128x256_S128x256_1_0_0_1_n_n none
    (truncf .bf16 (mulf (matmul dot_S128x128_S128x128_S128x128_1_1_0_0_n_n none
        (truncf .bf16 (rotV q qc qs) bitsLt_bf16_f32) (truncf .bf16 (rotK k kc ks) bitsLt_bf16_f32)
        (constant S128x128 .f32 0x00000000#32)) (shapeCast S128x128 dm shapeCasts_S1x128x128_S128x128)) bitsLt_bf16_f32)
    (truncf .bf16 v bitsLt_bf16_f32) (constant S128x256 .f32 0x00000000#32)
/-- The stored forward block. -/
def outF (q qc qs k kc ks : Vec F S128x128 .f32) (v : Vec F S128x256 .f32) (S : Vec F S1x128x256 .f32) (dm : Vec F S1x128x128 .f32) (r : Vec F S1x1x128x128 .f32) : FVec F S1x128x256 .bf16 :=
  shapeCast S1x128x256 (truncf .bf16 (addf (intraV q qc qs k kc ks v dm) (crossV q qc qs S r)) bitsLt_bf16_f32) shapeCasts_S128x256_S1x128x256
/-- The stored backward block. -/
def outB (q qc qs : Vec F S128x128 .f32) (S : Vec F S1x128x256 .f32) (r : Vec F S1x1x128x128 .f32) : FVec F S1x128x256 .bf16 :=
  shapeCast S1x128x256 (truncf .bf16 (crossV q qc qs S r) bitsLt_bf16_f32) shapeCasts_S128x256_S1x128x256
/-- The next state of a head. -/
def nextV (h : ℕ) (k kc ks : Vec F S128x128 .f32) (v : Vec F S128x256 .f32) (S : Vec F S1x128x256 .f32) (r : Vec F S1x1x128x128 .f32) : FVec F S1x128x256 .f32 :=
  shapeCast S1x128x256 (addf (mulf (broadcast S128x256 (gOf (F := F) h)) (shapeCast S128x256 S shapeCasts_S1x128x256_S128x256))
    (matmul dot_S128x128_S128x256_S128x256_0_0_1_1_n_n none
      (truncf .bf16 (mulf (rotK k kc ks) (shapeCast S128x128 r shapeCasts_S1x1x128x128_S128x128)) bitsLt_bf16_f32)
      (truncf .bf16 v bitsLt_bf16_f32) (constant S128x256 .f32 0x00000000#32))) shapeCasts_S128x256_S1x128x256

/-- One head of one chunk, forward: its reads, then the store of the block and of the state. -/
def headF (A : KArgs) {c h : ℕ} (hc : c < 8) (hh : h < 4) : KProg F PUnit := do
  let q : Vec F S128x128 .f32 ← Prog.lift (.load A.arg4 (Rect.unit (s := S1024x512) ![128 * c, 128 * h] S128x128.size (inbQ hc hh)).toLoadRect (View.loadsAt_vmem h_S128x128))
  let qc : Vec F S128x128 .f32 ← Prog.lift (.load A.arg7 (Rect.unit (s := S1024x128) ![128 * c, 0] S128x128.size (inbC hc)).toLoadRect (View.loadsAt_vmem h_S128x128))
  let qs : Vec F S128x128 .f32 ← Prog.lift (.load A.arg8 (Rect.unit (s := S1024x128) ![128 * c, 0] S128x128.size (inbC hc)).toLoadRect (View.loadsAt_vmem h_S128x128))
  let k : Vec F S128x128 .f32 ← Prog.lift (.load A.arg5 (Rect.unit (s := S1024x512) ![128 * c, 128 * h] S128x128.size (inbQ hc hh)).toLoadRect (View.loadsAt_vmem h_S128x128))
  let kc : Vec F S128x128 .f32 ← Prog.lift (.load A.arg7 (Rect.unit (s := S1024x128) ![128 * c, 0] S128x128.size (inbC hc)).toLoadRect (View.loadsAt_vmem h_S128x128))
  let ks : Vec F S128x128 .f32 ← Prog.lift (.load A.arg8 (Rect.unit (s := S1024x128) ![128 * c, 0] S128x128.size (inbC hc)).toLoadRect (View.loadsAt_vmem h_S128x128))
  let v : Vec F S128x256 .f32 ← Prog.lift (.load A.arg6 (Rect.unit (s := S1024x1024) ![128 * c, 256 * h] S128x256.size (inbV hc hh)).toLoadRect (View.loadsAt_vmem h_S128x256))
  let S : Vec F S1x128x256 .f32 ← Prog.lift (.load A.arg12 (Rect.unit (s := S4x128x256) ![h, 0, 0] S1x128x256.size (inbS hh)).toLoadRect (View.loadsAt_vmem h_S1x128x256))
  let dm : Vec F S1x128x128 .f32 ← Prog.lift (.load A.arg9 (Rect.unit (s := S4x128x128) ![h, 0, 0] S1x128x128.size (inbD hh)).toLoadRect (View.loadsAt_vmem h_S1x128x128))
  let r0 : Vec F S1x1x128x128 .f32 ← Prog.lift (.load A.arg10 (Rect.unit (s := S4x4x128x128) ![h, 0, 0, 0] S1x1x128x128.size (inbR hh (by decide))).toLoadRect (View.loadsAt_vmem h_S1x1x128x128))
  let r2 : Vec F S1x1x128x128 .f32 ← Prog.lift (.load A.arg10 (Rect.unit (s := S4x4x128x128) ![h, 2, 0, 0] S1x1x128x128.size (inbR hh (by decide))).toLoadRect (View.loadsAt_vmem h_S1x1x128x128))
  let _o : Vec F S1x128x256 .bf16 ← Prog.lift (.load A.arg11 (Rect.unit (s := S1x1024x1024) ![0, 128 * c, 256 * h] S1x128x256.size (inbO hc hh)).toLoadRect (View.loadsAt_vmem h_S1x128x256))
  Prog.lift (.store A.arg11 (Rect.unit (s := S1x1024x1024) ![0, 128 * c, 256 * h] S1x128x256.size (inbO hc hh)) (outF q qc qs k kc ks v S dm r0) Finset.univ (View.stores_vmem h_S1x128x256 (A.harg11.storeExact_slice rfl _ (packO hc hh)) (fun _ => rfl)) (.inl rfl))
  let _s : Vec F S1x128x256 .f32 ← Prog.lift (.load A.arg12 (Rect.unit (s := S4x128x256) ![h, 0, 0] S1x128x256.size (inbS hh)).toLoadRect (View.loadsAt_vmem h_S1x128x256))
  Prog.lift (.store A.arg12 (Rect.unit (s := S4x128x256) ![h, 0, 0] S1x128x256.size (inbS hh)) (nextV h k kc ks v S r2) Finset.univ (View.stores_vmem_bits_univ h_S1x128x256 rfl) (.inl rfl))

/-- One head of one chunk, backward. -/
def headB (A : KArgs) {c h : ℕ} (hc : c < 8) (hh : h < 4) : KProg F PUnit := do
  let q : Vec F S128x128 .f32 ← Prog.lift (.load A.arg4 (Rect.unit (s := S1024x512) ![128 * c, 128 * h] S128x128.size (inbQ hc hh)).toLoadRect (View.loadsAt_vmem h_S128x128))
  let qc : Vec F S128x128 .f32 ← Prog.lift (.load A.arg7 (Rect.unit (s := S1024x128) ![128 * c, 0] S128x128.size (inbC hc)).toLoadRect (View.loadsAt_vmem h_S128x128))
  let qs : Vec F S128x128 .f32 ← Prog.lift (.load A.arg8 (Rect.unit (s := S1024x128) ![128 * c, 0] S128x128.size (inbC hc)).toLoadRect (View.loadsAt_vmem h_S128x128))
  let k : Vec F S128x128 .f32 ← Prog.lift (.load A.arg5 (Rect.unit (s := S1024x512) ![128 * c, 128 * h] S128x128.size (inbQ hc hh)).toLoadRect (View.loadsAt_vmem h_S128x128))
  let kc : Vec F S128x128 .f32 ← Prog.lift (.load A.arg7 (Rect.unit (s := S1024x128) ![128 * c, 0] S128x128.size (inbC hc)).toLoadRect (View.loadsAt_vmem h_S128x128))
  let ks : Vec F S128x128 .f32 ← Prog.lift (.load A.arg8 (Rect.unit (s := S1024x128) ![128 * c, 0] S128x128.size (inbC hc)).toLoadRect (View.loadsAt_vmem h_S128x128))
  let v : Vec F S128x256 .f32 ← Prog.lift (.load A.arg6 (Rect.unit (s := S1024x1024) ![128 * c, 256 * h] S128x256.size (inbV hc hh)).toLoadRect (View.loadsAt_vmem h_S128x256))
  let S : Vec F S1x128x256 .f32 ← Prog.lift (.load A.arg12 (Rect.unit (s := S4x128x256) ![h, 0, 0] S1x128x256.size (inbS hh)).toLoadRect (View.loadsAt_vmem h_S1x128x256))
  let r1 : Vec F S1x1x128x128 .f32 ← Prog.lift (.load A.arg10 (Rect.unit (s := S4x4x128x128) ![h, 1, 0, 0] S1x1x128x128.size (inbR hh (by decide))).toLoadRect (View.loadsAt_vmem h_S1x1x128x128))
  let r3 : Vec F S1x1x128x128 .f32 ← Prog.lift (.load A.arg10 (Rect.unit (s := S4x4x128x128) ![h, 3, 0, 0] S1x1x128x128.size (inbR hh (by decide))).toLoadRect (View.loadsAt_vmem h_S1x1x128x128))
  let _o : Vec F S1x128x256 .bf16 ← Prog.lift (.load A.arg11 (Rect.unit (s := S1x1024x1024) ![0, 128 * c, 256 * h] S1x128x256.size (inbO hc hh)).toLoadRect (View.loadsAt_vmem h_S1x128x256))
  Prog.lift (.store A.arg11 (Rect.unit (s := S1x1024x1024) ![0, 128 * c, 256 * h] S1x128x256.size (inbO hc hh)) (outB q qc qs S r1) Finset.univ (View.stores_vmem h_S1x128x256 (A.harg11.storeExact_slice rfl _ (packO hc hh)) (fun _ => rfl)) (.inl rfl))
  let _s : Vec F S1x128x256 .f32 ← Prog.lift (.load A.arg12 (Rect.unit (s := S4x128x256) ![h, 0, 0] S1x128x256.size (inbS hh)).toLoadRect (View.loadsAt_vmem h_S1x128x256))
  Prog.lift (.store A.arg12 (Rect.unit (s := S4x128x256) ![h, 0, 0] S1x128x256.size (inbS hh)) (nextV h k kc ks v S r3) Finset.univ (View.stores_vmem_bits_univ h_S1x128x256 rfl) (.inl rfl))

/-- The heads from the `n`-th on, `m` of them, chunks ascending. -/
def headsF (A : KArgs) : ℕ → ℕ → Prog (TpuEff nD τ sig (Elt F) Λ₀ .tc) PUnit
  | 0, _ => pure ⟨⟩
  | m + 1, n => do
    (if hn : n < 32 then headF A (c := n / 4) (h := n % 4) (by omega) (by omega) else pure ⟨⟩)
    headsF A m (n + 1)

/-- The heads from the `n`-th on, `m` of them, chunks descending. -/
def headsB (A : KArgs) : ℕ → ℕ → Prog (TpuEff nD τ sig (Elt F) Λ₀ .tc) PUnit
  | 0, _ => pure ⟨⟩
  | m + 1, n => do
    (if hn : n < 32 then headB A (c := 7 - n / 4) (h := n % 4) (by omega) (by omega) else pure ⟨⟩)
    headsB A m (n + 1)

end Cert.RetIdeal.Hand
-- ==== Proof.RetIdealHand.StepsF.lean ====
module

public import proofs.«01_k».proof.Proof.RetIdealHand.Base

@[expose] public section

set_option synthInstance.maxSize 4096

noncomputable section

/-! The printed body, cut at the end of each head, is a run of the heads. -/

namespace Cert.RetIdeal.Hand

open Cert.RetIdeal Cert.RetIdeal.Gen Idealize.ShloMosaic Idealize.SL.Sem

variable {F : FTy → Type} [FloatOps F] [Named F]

/-- What the body returns. -/
abbrev FRes (F : FTy → Type) [FloatOps F] : Type := Σ' (v1740 : FVec F S128x256 .f32), FVec F S128x256 .f32

/-- The statements after the last part. -/
def ftail (A : KArgs) (v1714 : FVec F S128x256 .bf16) (v1716 : FVec F S128x256 .f32) (v1734 : FVec F S128x128 .f32) (v1735 : FVec F S128x256 .bf16) : KProg F (FRes F) := do
  Prog.lift (.store A.arg11 (Rect.unit (s := S1x1024x1024) ![0, 896, 768] S1x128x256.size inb_S1x1024x1024_S1x128x256_0_896_768) (k0_pay252 v1735) Finset.univ (View.stores_vmem h_S1x128x256 (A.harg11.storeExact_slice rfl _ packedbf16_S1x1024x1024_S1x128x256_0_896_768) (fun _ => rfl)) (.inl rfl))
  pure ⟨k0_pay253 v1716, k0_pay254 v1714 v1734⟩

def fC52 (A : KArgs) (v1701 : FVec F S128x128 .f32) (v1702 : Vec F S128x128 .f32) (v1703 : Vec F S128x128 .f32) : KProg F (FRes F) := do
  let ⟨v1714, v1716, v1734, v1735⟩ ← A.of k0_part52 v1701 v1702 v1703
  ftail A v1714 v1716 v1734 v1735

def fC51 (A : KArgs) (v1647 : FVec F S128x128 .f32) (v1658 : FVec F S128x128 .f32) (v1660 : FVec F S128x256 .bf16) (v1662 : FVec F S128x256 .f32) (v1670 : FVec F S128x256 .f32) : KProg F (FRes F) := do
  let ⟨v1701, v1702, v1703⟩ ← A.of k0_part51 v1647 v1658 v1660 v1662 v1670
  fC52 A v1701 v1702 v1703

def fC50 (A : KArgs) : KProg F (FRes F) := do
  let ⟨v1647, v1658, v1660, v1662, v1670⟩ ← A.of k0_part50
  fC51 A v1647 v1658 v1660 v1662 v1670

def fC49 (A : KArgs) (v1593 : FVec F S128x128 .f32) (v1604 : FVec F S128x128 .f32) (v1605 : Vec F S128x256 .f32) : KProg F (FRes F) := do
  A.of k0_part49 v1593 v1604 v1605
  fC50 A

def fC48 (A : KArgs) (v1552 : FVec F S128x256 .bf16) (v1554 : FVec F S128x256 .f32) (v1569 : FVec F S128x256 .f32) (v1572 : FVec F S128x128 .f32) : KProg F (FRes F) := do
  let ⟨v1593, v1604, v1605⟩ ← A.of k0_part48 v1552 v1554 v1569 v1572
  fC49 A v1593 v1604 v1605

def fC47 (A : KArgs) (v1539 : FVec F S128x128 .f32) : KProg F (FRes F) := do
  let ⟨v1552, v1554, v1569, v1572⟩ ← A.of k0_part47 v1539
  fC48 A v1552 v1554 v1569 v1572

def fC46 (A : KArgs) (v1485 : FVec F S128x128 .f32) (v1496 : FVec F S128x128 .f32) (v1498 : FVec F S128x256 .bf16) (v1500 : FVec F S128x256 .f32) (v1506 : FVec F S128x128 .f32) : KProg F (FRes F) := do
  let v1539 : FVec F S128x128 .f32 ← A.of k0_part46 v1485 v1496 v1498 v1500 v1506
  fC47 A v1539

def fC45 (A : KArgs) (v1473 : FVec F S128x256 .f32) : KProg F (FRes F) := do
  let ⟨v1485, v1496, v1498, v1500, v1506⟩ ← A.of k0_part45 v1473
  fC46 A v1485 v1496 v1498 v1500 v1506

def fC44 (A : KArgs) (v1431 : FVec F S128x128 .f32) (v1440 : FVec F S128x128 .f32) : KProg F (FRes F) := do
  let v1473 : FVec F S128x256 .f32 ← A.of k0_part44 v1431 v1440
  fC45 A v1473

def fC43 (A : KArgs) (v1388 : FVec F S128x128 .f32) (v1390 : FVec F S128x256 .bf16) (v1392 : FVec F S128x256 .f32) (v1407 : FVec F S128x256 .f32) : KProg F (FRes F) := do
  let ⟨v1431, v1440⟩ ← A.of k0_part43 v1388 v1390 v1392 v1407
  fC44 A v1431 v1440

def fC42 (A : KArgs) (v1372 : FVec F S128x128 .f32) (v1373 : FVec F S128x128 .f32) : KProg F (FRes F) := do
  let ⟨v1388, v1390, v1392, v1407⟩ ← A.of k0_part42 v1372 v1373
  fC43 A v1388 v1390 v1392 v1407

def fC41 (A : KArgs) (v1323 : FVec F S128x128 .f32) (v1334 : FVec F S128x128 .f32) (v1336 : FVec F S128x256 .bf16) (v1338 : FVec F S128x256 .f32) (v1341 : FVec F S128x128 .f32) : KProg F (FRes F) := do
  let ⟨v1372, v1373⟩ ← A.of k0_part41 v1323 v1334 v1336 v1338 v1341
  fC42 A v1372 v1373

def fC40 (A : KArgs) (v1282 : FVec F S128x256 .bf16) (v1284 : FVec F S128x256 .f32) (v1302 : FVec F S128x128 .f32) (v1307 : FVec F S128x256 .f32) : KProg F (FRes F) := do
  let ⟨v1323, v1334, v1336, v1338, v1341⟩ ← A.of k0_part40 v1282 v1284 v1302 v1307
  fC41 A v1323 v1334 v1336 v1338 v1341

def fC39 (A : KArgs) (v1269 : FVec F S128x128 .f32) (v1273 : FVec F S128x128 .f32) (v1274 : FVec F S128x128 .f32) : KProg F (FRes F) := do
  let ⟨v1282, v1284, v1302, v1307⟩ ← A.of k0_part39 v1269 v1273 v1274
  fC40 A v1282 v1284 v1302 v1307

def fC38 (A : KArgs) (v1226 : FVec F S128x128 .f32) (v1228 : FVec F S128x256 .bf16) (v1230 : FVec F S128x256 .f32) (v1238 : FVec F S128x256 .f32) (v1241 : FVec F S128x128 .f32) : KProg F (FRes F) := do
  let ⟨v1269, v1273, v1274⟩ ← A.of k0_part38 v1226 v1228 v1230 v1238 v1241
  fC39 A v1269 v1273 v1274

def fC37 (A : KArgs) (v1207 : Vec F S128x128 .f32) : KProg F (FRes F) := do
  let ⟨v1226, v1228, v1230, v1238, v1241⟩ ← A.of k0_part37 v1207
  fC38 A v1226 v1228 v1230 v1238 v1241

def fC36 (A : KArgs) (v1161 : FVec F S128x128 .f32) (v1172 : FVec F S128x128 .f32) (v1174 : FVec F S128x256 .bf16) : KProg F (FRes F) := do
  let v1207 : Vec F S128x128 .f32 ← A.of k0_part36 v1161 v1172 v1174
  fC37 A v1207

def fC35 (A : KArgs) (v1120 : FVec F S128x256 .bf16) (v1122 : FVec F S128x256 .f32) (v1140 : FVec F S128x128 .f32) (v1141 : FVec F S128x256 .bf16) : KProg F (FRes F) := do
  let ⟨v1161, v1172, v1174⟩ ← A.of k0_part35 v1120 v1122 v1140 v1141
  fC36 A v1161 v1172 v1174

def fC34 (A : KArgs) (v1107 : FVec F S128x128 .f32) (v1108 : Vec F S128x128 .f32) : KProg F (FRes F) := do
  let ⟨v1120, v1122, v1140, v1141⟩ ← A.of k0_part34 v1107 v1108
  fC35 A v1120 v1122 v1140 v1141

def fC33 (A : KArgs) (v1053 : FVec F S128x128 .f32) (v1064 : FVec F S128x128 .f32) (v1066 : FVec F S128x256 .bf16) (v1068 : FVec F S128x256 .f32) (v1076 : FVec F S128x256 .f32) : KProg F (FRes F) := do
  let ⟨v1107, v1108⟩ ← A.of k0_part33 v1053 v1064 v1066 v1068 v1076
  fC34 A v1107 v1108

def fC32 (A : KArgs) (v1041 : FVec F S128x256 .f32) : KProg F (FRes F) := do
  let ⟨v1053, v1064, v1066, v1068, v1076⟩ ← A.of k0_part32 v1041
  fC33 A v1053 v1064 v1066 v1068 v1076

def fC31 (A : KArgs) (v999 : FVec F S128x128 .f32) (v1010 : FVec F S128x128 .f32) : KProg F (FRes F) := do
  let v1041 : FVec F S128x256 .f32 ← A.of k0_part31 v999 v1010
  fC32 A v1041

def fC30 (A : KArgs) (v956 : FVec F S128x128 .f32) (v958 : FVec F S128x256 .bf16) (v960 : FVec F S128x256 .f32) (v975 : FVec F S128x256 .f32) (v976 : Vec F S1x1x128x128 .f32) : KProg F (FRes F) := do
  let ⟨v999, v1010⟩ ← A.of k0_part30 v956 v958 v960 v975 v976
  fC31 A v999 v1010

def fC29 (A : KArgs) (v940 : FVec F S128x128 .f32) (v941 : FVec F S128x128 .f32) (v943 : FVec F S128x128 .f32) : KProg F (FRes F) := do
  let ⟨v956, v958, v960, v975, v976⟩ ← A.of k0_part29 v940 v941 v943
  fC30 A v956 v958 v960 v975 v976

def fC28 (A : KArgs) (v891 : FVec F S128x128 .f32) (v902 : FVec F S128x128 .f32) (v904 : FVec F S128x256 .bf16) (v906 : FVec F S128x256 .f32) (v909 : FVec F S128x128 .f32) (v910 : Vec F S1x128x128 .f32) : KProg F (FRes F) := do
  let ⟨v940, v941, v943⟩ ← A.of k0_part28 v891 v902 v904 v906 v909 v910
  fC29 A v940 v941 v943

def fC27 (A : KArgs) (v876 : FVec F S128x256 .f32) (v878 : FVec F S128x256 .f32) : KProg F (FRes F) := do
  let ⟨v891, v902, v904, v906, v909, v910⟩ ← A.of k0_part27 v876 v878
  fC28 A v891 v902 v904 v906 v909 v910

def fC26 (A : KArgs) (v837 : FVec F S128x128 .f32) (v841 : FVec F S128x128 .f32) (v842 : FVec F S128x128 .f32) (v844 : FVec F S128x128 .f32) : KProg F (FRes F) := do
  let ⟨v876, v878⟩ ← A.of k0_part26 v837 v841 v842 v844
  fC27 A v876 v878

def fC25 (A : KArgs) (v794 : FVec F S128x128 .f32) (v796 : FVec F S128x256 .bf16) (v798 : FVec F S128x256 .f32) (v806 : FVec F S128x256 .f32) (v812 : FVec F S128x256 .f32) : KProg F (FRes F) := do
  let ⟨v837, v841, v842, v844⟩ ← A.of k0_part25 v794 v796 v798 v806 v812
  fC26 A v837 v841 v842 v844

def fC24 (A : KArgs) (v775 : Vec F S128x128 .f32) (v778 : FVec F S128x128 .f32) : KProg F (FRes F) := do
  let ⟨v794, v796, v798, v806, v812⟩ ← A.of k0_part24 v775 v778
  fC25 A v794 v796 v798 v806 v812

def fC23 (A : KArgs) (v729 : FVec F S128x128 .f32) (v740 : FVec F S128x128 .f32) (v742 : FVec F S128x256 .bf16) (v744 : FVec F S128x256 .f32) (v745 : FVec F S128x128 .bf16) (v746 : FVec F S128x128 .bf16) : KProg F (FRes F) := do
  let ⟨v775, v778⟩ ← A.of k0_part23 v729 v740 v742 v744 v745 v746
  fC24 A v775 v778

def fC22 (A : KArgs) (v688 : FVec F S128x256 .bf16) (v690 : FVec F S128x256 .f32) (v708 : FVec F S128x128 .f32) : KProg F (FRes F) := do
  let ⟨v729, v740, v742, v744, v745, v746⟩ ← A.of k0_part22 v688 v690 v708
  fC23 A v729 v740 v742 v744 v745 v746

def fC21 (A : KArgs) (v675 : FVec F S128x128 .f32) (v676 : Vec F S128x128 .f32) (v679 : FVec F S128x128 .f32) : KProg F (FRes F) := do
  let ⟨v688, v690, v708⟩ ← A.of k0_part21 v675 v676 v679
  fC22 A v688 v690 v708

def fC20 (A : KArgs) (v621 : FVec F S128x128 .f32) (v632 : FVec F S128x128 .f32) (v634 : FVec F S128x256 .bf16) (v636 : FVec F S128x256 .f32) (v644 : FVec F S128x256 .f32) (v645 : Vec F S1x1x128x128 .f32) : KProg F (FRes F) := do
  let ⟨v675, v676, v679⟩ ← A.of k0_part20 v621 v632 v634 v636 v644 v645
  fC21 A v675 v676 v679

def fC19 (A : KArgs) : KProg F (FRes F) := do
  let ⟨v621, v632, v634, v636, v644, v645⟩ ← A.of k0_part19
  fC20 A v621 v632 v634 v636 v644 v645

def fC18 (A : KArgs) (v567 : FVec F S128x128 .f32) (v578 : FVec F S128x128 .f32) (v580 : FVec F S128x256 .bf16) : KProg F (FRes F) := do
  A.of k0_part18 v567 v578 v580
  fC19 A

def fC17 (A : KArgs) (v526 : FVec F S128x256 .bf16) (v528 : FVec F S128x256 .f32) (v546 : FVec F S128x128 .f32) (v547 : FVec F S128x256 .bf16) : KProg F (FRes F) := do
  let ⟨v567, v578, v580⟩ ← A.of k0_part17 v526 v528 v546 v547
  fC18 A v567 v578 v580

def fC16 (A : KArgs) (v513 : FVec F S128x128 .f32) : KProg F (FRes F) := do
  let ⟨v526, v528, v546, v547⟩ ← A.of k0_part16 v513
  fC17 A v526 v528 v546 v547

def fC15 (A : KArgs) (v459 : FVec F S128x128 .f32) (v470 : FVec F S128x128 .f32) (v472 : FVec F S128x256 .bf16) (v474 : FVec F S128x256 .f32) (v481 : FVec F S128x128 .bf16) (cst_354 : FVec F S128x256 .f32) : KProg F (FRes F) := do
  let v513 : FVec F S128x128 .f32 ← A.of k0_part15 v459 v470 v472 v474 v481 cst_354
  fC16 A v513

def fC14 (A : KArgs) (v447 : FVec F S128x256 .f32) : KProg F (FRes F) := do
  let ⟨v459, v470, v472, v474, v481, cst_354⟩ ← A.of k0_part14 v447
  fC15 A v459 v470 v472 v474 v481 cst_354

def fC13 (A : KArgs) (v405 : FVec F S128x128 .f32) (v414 : FVec F S128x128 .f32) (v415 : FVec F S128x128 .f32) : KProg F (FRes F) := do
  let v447 : FVec F S128x256 .f32 ← A.of k0_part13 v405 v414 v415
  fC14 A v447

def fC12 (A : KArgs) (v362 : FVec F S128x128 .f32) (v364 : FVec F S128x256 .bf16) (v366 : FVec F S128x256 .f32) (v381 : FVec F S128x256 .f32) : KProg F (FRes F) := do
  let ⟨v405, v414, v415⟩ ← A.of k0_part12 v362 v364 v366 v381
  fC13 A v405 v414 v415

def fC11 (A : KArgs) (v346 : FVec F S128x128 .f32) (v347 : FVec F S128x128 .f32) : KProg F (FRes F) := do
  let ⟨v362, v364, v366, v381⟩ ← A.of k0_part11 v346 v347
  fC12 A v362 v364 v366 v381

def fC10 (A : KArgs) (v297 : FVec F S128x128 .f32) (v308 : FVec F S128x128 .f32) (v310 : FVec F S128x256 .bf16) (v312 : FVec F S128x256 .f32) (v315 : FVec F S128x128 .f32) : KProg F (FRes F) := do
  let ⟨v346, v347⟩ ← A.of k0_part10 v297 v308 v310 v312 v315
  fC11 A v346 v347

def fC9 (A : KArgs) (v256 : FVec F S128x256 .bf16) (v282 : FVec F S128x256 .f32) (v283 : FVec F S128x128 .bf16) : KProg F (FRes F) := do
  let ⟨v297, v308, v310, v312, v315⟩ ← A.of k0_part9 v256 v282 v283
  fC10 A v297 v308 v310 v312 v315

def fC8 (A : KArgs) (v243 : FVec F S128x128 .f32) (v247 : FVec F S128x128 .f32) (v248 : FVec F S128x128 .f32) : KProg F (FRes F) := do
  let ⟨v256, v282, v283⟩ ← A.of k0_part8 v243 v247 v248
  fC9 A v256 v282 v283

def fC7 (A : KArgs) (v200 : FVec F S128x128 .f32) (v202 : FVec F S128x256 .bf16) (v204 : FVec F S128x256 .f32) (v212 : FVec F S128x256 .f32) (v216 : FVec F S128x128 .bf16) (v217 : FVec F S128x256 .bf16) : KProg F (FRes F) := do
  let ⟨v243, v247, v248⟩ ← A.of k0_part7 v200 v202 v204 v212 v216 v217
  fC8 A v243 v247 v248

def fC6 (A : KArgs) (v181 : Vec F S128x128 .f32) (v182 : Vec F S128x128 .f32) : KProg F (FRes F) := do
  let ⟨v200, v202, v204, v212, v216, v217⟩ ← A.of k0_part6 v181 v182
  fC7 A v200 v202 v204 v212 v216 v217

def fC5 (A : KArgs) (v135 : FVec F S128x128 .f32) (v146 : FVec F S128x128 .f32) (v148 : FVec F S128x256 .bf16) (v150 : FVec F S128x256 .f32) : KProg F (FRes F) := do
  let ⟨v181, v182⟩ ← A.of k0_part5 v135 v146 v148 v150
  fC6 A v181 v182

def fC4 (A : KArgs) (v94 : FVec F S128x256 .bf16) (v96 : FVec F S128x256 .f32) (v114 : FVec F S128x128 .f32) (v115 : FVec F S128x256 .bf16) : KProg F (FRes F) := do
  let ⟨v135, v146, v148, v150⟩ ← A.of k0_part4 v94 v96 v114 v115
  fC5 A v135 v146 v148 v150

def fC3 (A : KArgs) (v81 : FVec F S128x128 .f32) (v82 : Vec F S128x128 .f32) (v83 : Vec F S128x128 .f32) : KProg F (FRes F) := do
  let ⟨v94, v96, v114, v115⟩ ← A.of k0_part3 v81 v82 v83
  fC4 A v94 v96 v114 v115

def fC2 (A : KArgs) (v27 : FVec F S128x128 .f32) (v38 : FVec F S128x128 .f32) (v40 : FVec F S128x256 .bf16) (v42 : FVec F S128x256 .f32) (v50 : FVec F S128x256 .f32) : KProg F (FRes F) := do
  let ⟨v81, v82, v83⟩ ← A.of k0_part2 v27 v38 v40 v42 v50
  fC3 A v81 v82 v83

def fC1 (A : KArgs) : KProg F (FRes F) := do
  let ⟨v27, v38, v40, v42, v50⟩ ← A.of k0_part1
  fC2 A v27 v38 v40 v42 v50

def fR1 (A : KArgs) : KProg F (FRes F) := do
  let ⟨v81, v82, v83⟩ : Σ' (v81 : FVec F S128x128 .f32) (v82 : Vec F S128x128 .f32), Vec F S128x128 .f32 ← (do
    let v73 : Vec F S128x128 .f32 ← Prog.lift (.load A.arg4 (Rect.unit (s := S1024x512) ![0, 128] S128x128.size inb_S1024x512_S128x128_0_128).toLoadRect (View.loadsAt_vmem h_S128x128))
    let v74 : Vec F S128x128 .f32 ← Prog.lift (.load A.arg7 (Rect.unit (s := S1024x128) ![0, 0] S128x128.size inb_S1024x128_S128x128_0_0).toLoadRect (View.loadsAt_vmem h_S128x128))
    let v78 : Vec F S128x128 .f32 ← Prog.lift (.load A.arg8 (Rect.unit (s := S1024x128) ![0, 0] S128x128.size inb_S1024x128_S128x128_0_0).toLoadRect (View.loadsAt_vmem h_S128x128))
    let v82 : Vec F S128x128 .f32 ← Prog.lift (.load A.arg5 (Rect.unit (s := S1024x512) ![0, 128] S128x128.size inb_S1024x512_S128x128_0_128).toLoadRect (View.loadsAt_vmem h_S128x128))
    let v83 : Vec F S128x128 .f32 ← Prog.lift (.load A.arg7 (Rect.unit (s := S1024x128) ![0, 0] S128x128.size inb_S1024x128_S128x128_0_0).toLoadRect (View.loadsAt_vmem h_S128x128))
    pure ⟨k0_pay12 v73 v74 v78, v82, v83⟩)
  fC3 A v81 v82 v83

def fR2 (A : KArgs) : KProg F (FRes F) := do
  let ⟨v135, v146, v148, v150⟩ : Σ' (v135 : FVec F S128x128 .f32) (v146 : FVec F S128x128 .f32) (v148 : FVec F S128x256 .bf16), FVec F S128x256 .f32 ← (do
    let v127 : Vec F S128x128 .f32 ← Prog.lift (.load A.arg4 (Rect.unit (s := S1024x512) ![0, 256] S128x128.size inb_S1024x512_S128x128_0_256).toLoadRect (View.loadsAt_vmem h_S128x128))
    let v128 : Vec F S128x128 .f32 ← Prog.lift (.load A.arg7 (Rect.unit (s := S1024x128) ![0, 0] S128x128.size inb_S1024x128_S128x128_0_0).toLoadRect (View.loadsAt_vmem h_S128x128))
    let v132 : Vec F S128x128 .f32 ← Prog.lift (.load A.arg8 (Rect.unit (s := S1024x128) ![0, 0] S128x128.size inb_S1024x128_S128x128_0_0).toLoadRect (View.loadsAt_vmem h_S128x128))
    let v136 : Vec F S128x128 .f32 ← Prog.lift (.load A.arg5 (Rect.unit (s := S1024x512) ![0, 256] S128x128.size inb_S1024x512_S128x128_0_256).toLoadRect (View.loadsAt_vmem h_S128x128))
    let v137 : Vec F S128x128 .f32 ← Prog.lift (.load A.arg7 (Rect.unit (s := S1024x128) ![0, 0] S128x128.size inb_S1024x128_S128x128_0_0).toLoadRect (View.loadsAt_vmem h_S128x128))
    let v141 : Vec F S128x128 .f32 ← Prog.lift (.load A.arg8 (Rect.unit (s := S1024x128) ![0, 0] S128x128.size inb_S1024x128_S128x128_0_0).toLoadRect (View.loadsAt_vmem h_S128x128))
    let v147 : Vec F S128x256 .f32 ← Prog.lift (.load A.arg6 (Rect.unit (s := S1024x1024) ![0, 512] S128x256.size inb_S1024x1024_S128x256_0_512).toLoadRect (View.loadsAt_vmem h_S128x256))
    let v149 : Vec F S1x128x256 .f32 ← Prog.lift (.load A.arg12 (Rect.unit (s := S4x128x256) ![2, 0, 0] S1x128x256.size inb_S4x128x256_S1x128x256_2_0_0).toLoadRect (View.loadsAt_vmem h_S1x128x256))
    pure ⟨k0_pay20 v127 v128 v132, k0_pay21 v136 v137 v141, k0_pay22 v147, k0_pay23 v149⟩)
  fC5 A v135 v146 v148 v150

def fR3 (A : KArgs) : KProg F (FRes F) := do
  let ⟨v181, v182⟩ : Σ' (v181 : Vec F S128x128 .f32), Vec F S128x128 .f32 ← (do
    let v181 : Vec F S128x128 .f32 ← Prog.lift (.load A.arg4 (Rect.unit (s := S1024x512) ![0, 384] S128x128.size inb_S1024x512_S128x128_0_384).toLoadRect (View.loadsAt_vmem h_S128x128))
    let v182 : Vec F S128x128 .f32 ← Prog.lift (.load A.arg7 (Rect.unit (s := S1024x128) ![0, 0] S128x128.size inb_S1024x128_S128x128_0_0).toLoadRect (View.loadsAt_vmem h_S128x128))
    pure ⟨v181, v182⟩)
  fC6 A v181 v182

def fR4 (A : KArgs) : KProg F (FRes F) := do
  let ⟨v243, v247, v248⟩ : Σ' (v243 : FVec F S128x128 .f32) (v247 : FVec F S128x128 .f32), FVec F S128x128 .f32 ← (do
    let v235 : Vec F S128x128 .f32 ← Prog.lift (.load A.arg4 (Rect.unit (s := S1024x512) ![128, 0] S128x128.size inb_S1024x512_S128x128_128_0).toLoadRect (View.loadsAt_vmem h_S128x128))
    let v236 : Vec F S128x128 .f32 ← Prog.lift (.load A.arg7 (Rect.unit (s := S1024x128) ![128, 0] S128x128.size inb_S1024x128_S128x128_128_0).toLoadRect (View.loadsAt_vmem h_S128x128))
    let v240 : Vec F S128x128 .f32 ← Prog.lift (.load A.arg8 (Rect.unit (s := S1024x128) ![128, 0] S128x128.size inb_S1024x128_S128x128_128_0).toLoadRect (View.loadsAt_vmem h_S128x128))
    let v244 : Vec F S128x128 .f32 ← Prog.lift (.load A.arg5 (Rect.unit (s := S1024x512) ![128, 0] S128x128.size inb_S1024x512_S128x128_128_0).toLoadRect (View.loadsAt_vmem h_S128x128))
    let v245 : Vec F S128x128 .f32 ← Prog.lift (.load A.arg7 (Rect.unit (s := S1024x128) ![128, 0] S128x128.size inb_S1024x128_S128x128_128_0).toLoadRect (View.loadsAt_vmem h_S128x128))
    pure ⟨k0_pay35 v235 v236 v240, k0_pay36 v244 v245, k0_pay37 v244⟩)
  fC8 A v243 v247 v248

def fR5 (A : KArgs) : KProg F (FRes F) := do
  let ⟨v297, v308, v310, v312, v315⟩ : Σ' (v297 : FVec F S128x128 .f32) (v308 : FVec F S128x128 .f32) (v310 : FVec F S128x256 .bf16) (v312 : FVec F S128x256 .f32), FVec F S128x128 .f32 ← (do
    let v289 : Vec F S128x128 .f32 ← Prog.lift (.load A.arg4 (Rect.unit (s := S1024x512) ![128, 128] S128x128.size inb_S1024x512_S128x128_128_128).toLoadRect (View.loadsAt_vmem h_S128x128))
    let v290 : Vec F S128x128 .f32 ← Prog.lift (.load A.arg7 (Rect.unit (s := S1024x128) ![128, 0] S128x128.size inb_S1024x128_S128x128_128_0).toLoadRect (View.loadsAt_vmem h_S128x128))
    let v294 : Vec F S128x128 .f32 ← Prog.lift (.load A.arg8 (Rect.unit (s := S1024x128) ![128, 0] S128x128.size inb_S1024x128_S128x128_128_0).toLoadRect (View.loadsAt_vmem h_S128x128))
    let v298 : Vec F S128x128 .f32 ← Prog.lift (.load A.arg5 (Rect.unit (s := S1024x512) ![128, 128] S128x128.size inb_S1024x512_S128x128_128_128).toLoadRect (View.loadsAt_vmem h_S128x128))
    let v299 : Vec F S128x128 .f32 ← Prog.lift (.load A.arg7 (Rect.unit (s := S1024x128) ![128, 0] S128x128.size inb_S1024x128_S128x128_128_0).toLoadRect (View.loadsAt_vmem h_S128x128))
    let v303 : Vec F S128x128 .f32 ← Prog.lift (.load A.arg8 (Rect.unit (s := S1024x128) ![128, 0] S128x128.size inb_S1024x128_S128x128_128_0).toLoadRect (View.loadsAt_vmem h_S128x128))
    let v309 : Vec F S128x256 .f32 ← Prog.lift (.load A.arg6 (Rect.unit (s := S1024x1024) ![128, 256] S128x256.size inb_S1024x1024_S128x256_128_256).toLoadRect (View.loadsAt_vmem h_S128x256))
    let v311 : Vec F S1x128x256 .f32 ← Prog.lift (.load A.arg12 (Rect.unit (s := S4x128x256) ![1, 0, 0] S1x128x256.size inb_S4x128x256_S1x128x256_1_0_0).toLoadRect (View.loadsAt_vmem h_S1x128x256))
    pure ⟨k0_pay45 v289 v290 v294, k0_pay46 v298 v299 v303, k0_pay47 v309, k0_pay48 v311, k0_pay49 v289 v290 v294 v298 v299 v303⟩)
  fC10 A v297 v308 v310 v312 v315

def fR6 (A : KArgs) : KProg F (FRes F) := do
  let ⟨v346, v347⟩ : Σ' (v346 : FVec F S128x128 .f32), FVec F S128x128 .f32 ← (do
    let v343 : Vec F S128x128 .f32 ← Prog.lift (.load A.arg4 (Rect.unit (s := S1024x512) ![128, 256] S128x128.size inb_S1024x512_S128x128_128_256).toLoadRect (View.loadsAt_vmem h_S128x128))
    let v344 : Vec F S128x128 .f32 ← Prog.lift (.load A.arg7 (Rect.unit (s := S1024x128) ![128, 0] S128x128.size inb_S1024x128_S128x128_128_0).toLoadRect (View.loadsAt_vmem h_S128x128))
    pure ⟨k0_pay52 v343 v344, k0_pay53 v343⟩)
  fC11 A v346 v347

def fR7 (A : KArgs) : KProg F (FRes F) := do
  let ⟨v405, v414, v415⟩ : Σ' (v405 : FVec F S128x128 .f32) (v414 : FVec F S128x128 .f32), FVec F S128x128 .f32 ← (do
    let v397 : Vec F S128x128 .f32 ← Prog.lift (.load A.arg4 (Rect.unit (s := S1024x512) ![128, 384] S128x128.size inb_S1024x512_S128x128_128_384).toLoadRect (View.loadsAt_vmem h_S128x128))
    let v398 : Vec F S128x128 .f32 ← Prog.lift (.load A.arg7 (Rect.unit (s := S1024x128) ![128, 0] S128x128.size inb_S1024x128_S128x128_128_0).toLoadRect (View.loadsAt_vmem h_S128x128))
    let v402 : Vec F S128x128 .f32 ← Prog.lift (.load A.arg8 (Rect.unit (s := S1024x128) ![128, 0] S128x128.size inb_S1024x128_S128x128_128_0).toLoadRect (View.loadsAt_vmem h_S128x128))
    let v406 : Vec F S128x128 .f32 ← Prog.lift (.load A.arg5 (Rect.unit (s := S1024x512) ![128, 384] S128x128.size inb_S1024x512_S128x128_128_384).toLoadRect (View.loadsAt_vmem h_S128x128))
    let v407 : Vec F S128x128 .f32 ← Prog.lift (.load A.arg7 (Rect.unit (s := S1024x128) ![128, 0] S128x128.size inb_S1024x128_S128x128_128_0).toLoadRect (View.loadsAt_vmem h_S128x128))
    let v411 : Vec F S128x128 .f32 ← Prog.lift (.load A.arg8 (Rect.unit (s := S1024x128) ![128, 0] S128x128.size inb_S1024x128_S128x128_128_0).toLoadRect (View.loadsAt_vmem h_S128x128))
    pure ⟨k0_pay60 v397 v398 v402, k0_pay61 v406 v407 v411, k0_pay62 (F := F)⟩)
  fC13 A v405 v414 v415

def fR8 (A : KArgs) : KProg F (FRes F) := do
  let ⟨v459, v470, v472, v474, v481, cst_354⟩ : Σ' (v459 : FVec F S128x128 .f32) (v470 : FVec F S128x128 .f32) (v472 : FVec F S128x256 .bf16) (v474 : FVec F S128x256 .f32) (v481 : FVec F S128x128 .bf16), FVec F S128x256 .f32 ← (do
    let v451 : Vec F S128x128 .f32 ← Prog.lift (.load A.arg4 (Rect.unit (s := S1024x512) ![256, 0] S128x128.size inb_S1024x512_S128x128_256_0).toLoadRect (View.loadsAt_vmem h_S128x128))
    let v452 : Vec F S128x128 .f32 ← Prog.lift (.load A.arg7 (Rect.unit (s := S1024x128) ![256, 0] S128x128.size inb_S1024x128_S128x128_256_0).toLoadRect (View.loadsAt_vmem h_S128x128))
    let v456 : Vec F S128x128 .f32 ← Prog.lift (.load A.arg8 (Rect.unit (s := S1024x128) ![256, 0] S128x128.size inb_S1024x128_S128x128_256_0).toLoadRect (View.loadsAt_vmem h_S128x128))
    let v460 : Vec F S128x128 .f32 ← Prog.lift (.load A.arg5 (Rect.unit (s := S1024x512) ![256, 0] S128x128.size inb_S1024x512_S128x128_256_0).toLoadRect (View.loadsAt_vmem h_S128x128))
    let v461 : Vec F S128x128 .f32 ← Prog.lift (.load A.arg7 (Rect.unit (s := S1024x128) ![256, 0] S128x128.size inb_S1024x128_S128x128_256_0).toLoadRect (View.loadsAt_vmem h_S128x128))
    let v465 : Vec F S128x128 .f32 ← Prog.lift (.load A.arg8 (Rect.unit (s := S1024x128) ![256, 0] S128x128.size inb_S1024x128_S128x128_256_0).toLoadRect (View.loadsAt_vmem h_S128x128))
    let v471 : Vec F S128x256 .f32 ← Prog.lift (.load A.arg6 (Rect.unit (s := S1024x1024) ![256, 0] S128x256.size inb_S1024x1024_S128x256_256_0).toLoadRect (View.loadsAt_vmem h_S128x256))
    let v473 : Vec F S1x128x256 .f32 ← Prog.lift (.load A.arg12 (Rect.unit (s := S4x128x256) ![0, 0, 0] S1x128x256.size inb_S4x128x256_S1x128x256_0_0_0).toLoadRect (View.loadsAt_vmem h_S1x128x256))
    let v478 : Vec F S1x128x128 .f32 ← Prog.lift (.load A.arg9 (Rect.unit (s := S4x128x128) ![0, 0, 0] S1x128x128.size inb_S4x128x128_S1x128x128_0_0_0).toLoadRect (View.loadsAt_vmem h_S1x128x128))
    have cst_354 : FVec F S128x256 .f32 := constant S128x256 .f32 0x00000000#32
    pure ⟨k0_pay69 v451 v452 v456, k0_pay70 v460 v461 v465, k0_pay71 v471, k0_pay72 v473, k0_pay73 v451 v452 v456 v460 v461 v465 v478, cst_354⟩)
  fC15 A v459 v470 v472 v474 v481 cst_354

def fR9 (A : KArgs) : KProg F (FRes F) := do
  let v513 : FVec F S128x128 .f32 ← (do
    let v505 : Vec F S128x128 .f32 ← Prog.lift (.load A.arg4 (Rect.unit (s := S1024x512) ![256, 128] S128x128.size inb_S1024x512_S128x128_256_128).toLoadRect (View.loadsAt_vmem h_S128x128))
    let v506 : Vec F S128x128 .f32 ← Prog.lift (.load A.arg7 (Rect.unit (s := S1024x128) ![256, 0] S128x128.size inb_S1024x128_S128x128_256_0).toLoadRect (View.loadsAt_vmem h_S128x128))
    let v510 : Vec F S128x128 .f32 ← Prog.lift (.load A.arg8 (Rect.unit (s := S1024x128) ![256, 0] S128x128.size inb_S1024x128_S128x128_256_0).toLoadRect (View.loadsAt_vmem h_S128x128))
    pure (k0_pay76 v505 v506 v510))
  fC16 A v513

def fR10 (A : KArgs) : KProg F (FRes F) := do
  let ⟨v567, v578, v580⟩ : Σ' (v567 : FVec F S128x128 .f32) (v578 : FVec F S128x128 .f32), FVec F S128x256 .bf16 ← (do
    let v559 : Vec F S128x128 .f32 ← Prog.lift (.load A.arg4 (Rect.unit (s := S1024x512) ![256, 256] S128x128.size inb_S1024x512_S128x128_256_256).toLoadRect (View.loadsAt_vmem h_S128x128))
    let v560 : Vec F S128x128 .f32 ← Prog.lift (.load A.arg7 (Rect.unit (s := S1024x128) ![256, 0] S128x128.size inb_S1024x128_S128x128_256_0).toLoadRect (View.loadsAt_vmem h_S128x128))
    let v564 : Vec F S128x128 .f32 ← Prog.lift (.load A.arg8 (Rect.unit (s := S1024x128) ![256, 0] S128x128.size inb_S1024x128_S128x128_256_0).toLoadRect (View.loadsAt_vmem h_S128x128))
    let v568 : Vec F S128x128 .f32 ← Prog.lift (.load A.arg5 (Rect.unit (s := S1024x512) ![256, 256] S128x128.size inb_S1024x512_S128x128_256_256).toLoadRect (View.loadsAt_vmem h_S128x128))
    let v569 : Vec F S128x128 .f32 ← Prog.lift (.load A.arg7 (Rect.unit (s := S1024x128) ![256, 0] S128x128.size inb_S1024x128_S128x128_256_0).toLoadRect (View.loadsAt_vmem h_S128x128))
    let v573 : Vec F S128x128 .f32 ← Prog.lift (.load A.arg8 (Rect.unit (s := S1024x128) ![256, 0] S128x128.size inb_S1024x128_S128x128_256_0).toLoadRect (View.loadsAt_vmem h_S128x128))
    let v579 : Vec F S128x256 .f32 ← Prog.lift (.load A.arg6 (Rect.unit (s := S1024x1024) ![256, 512] S128x256.size inb_S1024x1024_S128x256_256_512).toLoadRect (View.loadsAt_vmem h_S128x256))
    pure ⟨k0_pay84 v559 v560 v564, k0_pay85 v568 v569 v573, k0_pay86 v579⟩)
  fC18 A v567 v578 v580

def fR11 (A : KArgs) : KProg F (FRes F) := do

  fC19 A

def fR12 (A : KArgs) : KProg F (FRes F) := do
  let ⟨v675, v676, v679⟩ : Σ' (v675 : FVec F S128x128 .f32) (v676 : Vec F S128x128 .f32), FVec F S128x128 .f32 ← (do
    let v667 : Vec F S128x128 .f32 ← Prog.lift (.load A.arg4 (Rect.unit (s := S1024x512) ![384, 0] S128x128.size inb_S1024x512_S128x128_384_0).toLoadRect (View.loadsAt_vmem h_S128x128))
    let v668 : Vec F S128x128 .f32 ← Prog.lift (.load A.arg7 (Rect.unit (s := S1024x128) ![384, 0] S128x128.size inb_S1024x128_S128x128_384_0).toLoadRect (View.loadsAt_vmem h_S128x128))
    let v672 : Vec F S128x128 .f32 ← Prog.lift (.load A.arg8 (Rect.unit (s := S1024x128) ![384, 0] S128x128.size inb_S1024x128_S128x128_384_0).toLoadRect (View.loadsAt_vmem h_S128x128))
    let v676 : Vec F S128x128 .f32 ← Prog.lift (.load A.arg5 (Rect.unit (s := S1024x512) ![384, 0] S128x128.size inb_S1024x512_S128x128_384_0).toLoadRect (View.loadsAt_vmem h_S128x128))
    let v677 : Vec F S128x128 .f32 ← Prog.lift (.load A.arg7 (Rect.unit (s := S1024x128) ![384, 0] S128x128.size inb_S1024x128_S128x128_384_0).toLoadRect (View.loadsAt_vmem h_S128x128))
    pure ⟨k0_pay97 v667 v668 v672, v676, k0_pay98 v676 v677⟩)
  fC21 A v675 v676 v679

def fR13 (A : KArgs) : KProg F (FRes F) := do
  let ⟨v729, v740, v742, v744, v745, v746⟩ : Σ' (v729 : FVec F S128x128 .f32) (v740 : FVec F S128x128 .f32) (v742 : FVec F S128x256 .bf16) (v744 : FVec F S128x256 .f32) (v745 : FVec F S128x128 .bf16), FVec F S128x128 .bf16 ← (do
    let v721 : Vec F S128x128 .f32 ← Prog.lift (.load A.arg4 (Rect.unit (s := S1024x512) ![384, 128] S128x128.size inb_S1024x512_S128x128_384_128).toLoadRect (View.loadsAt_vmem h_S128x128))
    let v722 : Vec F S128x128 .f32 ← Prog.lift (.load A.arg7 (Rect.unit (s := S1024x128) ![384, 0] S128x128.size inb_S1024x128_S128x128_384_0).toLoadRect (View.loadsAt_vmem h_S128x128))
    let v726 : Vec F S128x128 .f32 ← Prog.lift (.load A.arg8 (Rect.unit (s := S1024x128) ![384, 0] S128x128.size inb_S1024x128_S128x128_384_0).toLoadRect (View.loadsAt_vmem h_S128x128))
    let v730 : Vec F S128x128 .f32 ← Prog.lift (.load A.arg5 (Rect.unit (s := S1024x512) ![384, 128] S128x128.size inb_S1024x512_S128x128_384_128).toLoadRect (View.loadsAt_vmem h_S128x128))
    let v731 : Vec F S128x128 .f32 ← Prog.lift (.load A.arg7 (Rect.unit (s := S1024x128) ![384, 0] S128x128.size inb_S1024x128_S128x128_384_0).toLoadRect (View.loadsAt_vmem h_S128x128))
    let v735 : Vec F S128x128 .f32 ← Prog.lift (.load A.arg8 (Rect.unit (s := S1024x128) ![384, 0] S128x128.size inb_S1024x128_S128x128_384_0).toLoadRect (View.loadsAt_vmem h_S128x128))
    let v741 : Vec F S128x256 .f32 ← Prog.lift (.load A.arg6 (Rect.unit (s := S1024x1024) ![384, 256] S128x256.size inb_S1024x1024_S128x256_384_256).toLoadRect (View.loadsAt_vmem h_S128x256))
    let v743 : Vec F S1x128x256 .f32 ← Prog.lift (.load A.arg12 (Rect.unit (s := S4x128x256) ![1, 0, 0] S1x128x256.size inb_S4x128x256_S1x128x256_1_0_0).toLoadRect (View.loadsAt_vmem h_S1x128x256))
    pure ⟨k0_pay105 v721 v722 v726, k0_pay106 v730 v731 v735, k0_pay107 v741, k0_pay108 v743, k0_pay109 v721 v722 v726, k0_pay110 v730 v731 v735⟩)
  fC23 A v729 v740 v742 v744 v745 v746

def fR14 (A : KArgs) : KProg F (FRes F) := do
  let ⟨v775, v778⟩ : Σ' (v775 : Vec F S128x128 .f32), FVec F S128x128 .f32 ← (do
    let v775 : Vec F S128x128 .f32 ← Prog.lift (.load A.arg4 (Rect.unit (s := S1024x512) ![384, 256] S128x128.size inb_S1024x512_S128x128_384_256).toLoadRect (View.loadsAt_vmem h_S128x128))
    let v776 : Vec F S128x128 .f32 ← Prog.lift (.load A.arg7 (Rect.unit (s := S1024x128) ![384, 0] S128x128.size inb_S1024x128_S128x128_384_0).toLoadRect (View.loadsAt_vmem h_S128x128))
    pure ⟨v775, k0_pay113 v775 v776⟩)
  fC24 A v775 v778

def fR15 (A : KArgs) : KProg F (FRes F) := do
  let ⟨v837, v841, v842, v844⟩ : Σ' (v837 : FVec F S128x128 .f32) (v841 : FVec F S128x128 .f32) (v842 : FVec F S128x128 .f32), FVec F S128x128 .f32 ← (do
    let v829 : Vec F S128x128 .f32 ← Prog.lift (.load A.arg4 (Rect.unit (s := S1024x512) ![384, 384] S128x128.size inb_S1024x512_S128x128_384_384).toLoadRect (View.loadsAt_vmem h_S128x128))
    let v830 : Vec F S128x128 .f32 ← Prog.lift (.load A.arg7 (Rect.unit (s := S1024x128) ![384, 0] S128x128.size inb_S1024x128_S128x128_384_0).toLoadRect (View.loadsAt_vmem h_S128x128))
    let v834 : Vec F S128x128 .f32 ← Prog.lift (.load A.arg8 (Rect.unit (s := S1024x128) ![384, 0] S128x128.size inb_S1024x128_S128x128_384_0).toLoadRect (View.loadsAt_vmem h_S128x128))
    let v838 : Vec F S128x128 .f32 ← Prog.lift (.load A.arg5 (Rect.unit (s := S1024x512) ![384, 384] S128x128.size inb_S1024x512_S128x128_384_384).toLoadRect (View.loadsAt_vmem h_S128x128))
    let v839 : Vec F S128x128 .f32 ← Prog.lift (.load A.arg7 (Rect.unit (s := S1024x128) ![384, 0] S128x128.size inb_S1024x128_S128x128_384_0).toLoadRect (View.loadsAt_vmem h_S128x128))
    let v843 : Vec F S128x128 .f32 ← Prog.lift (.load A.arg8 (Rect.unit (s := S1024x128) ![384, 0] S128x128.size inb_S1024x128_S128x128_384_0).toLoadRect (View.loadsAt_vmem h_S128x128))
    pure ⟨k0_pay122 v829 v830 v834, k0_pay123 v838 v839, k0_pay124 v838, k0_pay125 v843⟩)
  fC26 A v837 v841 v842 v844

def fR16 (A : KArgs) : KProg F (FRes F) := do
  let ⟨v891, v902, v904, v906, v909, v910⟩ : Σ' (v891 : FVec F S128x128 .f32) (v902 : FVec F S128x128 .f32) (v904 : FVec F S128x256 .bf16) (v906 : FVec F S128x256 .f32) (v909 : FVec F S128x128 .f32), Vec F S1x128x128 .f32 ← (do
    let v883 : Vec F S128x128 .f32 ← Prog.lift (.load A.arg4 (Rect.unit (s := S1024x512) ![512, 0] S128x128.size inb_S1024x512_S128x128_512_0).toLoadRect (View.loadsAt_vmem h_S128x128))
    let v884 : Vec F S128x128 .f32 ← Prog.lift (.load A.arg7 (Rect.unit (s := S1024x128) ![512, 0] S128x128.size inb_S1024x128_S128x128_512_0).toLoadRect (View.loadsAt_vmem h_S128x128))
    let v888 : Vec F S128x128 .f32 ← Prog.lift (.load A.arg8 (Rect.unit (s := S1024x128) ![512, 0] S128x128.size inb_S1024x128_S128x128_512_0).toLoadRect (View.loadsAt_vmem h_S128x128))
    let v892 : Vec F S128x128 .f32 ← Prog.lift (.load A.arg5 (Rect.unit (s := S1024x512) ![512, 0] S128x128.size inb_S1024x512_S128x128_512_0).toLoadRect (View.loadsAt_vmem h_S128x128))
    let v893 : Vec F S128x128 .f32 ← Prog.lift (.load A.arg7 (Rect.unit (s := S1024x128) ![512, 0] S128x128.size inb_S1024x128_S128x128_512_0).toLoadRect (View.loadsAt_vmem h_S128x128))
    let v897 : Vec F S128x128 .f32 ← Prog.lift (.load A.arg8 (Rect.unit (s := S1024x128) ![512, 0] S128x128.size inb_S1024x128_S128x128_512_0).toLoadRect (View.loadsAt_vmem h_S128x128))
    let v903 : Vec F S128x256 .f32 ← Prog.lift (.load A.arg6 (Rect.unit (s := S1024x1024) ![512, 0] S128x256.size inb_S1024x1024_S128x256_512_0).toLoadRect (View.loadsAt_vmem h_S128x256))
    let v905 : Vec F S1x128x256 .f32 ← Prog.lift (.load A.arg12 (Rect.unit (s := S4x128x256) ![0, 0, 0] S1x128x256.size inb_S4x128x256_S1x128x256_0_0_0).toLoadRect (View.loadsAt_vmem h_S1x128x256))
    let v910 : Vec F S1x128x128 .f32 ← Prog.lift (.load A.arg9 (Rect.unit (s := S4x128x128) ![0, 0, 0] S1x128x128.size inb_S4x128x128_S1x128x128_0_0_0).toLoadRect (View.loadsAt_vmem h_S1x128x128))
    pure ⟨k0_pay133 v883 v884 v888, k0_pay134 v892 v893 v897, k0_pay135 v903, k0_pay136 v905, k0_pay137 v883 v884 v888 v892 v893 v897, v910⟩)
  fC28 A v891 v902 v904 v906 v909 v910

def fR17 (A : KArgs) : KProg F (FRes F) := do
  let ⟨v940, v941, v943⟩ : Σ' (v940 : FVec F S128x128 .f32) (v941 : FVec F S128x128 .f32), FVec F S128x128 .f32 ← (do
    let v937 : Vec F S128x128 .f32 ← Prog.lift (.load A.arg4 (Rect.unit (s := S1024x512) ![512, 128] S128x128.size inb_S1024x512_S128x128_512_128).toLoadRect (View.loadsAt_vmem h_S128x128))
    let v938 : Vec F S128x128 .f32 ← Prog.lift (.load A.arg7 (Rect.unit (s := S1024x128) ![512, 0] S128x128.size inb_S1024x128_S128x128_512_0).toLoadRect (View.loadsAt_vmem h_S128x128))
    let v942 : Vec F S128x128 .f32 ← Prog.lift (.load A.arg8 (Rect.unit (s := S1024x128) ![512, 0] S128x128.size inb_S1024x128_S128x128_512_0).toLoadRect (View.loadsAt_vmem h_S128x128))
    pure ⟨k0_pay140 v937 v938, k0_pay141 v937, k0_pay142 v942⟩)
  fC29 A v940 v941 v943

def fR18 (A : KArgs) : KProg F (FRes F) := do
  let ⟨v999, v1010⟩ : Σ' (v999 : FVec F S128x128 .f32), FVec F S128x128 .f32 ← (do
    let v991 : Vec F S128x128 .f32 ← Prog.lift (.load A.arg4 (Rect.unit (s := S1024x512) ![512, 256] S128x128.size inb_S1024x512_S128x128_512_256).toLoadRect (View.loadsAt_vmem h_S128x128))
    let v992 : Vec F S128x128 .f32 ← Prog.lift (.load A.arg7 (Rect.unit (s := S1024x128) ![512, 0] S128x128.size inb_S1024x128_S128x128_512_0).toLoadRect (View.loadsAt_vmem h_S128x128))
    let v996 : Vec F S128x128 .f32 ← Prog.lift (.load A.arg8 (Rect.unit (s := S1024x128) ![512, 0] S128x128.size inb_S1024x128_S128x128_512_0).toLoadRect (View.loadsAt_vmem h_S128x128))
    let v1000 : Vec F S128x128 .f32 ← Prog.lift (.load A.arg5 (Rect.unit (s := S1024x512) ![512, 256] S128x128.size inb_S1024x512_S128x128_512_256).toLoadRect (View.loadsAt_vmem h_S128x128))
    let v1001 : Vec F S128x128 .f32 ← Prog.lift (.load A.arg7 (Rect.unit (s := S1024x128) ![512, 0] S128x128.size inb_S1024x128_S128x128_512_0).toLoadRect (View.loadsAt_vmem h_S128x128))
    let v1005 : Vec F S128x128 .f32 ← Prog.lift (.load A.arg8 (Rect.unit (s := S1024x128) ![512, 0] S128x128.size inb_S1024x128_S128x128_512_0).toLoadRect (View.loadsAt_vmem h_S128x128))
    pure ⟨k0_pay149 v991 v992 v996, k0_pay150 v1000 v1001 v1005⟩)
  fC31 A v999 v1010

def fR19 (A : KArgs) : KProg F (FRes F) := do
  let ⟨v1053, v1064, v1066, v1068, v1076⟩ : Σ' (v1053 : FVec F S128x128 .f32) (v1064 : FVec F S128x128 .f32) (v1066 : FVec F S128x256 .bf16) (v1068 : FVec F S128x256 .f32), FVec F S128x256 .f32 ← (do
    let v1045 : Vec F S128x128 .f32 ← Prog.lift (.load A.arg4 (Rect.unit (s := S1024x512) ![512, 384] S128x128.size inb_S1024x512_S128x128_512_384).toLoadRect (View.loadsAt_vmem h_S128x128))
    let v1046 : Vec F S128x128 .f32 ← Prog.lift (.load A.arg7 (Rect.unit (s := S1024x128) ![512, 0] S128x128.size inb_S1024x128_S128x128_512_0).toLoadRect (View.loadsAt_vmem h_S128x128))
    let v1050 : Vec F S128x128 .f32 ← Prog.lift (.load A.arg8 (Rect.unit (s := S1024x128) ![512, 0] S128x128.size inb_S1024x128_S128x128_512_0).toLoadRect (View.loadsAt_vmem h_S128x128))
    let v1054 : Vec F S128x128 .f32 ← Prog.lift (.load A.arg5 (Rect.unit (s := S1024x512) ![512, 384] S128x128.size inb_S1024x512_S128x128_512_384).toLoadRect (View.loadsAt_vmem h_S128x128))
    let v1055 : Vec F S128x128 .f32 ← Prog.lift (.load A.arg7 (Rect.unit (s := S1024x128) ![512, 0] S128x128.size inb_S1024x128_S128x128_512_0).toLoadRect (View.loadsAt_vmem h_S128x128))
    let v1059 : Vec F S128x128 .f32 ← Prog.lift (.load A.arg8 (Rect.unit (s := S1024x128) ![512, 0] S128x128.size inb_S1024x128_S128x128_512_0).toLoadRect (View.loadsAt_vmem h_S128x128))
    let v1065 : Vec F S128x256 .f32 ← Prog.lift (.load A.arg6 (Rect.unit (s := S1024x1024) ![512, 768] S128x256.size inb_S1024x1024_S128x256_512_768).toLoadRect (View.loadsAt_vmem h_S128x256))
    let v1067 : Vec F S1x128x256 .f32 ← Prog.lift (.load A.arg12 (Rect.unit (s := S4x128x256) ![3, 0, 0] S1x128x256.size inb_S4x128x256_S1x128x256_3_0_0).toLoadRect (View.loadsAt_vmem h_S1x128x256))
    let v1072 : Vec F S1x128x128 .f32 ← Prog.lift (.load A.arg9 (Rect.unit (s := S4x128x128) ![3, 0, 0] S1x128x128.size inb_S4x128x128_S1x128x128_3_0_0).toLoadRect (View.loadsAt_vmem h_S1x128x128))
    pure ⟨k0_pay156 v1045 v1046 v1050, k0_pay157 v1054 v1055 v1059, k0_pay158 v1065, k0_pay159 v1067, k0_pay160 v1045 v1046 v1050 v1054 v1055 v1059 v1065 v1072⟩)
  fC33 A v1053 v1064 v1066 v1068 v1076

def fR20 (A : KArgs) : KProg F (FRes F) := do
  let ⟨v1107, v1108⟩ : Σ' (v1107 : FVec F S128x128 .f32), Vec F S128x128 .f32 ← (do
    let v1099 : Vec F S128x128 .f32 ← Prog.lift (.load A.arg4 (Rect.unit (s := S1024x512) ![640, 0] S128x128.size inb_S1024x512_S128x128_640_0).toLoadRect (View.loadsAt_vmem h_S128x128))
    let v1100 : Vec F S128x128 .f32 ← Prog.lift (.load A.arg7 (Rect.unit (s := S1024x128) ![640, 0] S128x128.size inb_S1024x128_S128x128_640_0).toLoadRect (View.loadsAt_vmem h_S128x128))
    let v1104 : Vec F S128x128 .f32 ← Prog.lift (.load A.arg8 (Rect.unit (s := S1024x128) ![640, 0] S128x128.size inb_S1024x128_S128x128_640_0).toLoadRect (View.loadsAt_vmem h_S128x128))
    let v1108 : Vec F S128x128 .f32 ← Prog.lift (.load A.arg5 (Rect.unit (s := S1024x512) ![640, 0] S128x128.size inb_S1024x512_S128x128_640_0).toLoadRect (View.loadsAt_vmem h_S128x128))
    pure ⟨k0_pay163 v1099 v1100 v1104, v1108⟩)
  fC34 A v1107 v1108

def fR21 (A : KArgs) : KProg F (FRes F) := do
  let ⟨v1161, v1172, v1174⟩ : Σ' (v1161 : FVec F S128x128 .f32) (v1172 : FVec F S128x128 .f32), FVec F S128x256 .bf16 ← (do
    let v1153 : Vec F S128x128 .f32 ← Prog.lift (.load A.arg4 (Rect.unit (s := S1024x512) ![640, 128] S128x128.size inb_S1024x512_S128x128_640_128).toLoadRect (View.loadsAt_vmem h_S128x128))
    let v1154 : Vec F S128x128 .f32 ← Prog.lift (.load A.arg7 (Rect.unit (s := S1024x128) ![640, 0] S128x128.size inb_S1024x128_S128x128_640_0).toLoadRect (View.loadsAt_vmem h_S128x128))
    let v1158 : Vec F S128x128 .f32 ← Prog.lift (.load A.arg8 (Rect.unit (s := S1024x128) ![640, 0] S128x128.size inb_S1024x128_S128x128_640_0).toLoadRect (View.loadsAt_vmem h_S128x128))
    let v1162 : Vec F S128x128 .f32 ← Prog.lift (.load A.arg5 (Rect.unit (s := S1024x512) ![640, 128] S128x128.size inb_S1024x512_S128x128_640_128).toLoadRect (View.loadsAt_vmem h_S128x128))
    let v1163 : Vec F S128x128 .f32 ← Prog.lift (.load A.arg7 (Rect.unit (s := S1024x128) ![640, 0] S128x128.size inb_S1024x128_S128x128_640_0).toLoadRect (View.loadsAt_vmem h_S128x128))
    let v1167 : Vec F S128x128 .f32 ← Prog.lift (.load A.arg8 (Rect.unit (s := S1024x128) ![640, 0] S128x128.size inb_S1024x128_S128x128_640_0).toLoadRect (View.loadsAt_vmem h_S128x128))
    let v1173 : Vec F S128x256 .f32 ← Prog.lift (.load A.arg6 (Rect.unit (s := S1024x1024) ![640, 256] S128x256.size inb_S1024x1024_S128x256_640_256).toLoadRect (View.loadsAt_vmem h_S128x256))
    pure ⟨k0_pay171 v1153 v1154 v1158, k0_pay172 v1162 v1163 v1167, k0_pay173 v1173⟩)
  fC36 A v1161 v1172 v1174

def fR22 (A : KArgs) : KProg F (FRes F) := do
  let v1207 : Vec F S128x128 .f32 ← (do
    let v1207 : Vec F S128x128 .f32 ← Prog.lift (.load A.arg4 (Rect.unit (s := S1024x512) ![640, 256] S128x128.size inb_S1024x512_S128x128_640_256).toLoadRect (View.loadsAt_vmem h_S128x128))
    let c640_919 : Index := 640#32
    pure v1207)
  fC37 A v1207

def fR23 (A : KArgs) : KProg F (FRes F) := do
  let ⟨v1269, v1273, v1274⟩ : Σ' (v1269 : FVec F S128x128 .f32) (v1273 : FVec F S128x128 .f32), FVec F S128x128 .f32 ← (do
    let v1261 : Vec F S128x128 .f32 ← Prog.lift (.load A.arg4 (Rect.unit (s := S1024x512) ![640, 384] S128x128.size inb_S1024x512_S128x128_640_384).toLoadRect (View.loadsAt_vmem h_S128x128))
    let v1262 : Vec F S128x128 .f32 ← Prog.lift (.load A.arg7 (Rect.unit (s := S1024x128) ![640, 0] S128x128.size inb_S1024x128_S128x128_640_0).toLoadRect (View.loadsAt_vmem h_S128x128))
    let v1266 : Vec F S128x128 .f32 ← Prog.lift (.load A.arg8 (Rect.unit (s := S1024x128) ![640, 0] S128x128.size inb_S1024x128_S128x128_640_0).toLoadRect (View.loadsAt_vmem h_S128x128))
    let v1270 : Vec F S128x128 .f32 ← Prog.lift (.load A.arg5 (Rect.unit (s := S1024x512) ![640, 384] S128x128.size inb_S1024x512_S128x128_640_384).toLoadRect (View.loadsAt_vmem h_S128x128))
    let v1271 : Vec F S128x128 .f32 ← Prog.lift (.load A.arg7 (Rect.unit (s := S1024x128) ![640, 0] S128x128.size inb_S1024x128_S128x128_640_0).toLoadRect (View.loadsAt_vmem h_S128x128))
    pure ⟨k0_pay185 v1261 v1262 v1266, k0_pay186 v1270 v1271, k0_pay187 v1270⟩)
  fC39 A v1269 v1273 v1274

def fR24 (A : KArgs) : KProg F (FRes F) := do
  let ⟨v1323, v1334, v1336, v1338, v1341⟩ : Σ' (v1323 : FVec F S128x128 .f32) (v1334 : FVec F S128x128 .f32) (v1336 : FVec F S128x256 .bf16) (v1338 : FVec F S128x256 .f32), FVec F S128x128 .f32 ← (do
    let v1315 : Vec F S128x128 .f32 ← Prog.lift (.load A.arg4 (Rect.unit (s := S1024x512) ![768, 0] S128x128.size inb_S1024x512_S128x128_768_0).toLoadRect (View.loadsAt_vmem h_S128x128))
    let v1316 : Vec F S128x128 .f32 ← Prog.lift (.load A.arg7 (Rect.unit (s := S1024x128) ![768, 0] S128x128.size inb_S1024x128_S128x128_768_0).toLoadRect (View.loadsAt_vmem h_S128x128))
    let v1320 : Vec F S128x128 .f32 ← Prog.lift (.load A.arg8 (Rect.unit (s := S1024x128) ![768, 0] S128x128.size inb_S1024x128_S128x128_768_0).toLoadRect (View.loadsAt_vmem h_S128x128))
    let v1324 : Vec F S128x128 .f32 ← Prog.lift (.load A.arg5 (Rect.unit (s := S1024x512) ![768, 0] S128x128.size inb_S1024x512_S128x128_768_0).toLoadRect (View.loadsAt_vmem h_S128x128))
    let v1325 : Vec F S128x128 .f32 ← Prog.lift (.load A.arg7 (Rect.unit (s := S1024x128) ![768, 0] S128x128.size inb_S1024x128_S128x128_768_0).toLoadRect (View.loadsAt_vmem h_S128x128))
    let v1329 : Vec F S128x128 .f32 ← Prog.lift (.load A.arg8 (Rect.unit (s := S1024x128) ![768, 0] S128x128.size inb_S1024x128_S128x128_768_0).toLoadRect (View.loadsAt_vmem h_S128x128))
    let v1335 : Vec F S128x256 .f32 ← Prog.lift (.load A.arg6 (Rect.unit (s := S1024x1024) ![768, 0] S128x256.size inb_S1024x1024_S128x256_768_0).toLoadRect (View.loadsAt_vmem h_S128x256))
    let v1337 : Vec F S1x128x256 .f32 ← Prog.lift (.load A.arg12 (Rect.unit (s := S4x128x256) ![0, 0, 0] S1x128x256.size inb_S4x128x256_S1x128x256_0_0_0).toLoadRect (View.loadsAt_vmem h_S1x128x256))
    pure ⟨k0_pay195 v1315 v1316 v1320, k0_pay196 v1324 v1325 v1329, k0_pay197 v1335, k0_pay198 v1337, k0_pay199 v1315 v1316 v1320 v1324 v1325 v1329⟩)
  fC41 A v1323 v1334 v1336 v1338 v1341

def fR25 (A : KArgs) : KProg F (FRes F) := do
  let ⟨v1372, v1373⟩ : Σ' (v1372 : FVec F S128x128 .f32), FVec F S128x128 .f32 ← (do
    let v1369 : Vec F S128x128 .f32 ← Prog.lift (.load A.arg4 (Rect.unit (s := S1024x512) ![768, 128] S128x128.size inb_S1024x512_S128x128_768_128).toLoadRect (View.loadsAt_vmem h_S128x128))
    let v1370 : Vec F S128x128 .f32 ← Prog.lift (.load A.arg7 (Rect.unit (s := S1024x128) ![768, 0] S128x128.size inb_S1024x128_S128x128_768_0).toLoadRect (View.loadsAt_vmem h_S128x128))
    pure ⟨k0_pay202 v1369 v1370, k0_pay203 v1369⟩)
  fC42 A v1372 v1373

def fR26 (A : KArgs) : KProg F (FRes F) := do
  let ⟨v1431, v1440⟩ : Σ' (v1431 : FVec F S128x128 .f32), FVec F S128x128 .f32 ← (do
    let v1423 : Vec F S128x128 .f32 ← Prog.lift (.load A.arg4 (Rect.unit (s := S1024x512) ![768, 256] S128x128.size inb_S1024x512_S128x128_768_256).toLoadRect (View.loadsAt_vmem h_S128x128))
    let v1424 : Vec F S128x128 .f32 ← Prog.lift (.load A.arg7 (Rect.unit (s := S1024x128) ![768, 0] S128x128.size inb_S1024x128_S128x128_768_0).toLoadRect (View.loadsAt_vmem h_S128x128))
    let v1428 : Vec F S128x128 .f32 ← Prog.lift (.load A.arg8 (Rect.unit (s := S1024x128) ![768, 0] S128x128.size inb_S1024x128_S128x128_768_0).toLoadRect (View.loadsAt_vmem h_S128x128))
    let v1432 : Vec F S128x128 .f32 ← Prog.lift (.load A.arg5 (Rect.unit (s := S1024x512) ![768, 256] S128x128.size inb_S1024x512_S128x128_768_256).toLoadRect (View.loadsAt_vmem h_S128x128))
    let v1433 : Vec F S128x128 .f32 ← Prog.lift (.load A.arg7 (Rect.unit (s := S1024x128) ![768, 0] S128x128.size inb_S1024x128_S128x128_768_0).toLoadRect (View.loadsAt_vmem h_S128x128))
    let v1437 : Vec F S128x128 .f32 ← Prog.lift (.load A.arg8 (Rect.unit (s := S1024x128) ![768, 0] S128x128.size inb_S1024x128_S128x128_768_0).toLoadRect (View.loadsAt_vmem h_S128x128))
    pure ⟨k0_pay210 v1423 v1424 v1428, k0_pay211 v1432 v1433 v1437⟩)
  fC44 A v1431 v1440

def fR27 (A : KArgs) : KProg F (FRes F) := do
  let ⟨v1485, v1496, v1498, v1500, v1506⟩ : Σ' (v1485 : FVec F S128x128 .f32) (v1496 : FVec F S128x128 .f32) (v1498 : FVec F S128x256 .bf16) (v1500 : FVec F S128x256 .f32), FVec F S128x128 .f32 ← (do
    let v1477 : Vec F S128x128 .f32 ← Prog.lift (.load A.arg4 (Rect.unit (s := S1024x512) ![768, 384] S128x128.size inb_S1024x512_S128x128_768_384).toLoadRect (View.loadsAt_vmem h_S128x128))
    let v1478 : Vec F S128x128 .f32 ← Prog.lift (.load A.arg7 (Rect.unit (s := S1024x128) ![768, 0] S128x128.size inb_S1024x128_S128x128_768_0).toLoadRect (View.loadsAt_vmem h_S128x128))
    let v1482 : Vec F S128x128 .f32 ← Prog.lift (.load A.arg8 (Rect.unit (s := S1024x128) ![768, 0] S128x128.size inb_S1024x128_S128x128_768_0).toLoadRect (View.loadsAt_vmem h_S128x128))
    let v1486 : Vec F S128x128 .f32 ← Prog.lift (.load A.arg5 (Rect.unit (s := S1024x512) ![768, 384] S128x128.size inb_S1024x512_S128x128_768_384).toLoadRect (View.loadsAt_vmem h_S128x128))
    let v1487 : Vec F S128x128 .f32 ← Prog.lift (.load A.arg7 (Rect.unit (s := S1024x128) ![768, 0] S128x128.size inb_S1024x128_S128x128_768_0).toLoadRect (View.loadsAt_vmem h_S128x128))
    let v1491 : Vec F S128x128 .f32 ← Prog.lift (.load A.arg8 (Rect.unit (s := S1024x128) ![768, 0] S128x128.size inb_S1024x128_S128x128_768_0).toLoadRect (View.loadsAt_vmem h_S128x128))
    let v1497 : Vec F S128x256 .f32 ← Prog.lift (.load A.arg6 (Rect.unit (s := S1024x1024) ![768, 768] S128x256.size inb_S1024x1024_S128x256_768_768).toLoadRect (View.loadsAt_vmem h_S128x256))
    let v1499 : Vec F S1x128x256 .f32 ← Prog.lift (.load A.arg12 (Rect.unit (s := S4x128x256) ![3, 0, 0] S1x128x256.size inb_S4x128x256_S1x128x256_3_0_0).toLoadRect (View.loadsAt_vmem h_S1x128x256))
    let v1504 : Vec F S1x128x128 .f32 ← Prog.lift (.load A.arg9 (Rect.unit (s := S4x128x128) ![3, 0, 0] S1x128x128.size inb_S4x128x128_S1x128x128_3_0_0).toLoadRect (View.loadsAt_vmem h_S1x128x128))
    pure ⟨k0_pay218 v1477 v1478 v1482, k0_pay219 v1486 v1487 v1491, k0_pay220 v1497, k0_pay221 v1499, k0_pay222 v1477 v1478 v1482 v1486 v1487 v1491 v1504⟩)
  fC46 A v1485 v1496 v1498 v1500 v1506

def fR28 (A : KArgs) : KProg F (FRes F) := do
  let v1539 : FVec F S128x128 .f32 ← (do
    let v1531 : Vec F S128x128 .f32 ← Prog.lift (.load A.arg4 (Rect.unit (s := S1024x512) ![896, 0] S128x128.size inb_S1024x512_S128x128_896_0).toLoadRect (View.loadsAt_vmem h_S128x128))
    let v1532 : Vec F S128x128 .f32 ← Prog.lift (.load A.arg7 (Rect.unit (s := S1024x128) ![896, 0] S128x128.size inb_S1024x128_S128x128_896_0).toLoadRect (View.loadsAt_vmem h_S128x128))
    let v1536 : Vec F S128x128 .f32 ← Prog.lift (.load A.arg8 (Rect.unit (s := S1024x128) ![896, 0] S128x128.size inb_S1024x128_S128x128_896_0).toLoadRect (View.loadsAt_vmem h_S128x128))
    pure (k0_pay225 v1531 v1532 v1536))
  fC47 A v1539

def fR29 (A : KArgs) : KProg F (FRes F) := do
  let ⟨v1593, v1604, v1605⟩ : Σ' (v1593 : FVec F S128x128 .f32) (v1604 : FVec F S128x128 .f32), Vec F S128x256 .f32 ← (do
    let v1585 : Vec F S128x128 .f32 ← Prog.lift (.load A.arg4 (Rect.unit (s := S1024x512) ![896, 128] S128x128.size inb_S1024x512_S128x128_896_128).toLoadRect (View.loadsAt_vmem h_S128x128))
    let v1586 : Vec F S128x128 .f32 ← Prog.lift (.load A.arg7 (Rect.unit (s := S1024x128) ![896, 0] S128x128.size inb_S1024x128_S128x128_896_0).toLoadRect (View.loadsAt_vmem h_S128x128))
    let v1590 : Vec F S128x128 .f32 ← Prog.lift (.load A.arg8 (Rect.unit (s := S1024x128) ![896, 0] S128x128.size inb_S1024x128_S128x128_896_0).toLoadRect (View.loadsAt_vmem h_S128x128))
    let v1594 : Vec F S128x128 .f32 ← Prog.lift (.load A.arg5 (Rect.unit (s := S1024x512) ![896, 128] S128x128.size inb_S1024x512_S128x128_896_128).toLoadRect (View.loadsAt_vmem h_S128x128))
    let v1595 : Vec F S128x128 .f32 ← Prog.lift (.load A.arg7 (Rect.unit (s := S1024x128) ![896, 0] S128x128.size inb_S1024x128_S128x128_896_0).toLoadRect (View.loadsAt_vmem h_S128x128))
    let v1599 : Vec F S128x128 .f32 ← Prog.lift (.load A.arg8 (Rect.unit (s := S1024x128) ![896, 0] S128x128.size inb_S1024x128_S128x128_896_0).toLoadRect (View.loadsAt_vmem h_S128x128))
    let v1605 : Vec F S128x256 .f32 ← Prog.lift (.load A.arg6 (Rect.unit (s := S1024x1024) ![896, 256] S128x256.size inb_S1024x1024_S128x256_896_256).toLoadRect (View.loadsAt_vmem h_S128x256))
    pure ⟨k0_pay233 v1585 v1586 v1590, k0_pay234 v1594 v1595 v1599, v1605⟩)
  fC49 A v1593 v1604 v1605

def fR30 (A : KArgs) : KProg F (FRes F) := do

  fC50 A

def fR31 (A : KArgs) : KProg F (FRes F) := do
  let ⟨v1701, v1702, v1703⟩ : Σ' (v1701 : FVec F S128x128 .f32) (v1702 : Vec F S128x128 .f32), Vec F S128x128 .f32 ← (do
    let v1693 : Vec F S128x128 .f32 ← Prog.lift (.load A.arg4 (Rect.unit (s := S1024x512) ![896, 384] S128x128.size inb_S1024x512_S128x128_896_384).toLoadRect (View.loadsAt_vmem h_S128x128))
    let v1694 : Vec F S128x128 .f32 ← Prog.lift (.load A.arg7 (Rect.unit (s := S1024x128) ![896, 0] S128x128.size inb_S1024x128_S128x128_896_0).toLoadRect (View.loadsAt_vmem h_S128x128))
    let v1698 : Vec F S128x128 .f32 ← Prog.lift (.load A.arg8 (Rect.unit (s := S1024x128) ![896, 0] S128x128.size inb_S1024x128_S128x128_896_0).toLoadRect (View.loadsAt_vmem h_S128x128))
    let v1702 : Vec F S128x128 .f32 ← Prog.lift (.load A.arg5 (Rect.unit (s := S1024x512) ![896, 384] S128x128.size inb_S1024x512_S128x128_896_384).toLoadRect (View.loadsAt_vmem h_S128x128))
    let v1703 : Vec F S128x128 .f32 ← Prog.lift (.load A.arg7 (Rect.unit (s := S1024x128) ![896, 0] S128x128.size inb_S1024x128_S128x128_896_0).toLoadRect (View.loadsAt_vmem h_S128x128))
    pure ⟨k0_pay246 v1693 v1694 v1698, v1702, v1703⟩)
  fC52 A v1701 v1702 v1703

theorem fstep0 (A : KArgs) : fC1 (F := F) A = (headF A (c := 0) (h := 0) (by decide) (by decide) >>= fun _ => fR1 A) := by
  simp only [KArgs.of, fC1, fC2, k0_part1_eq_skeleton, k0_part1_skel, k0_part2_eq_skeleton, k0_part2_skel, fR1, headF, bind_assoc, pure_bind]
  rfl

theorem fstep1 (A : KArgs) : fR1 (F := F) A = (headF A (c := 0) (h := 1) (by decide) (by decide) >>= fun _ => fR2 A) := by
  simp only [KArgs.of, fR1, fC3, fC4, k0_part3_eq_skeleton, k0_part3_skel, k0_part4_eq_skeleton, k0_part4_skel, fR2, headF, bind_assoc, pure_bind]
  rfl

theorem fstep2 (A : KArgs) : fR2 (F := F) A = (headF A (c := 0) (h := 2) (by decide) (by decide) >>= fun _ => fR3 A) := by
  simp only [KArgs.of, fR2, fC5, k0_part5_eq_skeleton, k0_part5_skel, fR3, headF, bind_assoc, pure_bind]
  rfl

theorem fstep3 (A : KArgs) : fR3 (F := F) A = (headF A (c := 0) (h := 3) (by decide) (by decide) >>= fun _ => fR4 A) := by
  simp only [KArgs.of, fR3, fC6, fC7, k0_part6_eq_skeleton, k0_part6_skel, k0_part7_eq_skeleton, k0_part7_skel, fR4, headF, bind_assoc, pure_bind]
  rfl

theorem fstep4 (A : KArgs) : fR4 (F := F) A = (headF A (c := 1) (h := 0) (by decide) (by decide) >>= fun _ => fR5 A) := by
  simp only [KArgs.of, fR4, fC8, fC9, k0_part8_eq_skeleton, k0_part8_skel, k0_part9_eq_skeleton, k0_part9_skel, fR5, headF, bind_assoc, pure_bind]
  rfl

theorem fstep5 (A : KArgs) : fR5 (F := F) A = (headF A (c := 1) (h := 1) (by decide) (by decide) >>= fun _ => fR6 A) := by
  simp only [KArgs.of, fR5, fC10, k0_part10_eq_skeleton, k0_part10_skel, fR6, headF, bind_assoc, pure_bind]
  rfl

theorem fstep6 (A : KArgs) : fR6 (F := F) A = (headF A (c := 1) (h := 2) (by decide) (by decide) >>= fun _ => fR7 A) := by
  simp only [KArgs.of, fR6, fC11, fC12, k0_part11_eq_skeleton, k0_part11_skel, k0_part12_eq_skeleton, k0_part12_skel, fR7, headF, bind_assoc, pure_bind]
  rfl

theorem fstep7 (A : KArgs) : fR7 (F := F) A = (headF A (c := 1) (h := 3) (by decide) (by decide) >>= fun _ => fR8 A) := by
  simp only [KArgs.of, fR7, fC13, fC14, k0_part13_eq_skeleton, k0_part13_skel, k0_part14_eq_skeleton, k0_part14_skel, fR8, headF, bind_assoc, pure_bind]
  rfl

theorem fstep8 (A : KArgs) : fR8 (F := F) A = (headF A (c := 2) (h := 0) (by decide) (by decide) >>= fun _ => fR9 A) := by
  simp only [KArgs.of, fR8, fC15, k0_part15_eq_skeleton, k0_part15_skel, fR9, headF, bind_assoc, pure_bind]
  rfl

theorem fstep9 (A : KArgs) : fR9 (F := F) A = (headF A (c := 2) (h := 1) (by decide) (by decide) >>= fun _ => fR10 A) := by
  simp only [KArgs.of, fR9, fC16, fC17, k0_part16_eq_skeleton, k0_part16_skel, k0_part17_eq_skeleton, k0_part17_skel, fR10, headF, bind_assoc, pure_bind]
  rfl

theorem fstep10 (A : KArgs) : fR10 (F := F) A = (headF A (c := 2) (h := 2) (by decide) (by decide) >>= fun _ => fR11 A) := by
  simp only [KArgs.of, fR10, fC18, k0_part18_eq_skeleton, k0_part18_skel, fR11, headF, bind_assoc, pure_bind]
  rfl

theorem fstep11 (A : KArgs) : fR11 (F := F) A = (headF A (c := 2) (h := 3) (by decide) (by decide) >>= fun _ => fR12 A) := by
  simp only [KArgs.of, fR11, fC19, fC20, k0_part19_eq_skeleton, k0_part19_skel, k0_part20_eq_skeleton, k0_part20_skel, fR12, headF, bind_assoc, pure_bind]
  rfl

theorem fstep12 (A : KArgs) : fR12 (F := F) A = (headF A (c := 3) (h := 0) (by decide) (by decide) >>= fun _ => fR13 A) := by
  simp only [KArgs.of, fR12, fC21, fC22, k0_part21_eq_skeleton, k0_part21_skel, k0_part22_eq_skeleton, k0_part22_skel, fR13, headF, bind_assoc, pure_bind]
  rfl

theorem fstep13 (A : KArgs) : fR13 (F := F) A = (headF A (c := 3) (h := 1) (by decide) (by decide) >>= fun _ => fR14 A) := by
  simp only [KArgs.of, fR13, fC23, k0_part23_eq_skeleton, k0_part23_skel, fR14, headF, bind_assoc, pure_bind]
  rfl

theorem fstep14 (A : KArgs) : fR14 (F := F) A = (headF A (c := 3) (h := 2) (by decide) (by decide) >>= fun _ => fR15 A) := by
  simp only [KArgs.of, fR14, fC24, fC25, k0_part24_eq_skeleton, k0_part24_skel, k0_part25_eq_skeleton, k0_part25_skel, fR15, headF, bind_assoc, pure_bind]
  rfl

theorem fstep15 (A : KArgs) : fR15 (F := F) A = (headF A (c := 3) (h := 3) (by decide) (by decide) >>= fun _ => fR16 A) := by
  simp only [KArgs.of, fR15, fC26, fC27, k0_part26_eq_skeleton, k0_part26_skel, k0_part27_eq_skeleton, k0_part27_skel, fR16, headF, bind_assoc, pure_bind]
  rfl

theorem fstep16 (A : KArgs) : fR16 (F := F) A = (headF A (c := 4) (h := 0) (by decide) (by decide) >>= fun _ => fR17 A) := by
  simp only [KArgs.of, fR16, fC28, k0_part28_eq_skeleton, k0_part28_skel, fR17, headF, bind_assoc, pure_bind]
  rfl

theorem fstep17 (A : KArgs) : fR17 (F := F) A = (headF A (c := 4) (h := 1) (by decide) (by decide) >>= fun _ => fR18 A) := by
  simp only [KArgs.of, fR17, fC29, fC30, k0_part29_eq_skeleton, k0_part29_skel, k0_part30_eq_skeleton, k0_part30_skel, fR18, headF, bind_assoc, pure_bind]
  rfl

theorem fstep18 (A : KArgs) : fR18 (F := F) A = (headF A (c := 4) (h := 2) (by decide) (by decide) >>= fun _ => fR19 A) := by
  simp only [KArgs.of, fR18, fC31, fC32, k0_part31_eq_skeleton, k0_part31_skel, k0_part32_eq_skeleton, k0_part32_skel, fR19, headF, bind_assoc, pure_bind]
  rfl

theorem fstep19 (A : KArgs) : fR19 (F := F) A = (headF A (c := 4) (h := 3) (by decide) (by decide) >>= fun _ => fR20 A) := by
  simp only [KArgs.of, fR19, fC33, k0_part33_eq_skeleton, k0_part33_skel, fR20, headF, bind_assoc, pure_bind]
  rfl

theorem fstep20 (A : KArgs) : fR20 (F := F) A = (headF A (c := 5) (h := 0) (by decide) (by decide) >>= fun _ => fR21 A) := by
  simp only [KArgs.of, fR20, fC34, fC35, k0_part34_eq_skeleton, k0_part34_skel, k0_part35_eq_skeleton, k0_part35_skel, fR21, headF, bind_assoc, pure_bind]
  rfl

theorem fstep21 (A : KArgs) : fR21 (F := F) A = (headF A (c := 5) (h := 1) (by decide) (by decide) >>= fun _ => fR22 A) := by
  simp only [KArgs.of, fR21, fC36, k0_part36_eq_skeleton, k0_part36_skel, fR22, headF, bind_assoc, pure_bind]
  rfl

theorem fstep22 (A : KArgs) : fR22 (F := F) A = (headF A (c := 5) (h := 2) (by decide) (by decide) >>= fun _ => fR23 A) := by
  simp only [KArgs.of, fR22, fC37, fC38, k0_part37_eq_skeleton, k0_part37_skel, k0_part38_eq_skeleton, k0_part38_skel, fR23, headF, bind_assoc, pure_bind]
  rfl

theorem fstep23 (A : KArgs) : fR23 (F := F) A = (headF A (c := 5) (h := 3) (by decide) (by decide) >>= fun _ => fR24 A) := by
  simp only [KArgs.of, fR23, fC39, fC40, k0_part39_eq_skeleton, k0_part39_skel, k0_part40_eq_skeleton, k0_part40_skel, fR24, headF, bind_assoc, pure_bind]
  rfl

theorem fstep24 (A : KArgs) : fR24 (F := F) A = (headF A (c := 6) (h := 0) (by decide) (by decide) >>= fun _ => fR25 A) := by
  simp only [KArgs.of, fR24, fC41, k0_part41_eq_skeleton, k0_part41_skel, fR25, headF, bind_assoc, pure_bind]
  rfl

theorem fstep25 (A : KArgs) : fR25 (F := F) A = (headF A (c := 6) (h := 1) (by decide) (by decide) >>= fun _ => fR26 A) := by
  simp only [KArgs.of, fR25, fC42, fC43, k0_part42_eq_skeleton, k0_part42_skel, k0_part43_eq_skeleton, k0_part43_skel, fR26, headF, bind_assoc, pure_bind]
  rfl

theorem fstep26 (A : KArgs) : fR26 (F := F) A = (headF A (c := 6) (h := 2) (by decide) (by decide) >>= fun _ => fR27 A) := by
  simp only [KArgs.of, fR26, fC44, fC45, k0_part44_eq_skeleton, k0_part44_skel, k0_part45_eq_skeleton, k0_part45_skel, fR27, headF, bind_assoc, pure_bind]
  rfl

theorem fstep27 (A : KArgs) : fR27 (F := F) A = (headF A (c := 6) (h := 3) (by decide) (by decide) >>= fun _ => fR28 A) := by
  simp only [KArgs.of, fR27, fC46, k0_part46_eq_skeleton, k0_part46_skel, fR28, headF, bind_assoc, pure_bind]
  rfl

theorem fstep28 (A : KArgs) : fR28 (F := F) A = (headF A (c := 7) (h := 0) (by decide) (by decide) >>= fun _ => fR29 A) := by
  simp only [KArgs.of, fR28, fC47, fC48, k0_part47_eq_skeleton, k0_part47_skel, k0_part48_eq_skeleton, k0_part48_skel, fR29, headF, bind_assoc, pure_bind]
  rfl

theorem fstep29 (A : KArgs) : fR29 (F := F) A = (headF A (c := 7) (h := 1) (by decide) (by decide) >>= fun _ => fR30 A) := by
  simp only [KArgs.of, fR29, fC49, k0_part49_eq_skeleton, k0_part49_skel, fR30, headF, bind_assoc, pure_bind]
  rfl

theorem fstep30 (A : KArgs) : fR30 (F := F) A = (headF A (c := 7) (h := 2) (by decide) (by decide) >>= fun _ => fR31 A) := by
  simp only [KArgs.of, fR30, fC50, fC51, k0_part50_eq_skeleton, k0_part50_skel, k0_part51_eq_skeleton, k0_part51_skel, fR31, headF, bind_assoc, pure_bind]
  rfl

/-- What follows the last part. -/
def fK (A : KArgs) (x : Σ' (v1740 : FVec F S128x256 .f32), FVec F S128x256 .f32) : KProg F PUnit := do
    let v1744 : Vec F S1x128x256 .f32 ← Prog.lift (.load A.arg12 (Rect.unit (s := S4x128x256) ![3, 0, 0] S1x128x256.size inb_S4x128x256_S1x128x256_3_0_0).toLoadRect (View.loadsAt_vmem h_S1x128x256))
    Prog.lift (.store A.arg12 (Rect.unit (s := S4x128x256) ![3, 0, 0] S1x128x256.size inb_S4x128x256_S1x128x256_3_0_0) (k0_pay2 x.1 x.2) Finset.univ (View.stores_vmem_bits_univ h_S1x128x256 rfl) (.inl rfl))
    pure ⟨⟩

theorem fpart (A : KArgs) : k0_part53 (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 = fC1 A := by
  rw [k0_part53_eq_skeleton]; rfl

theorem flast (A : KArgs) : (fR31 (F := F) A >>= fK A) = (headF A (c := 7) (h := 3) (by decide) (by decide)) := by
  simp only [KArgs.of, fR31, fC52, k0_part52_eq_skeleton, k0_part52_skel, ftail, fK, headF, bind_assoc, pure_bind]
  rfl

theorem fE31 (A : KArgs) : (fR31 (F := F) A >>= fK A) = headsF A 1 31 := by
  rw [flast]; rfl

theorem fE30 (A : KArgs) : (fR30 (F := F) A >>= fK A) = headsF A 2 30 := by
  rw [fstep30, bind_assoc]; simp only [KArgs.of, fE31]; rfl

theorem fE29 (A : KArgs) : (fR29 (F := F) A >>= fK A) = headsF A 3 29 := by
  rw [fstep29, bind_assoc]; simp only [KArgs.of, fE30]; rfl

theorem fE28 (A : KArgs) : (fR28 (F := F) A >>= fK A) = headsF A 4 28 := by
  rw [fstep28, bind_assoc]; simp only [KArgs.of, fE29]; rfl

theorem fE27 (A : KArgs) : (fR27 (F := F) A >>= fK A) = headsF A 5 27 := by
  rw [fstep27, bind_assoc]; simp only [KArgs.of, fE28]; rfl

theorem fE26 (A : KArgs) : (fR26 (F := F) A >>= fK A) = headsF A 6 26 := by
  rw [fstep26, bind_assoc]; simp only [KArgs.of, fE27]; rfl

theorem fE25 (A : KArgs) : (fR25 (F := F) A >>= fK A) = headsF A 7 25 := by
  rw [fstep25, bind_assoc]; simp only [KArgs.of, fE26]; rfl

theorem fE24 (A : KArgs) : (fR24 (F := F) A >>= fK A) = headsF A 8 24 := by
  rw [fstep24, bind_assoc]; simp only [KArgs.of, fE25]; rfl

theorem fE23 (A : KArgs) : (fR23 (F := F) A >>= fK A) = headsF A 9 23 := by
  rw [fstep23, bind_assoc]; simp only [KArgs.of, fE24]; rfl

theorem fE22 (A : KArgs) : (fR22 (F := F) A >>= fK A) = headsF A 10 22 := by
  rw [fstep22, bind_assoc]; simp only [KArgs.of, fE23]; rfl

theorem fE21 (A : KArgs) : (fR21 (F := F) A >>= fK A) = headsF A 11 21 := by
  rw [fstep21, bind_assoc]; simp only [KArgs.of, fE22]; rfl

theorem fE20 (A : KArgs) : (fR20 (F := F) A >>= fK A) = headsF A 12 20 := by
  rw [fstep20, bind_assoc]; simp only [KArgs.of, fE21]; rfl

theorem fE19 (A : KArgs) : (fR19 (F := F) A >>= fK A) = headsF A 13 19 := by
  rw [fstep19, bind_assoc]; simp only [KArgs.of, fE20]; rfl

theorem fE18 (A : KArgs) : (fR18 (F := F) A >>= fK A) = headsF A 14 18 := by
  rw [fstep18, bind_assoc]; simp only [KArgs.of, fE19]; rfl

theorem fE17 (A : KArgs) : (fR17 (F := F) A >>= fK A) = headsF A 15 17 := by
  rw [fstep17, bind_assoc]; simp only [KArgs.of, fE18]; rfl

theorem fE16 (A : KArgs) : (fR16 (F := F) A >>= fK A) = headsF A 16 16 := by
  rw [fstep16, bind_assoc]; simp only [KArgs.of, fE17]; rfl

theorem fE15 (A : KArgs) : (fR15 (F := F) A >>= fK A) = headsF A 17 15 := by
  rw [fstep15, bind_assoc]; simp only [KArgs.of, fE16]; rfl

theorem fE14 (A : KArgs) : (fR14 (F := F) A >>= fK A) = headsF A 18 14 := by
  rw [fstep14, bind_assoc]; simp only [KArgs.of, fE15]; rfl

theorem fE13 (A : KArgs) : (fR13 (F := F) A >>= fK A) = headsF A 19 13 := by
  rw [fstep13, bind_assoc]; simp only [KArgs.of, fE14]; rfl

theorem fE12 (A : KArgs) : (fR12 (F := F) A >>= fK A) = headsF A 20 12 := by
  rw [fstep12, bind_assoc]; simp only [KArgs.of, fE13]; rfl

theorem fE11 (A : KArgs) : (fR11 (F := F) A >>= fK A) = headsF A 21 11 := by
  rw [fstep11, bind_assoc]; simp only [KArgs.of, fE12]; rfl

theorem fE10 (A : KArgs) : (fR10 (F := F) A >>= fK A) = headsF A 22 10 := by
  rw [fstep10, bind_assoc]; simp only [KArgs.of, fE11]; rfl

theorem fE9 (A : KArgs) : (fR9 (F := F) A >>= fK A) = headsF A 23 9 := by
  rw [fstep9, bind_assoc]; simp only [KArgs.of, fE10]; rfl

theorem fE8 (A : KArgs) : (fR8 (F := F) A >>= fK A) = headsF A 24 8 := by
  rw [fstep8, bind_assoc]; simp only [KArgs.of, fE9]; rfl

theorem fE7 (A : KArgs) : (fR7 (F := F) A >>= fK A) = headsF A 25 7 := by
  rw [fstep7, bind_assoc]; simp only [KArgs.of, fE8]; rfl

theorem fE6 (A : KArgs) : (fR6 (F := F) A >>= fK A) = headsF A 26 6 := by
  rw [fstep6, bind_assoc]; simp only [KArgs.of, fE7]; rfl

theorem fE5 (A : KArgs) : (fR5 (F := F) A >>= fK A) = headsF A 27 5 := by
  rw [fstep5, bind_assoc]; simp only [KArgs.of, fE6]; rfl

theorem fE4 (A : KArgs) : (fR4 (F := F) A >>= fK A) = headsF A 28 4 := by
  rw [fstep4, bind_assoc]; simp only [KArgs.of, fE5]; rfl

theorem fE3 (A : KArgs) : (fR3 (F := F) A >>= fK A) = headsF A 29 3 := by
  rw [fstep3, bind_assoc]; simp only [KArgs.of, fE4]; rfl

theorem fE2 (A : KArgs) : (fR2 (F := F) A >>= fK A) = headsF A 30 2 := by
  rw [fstep2, bind_assoc]; simp only [KArgs.of, fE3]; rfl

theorem fE1 (A : KArgs) : (fR1 (F := F) A >>= fK A) = headsF A 31 1 := by
  rw [fstep1, bind_assoc]; simp only [KArgs.of, fE2]; rfl

theorem fE0 (A : KArgs) : (fC1 (F := F) A >>= fK A) = headsF A 32 0 := by
  rw [fstep0, bind_assoc]; simp only [KArgs.of, fE1]; rfl

end Cert.RetIdeal.Hand
-- ==== Proof.RetIdealHand.StepsB.lean ====
module

public import proofs.«01_k».proof.Proof.RetIdealHand.Base

@[expose] public section

set_option synthInstance.maxSize 4096

noncomputable section

/-! The printed body, cut at the end of each head, is a run of the heads. -/

namespace Cert.RetIdeal.Hand

open Cert.RetIdeal Cert.RetIdeal.Gen Idealize.ShloMosaic Idealize.SL.Sem

variable {F : FTy → Type} [FloatOps F] [Named F]

/-- What the body returns. -/
abbrev BRes (F : FTy → Type) [FloatOps F] : Type := Σ' (v1433 : FVec F S128x128 .f32) (v1435 : FVec F S128x256 .bf16) (v1437 : FVec F S128x256 .f32), FVec F S128x128 .bf16

/-- The statements after the last part. -/
def btail (A : KArgs) (v1422 : FVec F S128x128 .f32) (v1433 : FVec F S128x128 .f32) : KProg F (BRes F) := do
  let v1434 : Vec F S128x256 .f32 ← Prog.lift (.load A.arg6 (Rect.unit (s := S1024x1024) ![0, 768] S128x256.size inb_S1024x1024_S128x256_0_768).toLoadRect (View.loadsAt_vmem h_S128x256))
  let v1436 : Vec F S1x128x256 .f32 ← Prog.lift (.load A.arg12 (Rect.unit (s := S4x128x256) ![3, 0, 0] S1x128x256.size inb_S4x128x256_S1x128x256_3_0_0).toLoadRect (View.loadsAt_vmem h_S1x128x256))
  let v1438 : Vec F S1x1x128x128 .f32 ← Prog.lift (.load A.arg10 (Rect.unit (s := S4x4x128x128) ![3, 1, 0, 0] S1x1x128x128.size inb_S4x4x128x128_S1x1x128x128_3_1_0_0).toLoadRect (View.loadsAt_vmem h_S1x1x128x128))
  pure ⟨v1433, k0_pay443 v1434, k0_pay444 v1436, k0_pay445 v1422 v1438⟩

def bC97 (A : KArgs) (v1388 : FVec F S128x128 .f32) (v1390 : FVec F S128x256 .bf16) (v1392 : FVec F S128x256 .f32) (v1398 : FVec F S128x256 .f32) (v1399 : Vec F S1x1x128x128 .f32) : KProg F (BRes F) := do
  let ⟨v1422, v1433⟩ ← A.of k0_part97 v1388 v1390 v1392 v1398 v1399
  btail A v1422 v1433

def bC96 (A : KArgs) : KProg F (BRes F) := do
  let ⟨v1388, v1390, v1392, v1398, v1399⟩ ← A.of k0_part96
  bC97 A v1388 v1390 v1392 v1398 v1399

def bC95 (A : KArgs) (v1332 : FVec F S128x128 .f32) (v1333 : Vec F S128x128 .f32) (v1336 : FVec F S128x128 .f32) : KProg F (BRes F) := do
  A.of k0_part95 v1332 v1333 v1336
  bC96 A

def bC94 (A : KArgs) (v1287 : FVec F S128x128 .f32) (v1298 : FVec F S128x128 .f32) (v1300 : FVec F S128x256 .bf16) (v1302 : FVec F S128x256 .f32) : KProg F (BRes F) := do
  let ⟨v1332, v1333, v1336⟩ ← A.of k0_part94 v1287 v1298 v1300 v1302
  bC95 A v1332 v1333 v1336

def bC93 (A : KArgs) (v1255 : FVec F S128x256 .bf16) (v1257 : FVec F S128x256 .f32) (v1266 : FVec F S128x128 .f32) (v1271 : FVec F S128x256 .f32) : KProg F (BRes F) := do
  let ⟨v1287, v1298, v1300, v1302⟩ ← A.of k0_part93 v1255 v1257 v1266 v1271
  bC94 A v1287 v1298 v1300 v1302

def bC92 (A : KArgs) (v1237 : FVec F S128x128 .f32) (v1238 : FVec F S128x128 .f32) : KProg F (BRes F) := do
  let ⟨v1255, v1257, v1266, v1271⟩ ← A.of k0_part92 v1237 v1238
  bC93 A v1255 v1257 v1266 v1271

def bC91 (A : KArgs) (v1197 : FVec F S128x128 .f32) (v1208 : FVec F S128x128 .f32) : KProg F (BRes F) := do
  let ⟨v1237, v1238⟩ ← A.of k0_part91 v1197 v1208
  bC92 A v1237 v1238

def bC90 (A : KArgs) (v1163 : FVec F S128x128 .f32) (v1165 : FVec F S128x256 .bf16) (v1167 : FVec F S128x256 .f32) (v1173 : FVec F S128x256 .f32) (v1174 : Vec F S1x1x128x128 .f32) : KProg F (BRes F) := do
  let ⟨v1197, v1208⟩ ← A.of k0_part90 v1163 v1165 v1167 v1173 v1174
  bC91 A v1197 v1208

def bC89 (A : KArgs) : KProg F (BRes F) := do
  let ⟨v1163, v1165, v1167, v1173, v1174⟩ ← A.of k0_part89
  bC90 A v1163 v1165 v1167 v1173 v1174

def bC88 (A : KArgs) (v1107 : FVec F S128x128 .f32) (v1108 : Vec F S128x128 .f32) (v1111 : FVec F S128x128 .f32) : KProg F (BRes F) := do
  A.of k0_part88 v1107 v1108 v1111
  bC89 A

def bC87 (A : KArgs) (v1062 : FVec F S128x128 .f32) (v1073 : FVec F S128x128 .f32) (v1075 : FVec F S128x256 .bf16) (v1077 : FVec F S128x256 .f32) : KProg F (BRes F) := do
  let ⟨v1107, v1108, v1111⟩ ← A.of k0_part87 v1062 v1073 v1075 v1077
  bC88 A v1107 v1108 v1111

def bC86 (A : KArgs) (v1030 : FVec F S128x256 .bf16) (v1032 : FVec F S128x256 .f32) (v1041 : FVec F S128x128 .f32) (v1046 : FVec F S128x256 .f32) : KProg F (BRes F) := do
  let ⟨v1062, v1073, v1075, v1077⟩ ← A.of k0_part86 v1030 v1032 v1041 v1046
  bC87 A v1062 v1073 v1075 v1077

def bC85 (A : KArgs) (v1012 : FVec F S128x128 .f32) (v1013 : FVec F S128x128 .f32) : KProg F (BRes F) := do
  let ⟨v1030, v1032, v1041, v1046⟩ ← A.of k0_part85 v1012 v1013
  bC86 A v1030 v1032 v1041 v1046

def bC84 (A : KArgs) (v972 : FVec F S128x128 .f32) (v983 : FVec F S128x128 .f32) : KProg F (BRes F) := do
  let ⟨v1012, v1013⟩ ← A.of k0_part84 v972 v983
  bC85 A v1012 v1013

def bC83 (A : KArgs) (v938 : FVec F S128x128 .f32) (v940 : FVec F S128x256 .bf16) (v942 : FVec F S128x256 .f32) (v948 : FVec F S128x256 .f32) (v949 : Vec F S1x1x128x128 .f32) : KProg F (BRes F) := do
  let ⟨v972, v983⟩ ← A.of k0_part83 v938 v940 v942 v948 v949
  bC84 A v972 v983

def bC82 (A : KArgs) : KProg F (BRes F) := do
  let ⟨v938, v940, v942, v948, v949⟩ ← A.of k0_part82
  bC83 A v938 v940 v942 v948 v949

def bC81 (A : KArgs) (v882 : FVec F S128x128 .f32) (v883 : Vec F S128x128 .f32) (v886 : FVec F S128x128 .f32) : KProg F (BRes F) := do
  A.of k0_part81 v882 v883 v886
  bC82 A

def bC80 (A : KArgs) (v837 : FVec F S128x128 .f32) (v848 : FVec F S128x128 .f32) (v850 : FVec F S128x256 .bf16) (v852 : FVec F S128x256 .f32) : KProg F (BRes F) := do
  let ⟨v882, v883, v886⟩ ← A.of k0_part80 v837 v848 v850 v852
  bC81 A v882 v883 v886

def bC79 (A : KArgs) (v805 : FVec F S128x256 .bf16) (v807 : FVec F S128x256 .f32) (v816 : FVec F S128x128 .f32) (v821 : FVec F S128x256 .f32) : KProg F (BRes F) := do
  let ⟨v837, v848, v850, v852⟩ ← A.of k0_part79 v805 v807 v816 v821
  bC80 A v837 v848 v850 v852

def bC78 (A : KArgs) (v787 : FVec F S128x128 .f32) (v788 : FVec F S128x128 .f32) : KProg F (BRes F) := do
  let ⟨v805, v807, v816, v821⟩ ← A.of k0_part78 v787 v788
  bC79 A v805 v807 v816 v821

def bC77 (A : KArgs) (v747 : FVec F S128x128 .f32) (v758 : FVec F S128x128 .f32) : KProg F (BRes F) := do
  let ⟨v787, v788⟩ ← A.of k0_part77 v747 v758
  bC78 A v787 v788

def bC76 (A : KArgs) (v713 : FVec F S128x128 .f32) (v715 : FVec F S128x256 .bf16) (v717 : FVec F S128x256 .f32) (v723 : FVec F S128x256 .f32) (v724 : Vec F S1x1x128x128 .f32) : KProg F (BRes F) := do
  let ⟨v747, v758⟩ ← A.of k0_part76 v713 v715 v717 v723 v724
  bC77 A v747 v758

def bC75 (A : KArgs) : KProg F (BRes F) := do
  let ⟨v713, v715, v717, v723, v724⟩ ← A.of k0_part75
  bC76 A v713 v715 v717 v723 v724

def bC74 (A : KArgs) (v657 : FVec F S128x128 .f32) (v658 : Vec F S128x128 .f32) (v661 : FVec F S128x128 .f32) : KProg F (BRes F) := do
  A.of k0_part74 v657 v658 v661
  bC75 A

def bC73 (A : KArgs) (v612 : FVec F S128x128 .f32) (v623 : FVec F S128x128 .f32) (v625 : FVec F S128x256 .bf16) (v627 : FVec F S128x256 .f32) : KProg F (BRes F) := do
  let ⟨v657, v658, v661⟩ ← A.of k0_part73 v612 v623 v625 v627
  bC74 A v657 v658 v661

def bC72 (A : KArgs) (v580 : FVec F S128x256 .bf16) (v582 : FVec F S128x256 .f32) (v591 : FVec F S128x128 .f32) (v596 : FVec F S128x256 .f32) : KProg F (BRes F) := do
  let ⟨v612, v623, v625, v627⟩ ← A.of k0_part72 v580 v582 v591 v596
  bC73 A v612 v623 v625 v627

def bC71 (A : KArgs) (v562 : FVec F S128x128 .f32) (v563 : FVec F S128x128 .f32) : KProg F (BRes F) := do
  let ⟨v580, v582, v591, v596⟩ ← A.of k0_part71 v562 v563
  bC72 A v580 v582 v591 v596

def bC70 (A : KArgs) (v522 : FVec F S128x128 .f32) (v533 : FVec F S128x128 .f32) : KProg F (BRes F) := do
  let ⟨v562, v563⟩ ← A.of k0_part70 v522 v533
  bC71 A v562 v563

def bC69 (A : KArgs) (v488 : FVec F S128x128 .f32) (v490 : FVec F S128x256 .bf16) (v492 : FVec F S128x256 .f32) (v498 : FVec F S128x256 .f32) (v499 : Vec F S1x1x128x128 .f32) : KProg F (BRes F) := do
  let ⟨v522, v533⟩ ← A.of k0_part69 v488 v490 v492 v498 v499
  bC70 A v522 v533

def bC68 (A : KArgs) : KProg F (BRes F) := do
  let ⟨v488, v490, v492, v498, v499⟩ ← A.of k0_part68
  bC69 A v488 v490 v492 v498 v499

def bC67 (A : KArgs) (v432 : FVec F S128x128 .f32) (v433 : Vec F S128x128 .f32) (v436 : FVec F S128x128 .f32) : KProg F (BRes F) := do
  A.of k0_part67 v432 v433 v436
  bC68 A

def bC66 (A : KArgs) (v387 : FVec F S128x128 .f32) (v398 : FVec F S128x128 .f32) (v400 : FVec F S128x256 .bf16) (v402 : FVec F S128x256 .f32) : KProg F (BRes F) := do
  let ⟨v432, v433, v436⟩ ← A.of k0_part66 v387 v398 v400 v402
  bC67 A v432 v433 v436

def bC65 (A : KArgs) (v355 : FVec F S128x256 .bf16) (v357 : FVec F S128x256 .f32) (v366 : FVec F S128x128 .f32) (v371 : FVec F S128x256 .f32) : KProg F (BRes F) := do
  let ⟨v387, v398, v400, v402⟩ ← A.of k0_part65 v355 v357 v366 v371
  bC66 A v387 v398 v400 v402

def bC64 (A : KArgs) (v337 : FVec F S128x128 .f32) (v338 : FVec F S128x128 .f32) : KProg F (BRes F) := do
  let ⟨v355, v357, v366, v371⟩ ← A.of k0_part64 v337 v338
  bC65 A v355 v357 v366 v371

def bC63 (A : KArgs) (v297 : FVec F S128x128 .f32) (v308 : FVec F S128x128 .f32) : KProg F (BRes F) := do
  let ⟨v337, v338⟩ ← A.of k0_part63 v297 v308
  bC64 A v337 v338

def bC62 (A : KArgs) (v263 : FVec F S128x128 .f32) (v265 : FVec F S128x256 .bf16) (v267 : FVec F S128x256 .f32) (v273 : FVec F S128x256 .f32) (v274 : Vec F S1x1x128x128 .f32) : KProg F (BRes F) := do
  let ⟨v297, v308⟩ ← A.of k0_part62 v263 v265 v267 v273 v274
  bC63 A v297 v308

def bC61 (A : KArgs) : KProg F (BRes F) := do
  let ⟨v263, v265, v267, v273, v274⟩ ← A.of k0_part61
  bC62 A v263 v265 v267 v273 v274

def bC60 (A : KArgs) (v207 : FVec F S128x128 .f32) (v208 : Vec F S128x128 .f32) (v211 : FVec F S128x128 .f32) : KProg F (BRes F) := do
  A.of k0_part60 v207 v208 v211
  bC61 A

def bC59 (A : KArgs) (v162 : FVec F S128x128 .f32) (v173 : FVec F S128x128 .f32) (v175 : FVec F S128x256 .bf16) (v177 : FVec F S128x256 .f32) : KProg F (BRes F) := do
  let ⟨v207, v208, v211⟩ ← A.of k0_part59 v162 v173 v175 v177
  bC60 A v207 v208 v211

def bC58 (A : KArgs) (v130 : FVec F S128x256 .bf16) (v132 : FVec F S128x256 .f32) (v141 : FVec F S128x128 .f32) (v146 : FVec F S128x256 .f32) : KProg F (BRes F) := do
  let ⟨v162, v173, v175, v177⟩ ← A.of k0_part58 v130 v132 v141 v146
  bC59 A v162 v173 v175 v177

def bC57 (A : KArgs) (v112 : FVec F S128x128 .f32) (v113 : FVec F S128x128 .f32) : KProg F (BRes F) := do
  let ⟨v130, v132, v141, v146⟩ ← A.of k0_part57 v112 v113
  bC58 A v130 v132 v141 v146

def bC56 (A : KArgs) (v72 : FVec F S128x128 .f32) (v83 : FVec F S128x128 .f32) : KProg F (BRes F) := do
  let ⟨v112, v113⟩ ← A.of k0_part56 v72 v83
  bC57 A v112 v113

def bC55 (A : KArgs) (v38 : FVec F S128x128 .f32) (v40 : FVec F S128x256 .bf16) (v42 : FVec F S128x256 .f32) (v48 : FVec F S128x256 .f32) (v49 : Vec F S1x1x128x128 .f32) : KProg F (BRes F) := do
  let ⟨v72, v83⟩ ← A.of k0_part55 v38 v40 v42 v48 v49
  bC56 A v72 v83

def bC54 (A : KArgs) : KProg F (BRes F) := do
  let ⟨v38, v40, v42, v48, v49⟩ ← A.of k0_part54
  bC55 A v38 v40 v42 v48 v49

def bR1 (A : KArgs) : KProg F (BRes F) := do
  let ⟨v72, v83⟩ : Σ' (v72 : FVec F S128x128 .f32), FVec F S128x128 .f32 ← (do
    let v64 : Vec F S128x128 .f32 ← Prog.lift (.load A.arg4 (Rect.unit (s := S1024x512) ![896, 128] S128x128.size inb_S1024x512_S128x128_896_128).toLoadRect (View.loadsAt_vmem h_S128x128))
    let v65 : Vec F S128x128 .f32 ← Prog.lift (.load A.arg7 (Rect.unit (s := S1024x128) ![896, 0] S128x128.size inb_S1024x128_S128x128_896_0).toLoadRect (View.loadsAt_vmem h_S128x128))
    let v69 : Vec F S128x128 .f32 ← Prog.lift (.load A.arg8 (Rect.unit (s := S1024x128) ![896, 0] S128x128.size inb_S1024x128_S128x128_896_0).toLoadRect (View.loadsAt_vmem h_S128x128))
    let v73 : Vec F S128x128 .f32 ← Prog.lift (.load A.arg5 (Rect.unit (s := S1024x512) ![896, 128] S128x128.size inb_S1024x512_S128x128_896_128).toLoadRect (View.loadsAt_vmem h_S128x128))
    let v74 : Vec F S128x128 .f32 ← Prog.lift (.load A.arg7 (Rect.unit (s := S1024x128) ![896, 0] S128x128.size inb_S1024x128_S128x128_896_0).toLoadRect (View.loadsAt_vmem h_S128x128))
    let v78 : Vec F S128x128 .f32 ← Prog.lift (.load A.arg8 (Rect.unit (s := S1024x128) ![896, 0] S128x128.size inb_S1024x128_S128x128_896_0).toLoadRect (View.loadsAt_vmem h_S128x128))
    pure ⟨k0_pay261 v64 v65 v69, k0_pay262 v73 v74 v78⟩)
  bC56 A v72 v83

def bR2 (A : KArgs) : KProg F (BRes F) := do
  let ⟨v112, v113⟩ : Σ' (v112 : FVec F S128x128 .f32), FVec F S128x128 .f32 ← (do
    let v109 : Vec F S128x128 .f32 ← Prog.lift (.load A.arg4 (Rect.unit (s := S1024x512) ![896, 256] S128x128.size inb_S1024x512_S128x128_896_256).toLoadRect (View.loadsAt_vmem h_S128x128))
    let v110 : Vec F S128x128 .f32 ← Prog.lift (.load A.arg7 (Rect.unit (s := S1024x128) ![896, 0] S128x128.size inb_S1024x128_S128x128_896_0).toLoadRect (View.loadsAt_vmem h_S128x128))
    pure ⟨k0_pay266 v109 v110, k0_pay267 v109⟩)
  bC57 A v112 v113

def bR3 (A : KArgs) : KProg F (BRes F) := do
  let ⟨v162, v173, v175, v177⟩ : Σ' (v162 : FVec F S128x128 .f32) (v173 : FVec F S128x128 .f32) (v175 : FVec F S128x256 .bf16), FVec F S128x256 .f32 ← (do
    let v154 : Vec F S128x128 .f32 ← Prog.lift (.load A.arg4 (Rect.unit (s := S1024x512) ![896, 384] S128x128.size inb_S1024x512_S128x128_896_384).toLoadRect (View.loadsAt_vmem h_S128x128))
    let v155 : Vec F S128x128 .f32 ← Prog.lift (.load A.arg7 (Rect.unit (s := S1024x128) ![896, 0] S128x128.size inb_S1024x128_S128x128_896_0).toLoadRect (View.loadsAt_vmem h_S128x128))
    let v159 : Vec F S128x128 .f32 ← Prog.lift (.load A.arg8 (Rect.unit (s := S1024x128) ![896, 0] S128x128.size inb_S1024x128_S128x128_896_0).toLoadRect (View.loadsAt_vmem h_S128x128))
    let v163 : Vec F S128x128 .f32 ← Prog.lift (.load A.arg5 (Rect.unit (s := S1024x512) ![896, 384] S128x128.size inb_S1024x512_S128x128_896_384).toLoadRect (View.loadsAt_vmem h_S128x128))
    let v164 : Vec F S128x128 .f32 ← Prog.lift (.load A.arg7 (Rect.unit (s := S1024x128) ![896, 0] S128x128.size inb_S1024x128_S128x128_896_0).toLoadRect (View.loadsAt_vmem h_S128x128))
    let v168 : Vec F S128x128 .f32 ← Prog.lift (.load A.arg8 (Rect.unit (s := S1024x128) ![896, 0] S128x128.size inb_S1024x128_S128x128_896_0).toLoadRect (View.loadsAt_vmem h_S128x128))
    let v174 : Vec F S128x256 .f32 ← Prog.lift (.load A.arg6 (Rect.unit (s := S1024x1024) ![896, 768] S128x256.size inb_S1024x1024_S128x256_896_768).toLoadRect (View.loadsAt_vmem h_S128x256))
    let v176 : Vec F S1x128x256 .f32 ← Prog.lift (.load A.arg12 (Rect.unit (s := S4x128x256) ![3, 0, 0] S1x128x256.size inb_S4x128x256_S1x128x256_3_0_0).toLoadRect (View.loadsAt_vmem h_S1x128x256))
    pure ⟨k0_pay274 v154 v155 v159, k0_pay275 v163 v164 v168, k0_pay276 v174, k0_pay277 v176⟩)
  bC59 A v162 v173 v175 v177

def bR4 (A : KArgs) : KProg F (BRes F) := do
  let ⟨v207, v208, v211⟩ : Σ' (v207 : FVec F S128x128 .f32) (v208 : Vec F S128x128 .f32), FVec F S128x128 .f32 ← (do
    let v199 : Vec F S128x128 .f32 ← Prog.lift (.load A.arg4 (Rect.unit (s := S1024x512) ![768, 0] S128x128.size inb_S1024x512_S128x128_768_0).toLoadRect (View.loadsAt_vmem h_S128x128))
    let v200 : Vec F S128x128 .f32 ← Prog.lift (.load A.arg7 (Rect.unit (s := S1024x128) ![768, 0] S128x128.size inb_S1024x128_S128x128_768_0).toLoadRect (View.loadsAt_vmem h_S128x128))
    let v204 : Vec F S128x128 .f32 ← Prog.lift (.load A.arg8 (Rect.unit (s := S1024x128) ![768, 0] S128x128.size inb_S1024x128_S128x128_768_0).toLoadRect (View.loadsAt_vmem h_S128x128))
    let v208 : Vec F S128x128 .f32 ← Prog.lift (.load A.arg5 (Rect.unit (s := S1024x512) ![768, 0] S128x128.size inb_S1024x512_S128x128_768_0).toLoadRect (View.loadsAt_vmem h_S128x128))
    let v209 : Vec F S128x128 .f32 ← Prog.lift (.load A.arg7 (Rect.unit (s := S1024x128) ![768, 0] S128x128.size inb_S1024x128_S128x128_768_0).toLoadRect (View.loadsAt_vmem h_S128x128))
    pure ⟨k0_pay280 v199 v200 v204, v208, k0_pay281 v208 v209⟩)
  bC60 A v207 v208 v211

def bR5 (A : KArgs) : KProg F (BRes F) := do

  bC61 A

def bR6 (A : KArgs) : KProg F (BRes F) := do
  let ⟨v297, v308⟩ : Σ' (v297 : FVec F S128x128 .f32), FVec F S128x128 .f32 ← (do
    let v289 : Vec F S128x128 .f32 ← Prog.lift (.load A.arg4 (Rect.unit (s := S1024x512) ![768, 256] S128x128.size inb_S1024x512_S128x128_768_256).toLoadRect (View.loadsAt_vmem h_S128x128))
    let v290 : Vec F S128x128 .f32 ← Prog.lift (.load A.arg7 (Rect.unit (s := S1024x128) ![768, 0] S128x128.size inb_S1024x128_S128x128_768_0).toLoadRect (View.loadsAt_vmem h_S128x128))
    let v294 : Vec F S128x128 .f32 ← Prog.lift (.load A.arg8 (Rect.unit (s := S1024x128) ![768, 0] S128x128.size inb_S1024x128_S128x128_768_0).toLoadRect (View.loadsAt_vmem h_S128x128))
    let v298 : Vec F S128x128 .f32 ← Prog.lift (.load A.arg5 (Rect.unit (s := S1024x512) ![768, 256] S128x128.size inb_S1024x512_S128x128_768_256).toLoadRect (View.loadsAt_vmem h_S128x128))
    let v299 : Vec F S128x128 .f32 ← Prog.lift (.load A.arg7 (Rect.unit (s := S1024x128) ![768, 0] S128x128.size inb_S1024x128_S128x128_768_0).toLoadRect (View.loadsAt_vmem h_S128x128))
    let v303 : Vec F S128x128 .f32 ← Prog.lift (.load A.arg8 (Rect.unit (s := S1024x128) ![768, 0] S128x128.size inb_S1024x128_S128x128_768_0).toLoadRect (View.loadsAt_vmem h_S128x128))
    pure ⟨k0_pay291 v289 v290 v294, k0_pay292 v298 v299 v303⟩)
  bC63 A v297 v308

def bR7 (A : KArgs) : KProg F (BRes F) := do
  let ⟨v337, v338⟩ : Σ' (v337 : FVec F S128x128 .f32), FVec F S128x128 .f32 ← (do
    let v334 : Vec F S128x128 .f32 ← Prog.lift (.load A.arg4 (Rect.unit (s := S1024x512) ![768, 384] S128x128.size inb_S1024x512_S128x128_768_384).toLoadRect (View.loadsAt_vmem h_S128x128))
    let v335 : Vec F S128x128 .f32 ← Prog.lift (.load A.arg7 (Rect.unit (s := S1024x128) ![768, 0] S128x128.size inb_S1024x128_S128x128_768_0).toLoadRect (View.loadsAt_vmem h_S128x128))
    pure ⟨k0_pay296 v334 v335, k0_pay297 v334⟩)
  bC64 A v337 v338

def bR8 (A : KArgs) : KProg F (BRes F) := do
  let ⟨v387, v398, v400, v402⟩ : Σ' (v387 : FVec F S128x128 .f32) (v398 : FVec F S128x128 .f32) (v400 : FVec F S128x256 .bf16), FVec F S128x256 .f32 ← (do
    let v379 : Vec F S128x128 .f32 ← Prog.lift (.load A.arg4 (Rect.unit (s := S1024x512) ![640, 0] S128x128.size inb_S1024x512_S128x128_640_0).toLoadRect (View.loadsAt_vmem h_S128x128))
    let v380 : Vec F S128x128 .f32 ← Prog.lift (.load A.arg7 (Rect.unit (s := S1024x128) ![640, 0] S128x128.size inb_S1024x128_S128x128_640_0).toLoadRect (View.loadsAt_vmem h_S128x128))
    let v384 : Vec F S128x128 .f32 ← Prog.lift (.load A.arg8 (Rect.unit (s := S1024x128) ![640, 0] S128x128.size inb_S1024x128_S128x128_640_0).toLoadRect (View.loadsAt_vmem h_S128x128))
    let v388 : Vec F S128x128 .f32 ← Prog.lift (.load A.arg5 (Rect.unit (s := S1024x512) ![640, 0] S128x128.size inb_S1024x512_S128x128_640_0).toLoadRect (View.loadsAt_vmem h_S128x128))
    let v389 : Vec F S128x128 .f32 ← Prog.lift (.load A.arg7 (Rect.unit (s := S1024x128) ![640, 0] S128x128.size inb_S1024x128_S128x128_640_0).toLoadRect (View.loadsAt_vmem h_S128x128))
    let v393 : Vec F S128x128 .f32 ← Prog.lift (.load A.arg8 (Rect.unit (s := S1024x128) ![640, 0] S128x128.size inb_S1024x128_S128x128_640_0).toLoadRect (View.loadsAt_vmem h_S128x128))
    let v399 : Vec F S128x256 .f32 ← Prog.lift (.load A.arg6 (Rect.unit (s := S1024x1024) ![640, 0] S128x256.size inb_S1024x1024_S128x256_640_0).toLoadRect (View.loadsAt_vmem h_S128x256))
    let v401 : Vec F S1x128x256 .f32 ← Prog.lift (.load A.arg12 (Rect.unit (s := S4x128x256) ![0, 0, 0] S1x128x256.size inb_S4x128x256_S1x128x256_0_0_0).toLoadRect (View.loadsAt_vmem h_S1x128x256))
    pure ⟨k0_pay304 v379 v380 v384, k0_pay305 v388 v389 v393, k0_pay306 v399, k0_pay307 v401⟩)
  bC66 A v387 v398 v400 v402

def bR9 (A : KArgs) : KProg F (BRes F) := do
  let ⟨v432, v433, v436⟩ : Σ' (v432 : FVec F S128x128 .f32) (v433 : Vec F S128x128 .f32), FVec F S128x128 .f32 ← (do
    let v424 : Vec F S128x128 .f32 ← Prog.lift (.load A.arg4 (Rect.unit (s := S1024x512) ![640, 128] S128x128.size inb_S1024x512_S128x128_640_128).toLoadRect (View.loadsAt_vmem h_S128x128))
    let v425 : Vec F S128x128 .f32 ← Prog.lift (.load A.arg7 (Rect.unit (s := S1024x128) ![640, 0] S128x128.size inb_S1024x128_S128x128_640_0).toLoadRect (View.loadsAt_vmem h_S128x128))
    let v429 : Vec F S128x128 .f32 ← Prog.lift (.load A.arg8 (Rect.unit (s := S1024x128) ![640, 0] S128x128.size inb_S1024x128_S128x128_640_0).toLoadRect (View.loadsAt_vmem h_S128x128))
    let v433 : Vec F S128x128 .f32 ← Prog.lift (.load A.arg5 (Rect.unit (s := S1024x512) ![640, 128] S128x128.size inb_S1024x512_S128x128_640_128).toLoadRect (View.loadsAt_vmem h_S128x128))
    let v434 : Vec F S128x128 .f32 ← Prog.lift (.load A.arg7 (Rect.unit (s := S1024x128) ![640, 0] S128x128.size inb_S1024x128_S128x128_640_0).toLoadRect (View.loadsAt_vmem h_S128x128))
    pure ⟨k0_pay310 v424 v425 v429, v433, k0_pay311 v433 v434⟩)
  bC67 A v432 v433 v436

def bR10 (A : KArgs) : KProg F (BRes F) := do

  bC68 A

def bR11 (A : KArgs) : KProg F (BRes F) := do
  let ⟨v522, v533⟩ : Σ' (v522 : FVec F S128x128 .f32), FVec F S128x128 .f32 ← (do
    let v514 : Vec F S128x128 .f32 ← Prog.lift (.load A.arg4 (Rect.unit (s := S1024x512) ![640, 384] S128x128.size inb_S1024x512_S128x128_640_384).toLoadRect (View.loadsAt_vmem h_S128x128))
    let v515 : Vec F S128x128 .f32 ← Prog.lift (.load A.arg7 (Rect.unit (s := S1024x128) ![640, 0] S128x128.size inb_S1024x128_S128x128_640_0).toLoadRect (View.loadsAt_vmem h_S128x128))
    let v519 : Vec F S128x128 .f32 ← Prog.lift (.load A.arg8 (Rect.unit (s := S1024x128) ![640, 0] S128x128.size inb_S1024x128_S128x128_640_0).toLoadRect (View.loadsAt_vmem h_S128x128))
    let v523 : Vec F S128x128 .f32 ← Prog.lift (.load A.arg5 (Rect.unit (s := S1024x512) ![640, 384] S128x128.size inb_S1024x512_S128x128_640_384).toLoadRect (View.loadsAt_vmem h_S128x128))
    let v524 : Vec F S128x128 .f32 ← Prog.lift (.load A.arg7 (Rect.unit (s := S1024x128) ![640, 0] S128x128.size inb_S1024x128_S128x128_640_0).toLoadRect (View.loadsAt_vmem h_S128x128))
    let v528 : Vec F S128x128 .f32 ← Prog.lift (.load A.arg8 (Rect.unit (s := S1024x128) ![640, 0] S128x128.size inb_S1024x128_S128x128_640_0).toLoadRect (View.loadsAt_vmem h_S128x128))
    pure ⟨k0_pay321 v514 v515 v519, k0_pay322 v523 v524 v528⟩)
  bC70 A v522 v533

def bR12 (A : KArgs) : KProg F (BRes F) := do
  let ⟨v562, v563⟩ : Σ' (v562 : FVec F S128x128 .f32), FVec F S128x128 .f32 ← (do
    let v559 : Vec F S128x128 .f32 ← Prog.lift (.load A.arg4 (Rect.unit (s := S1024x512) ![512, 0] S128x128.size inb_S1024x512_S128x128_512_0).toLoadRect (View.loadsAt_vmem h_S128x128))
    let v560 : Vec F S128x128 .f32 ← Prog.lift (.load A.arg7 (Rect.unit (s := S1024x128) ![512, 0] S128x128.size inb_S1024x128_S128x128_512_0).toLoadRect (View.loadsAt_vmem h_S128x128))
    pure ⟨k0_pay326 v559 v560, k0_pay327 v559⟩)
  bC71 A v562 v563

def bR13 (A : KArgs) : KProg F (BRes F) := do
  let ⟨v612, v623, v625, v627⟩ : Σ' (v612 : FVec F S128x128 .f32) (v623 : FVec F S128x128 .f32) (v625 : FVec F S128x256 .bf16), FVec F S128x256 .f32 ← (do
    let v604 : Vec F S128x128 .f32 ← Prog.lift (.load A.arg4 (Rect.unit (s := S1024x512) ![512, 128] S128x128.size inb_S1024x512_S128x128_512_128).toLoadRect (View.loadsAt_vmem h_S128x128))
    let v605 : Vec F S128x128 .f32 ← Prog.lift (.load A.arg7 (Rect.unit (s := S1024x128) ![512, 0] S128x128.size inb_S1024x128_S128x128_512_0).toLoadRect (View.loadsAt_vmem h_S128x128))
    let v609 : Vec F S128x128 .f32 ← Prog.lift (.load A.arg8 (Rect.unit (s := S1024x128) ![512, 0] S128x128.size inb_S1024x128_S128x128_512_0).toLoadRect (View.loadsAt_vmem h_S128x128))
    let v613 : Vec F S128x128 .f32 ← Prog.lift (.load A.arg5 (Rect.unit (s := S1024x512) ![512, 128] S128x128.size inb_S1024x512_S128x128_512_128).toLoadRect (View.loadsAt_vmem h_S128x128))
    let v614 : Vec F S128x128 .f32 ← Prog.lift (.load A.arg7 (Rect.unit (s := S1024x128) ![512, 0] S128x128.size inb_S1024x128_S128x128_512_0).toLoadRect (View.loadsAt_vmem h_S128x128))
    let v618 : Vec F S128x128 .f32 ← Prog.lift (.load A.arg8 (Rect.unit (s := S1024x128) ![512, 0] S128x128.size inb_S1024x128_S128x128_512_0).toLoadRect (View.loadsAt_vmem h_S128x128))
    let v624 : Vec F S128x256 .f32 ← Prog.lift (.load A.arg6 (Rect.unit (s := S1024x1024) ![512, 256] S128x256.size inb_S1024x1024_S128x256_512_256).toLoadRect (View.loadsAt_vmem h_S128x256))
    let v626 : Vec F S1x128x256 .f32 ← Prog.lift (.load A.arg12 (Rect.unit (s := S4x128x256) ![1, 0, 0] S1x128x256.size inb_S4x128x256_S1x128x256_1_0_0).toLoadRect (View.loadsAt_vmem h_S1x128x256))
    pure ⟨k0_pay334 v604 v605 v609, k0_pay335 v613 v614 v618, k0_pay336 v624, k0_pay337 v626⟩)
  bC73 A v612 v623 v625 v627

def bR14 (A : KArgs) : KProg F (BRes F) := do
  let ⟨v657, v658, v661⟩ : Σ' (v657 : FVec F S128x128 .f32) (v658 : Vec F S128x128 .f32), FVec F S128x128 .f32 ← (do
    let v649 : Vec F S128x128 .f32 ← Prog.lift (.load A.arg4 (Rect.unit (s := S1024x512) ![512, 256] S128x128.size inb_S1024x512_S128x128_512_256).toLoadRect (View.loadsAt_vmem h_S128x128))
    let v650 : Vec F S128x128 .f32 ← Prog.lift (.load A.arg7 (Rect.unit (s := S1024x128) ![512, 0] S128x128.size inb_S1024x128_S128x128_512_0).toLoadRect (View.loadsAt_vmem h_S128x128))
    let v654 : Vec F S128x128 .f32 ← Prog.lift (.load A.arg8 (Rect.unit (s := S1024x128) ![512, 0] S128x128.size inb_S1024x128_S128x128_512_0).toLoadRect (View.loadsAt_vmem h_S128x128))
    let v658 : Vec F S128x128 .f32 ← Prog.lift (.load A.arg5 (Rect.unit (s := S1024x512) ![512, 256] S128x128.size inb_S1024x512_S128x128_512_256).toLoadRect (View.loadsAt_vmem h_S128x128))
    let v659 : Vec F S128x128 .f32 ← Prog.lift (.load A.arg7 (Rect.unit (s := S1024x128) ![512, 0] S128x128.size inb_S1024x128_S128x128_512_0).toLoadRect (View.loadsAt_vmem h_S128x128))
    pure ⟨k0_pay340 v649 v650 v654, v658, k0_pay341 v658 v659⟩)
  bC74 A v657 v658 v661

def bR15 (A : KArgs) : KProg F (BRes F) := do

  bC75 A

def bR16 (A : KArgs) : KProg F (BRes F) := do
  let ⟨v747, v758⟩ : Σ' (v747 : FVec F S128x128 .f32), FVec F S128x128 .f32 ← (do
    let v739 : Vec F S128x128 .f32 ← Prog.lift (.load A.arg4 (Rect.unit (s := S1024x512) ![384, 0] S128x128.size inb_S1024x512_S128x128_384_0).toLoadRect (View.loadsAt_vmem h_S128x128))
    let v740 : Vec F S128x128 .f32 ← Prog.lift (.load A.arg7 (Rect.unit (s := S1024x128) ![384, 0] S128x128.size inb_S1024x128_S128x128_384_0).toLoadRect (View.loadsAt_vmem h_S128x128))
    let v744 : Vec F S128x128 .f32 ← Prog.lift (.load A.arg8 (Rect.unit (s := S1024x128) ![384, 0] S128x128.size inb_S1024x128_S128x128_384_0).toLoadRect (View.loadsAt_vmem h_S128x128))
    let v748 : Vec F S128x128 .f32 ← Prog.lift (.load A.arg5 (Rect.unit (s := S1024x512) ![384, 0] S128x128.size inb_S1024x512_S128x128_384_0).toLoadRect (View.loadsAt_vmem h_S128x128))
    let v749 : Vec F S128x128 .f32 ← Prog.lift (.load A.arg7 (Rect.unit (s := S1024x128) ![384, 0] S128x128.size inb_S1024x128_S128x128_384_0).toLoadRect (View.loadsAt_vmem h_S128x128))
    let v753 : Vec F S128x128 .f32 ← Prog.lift (.load A.arg8 (Rect.unit (s := S1024x128) ![384, 0] S128x128.size inb_S1024x128_S128x128_384_0).toLoadRect (View.loadsAt_vmem h_S128x128))
    pure ⟨k0_pay351 v739 v740 v744, k0_pay352 v748 v749 v753⟩)
  bC77 A v747 v758

def bR17 (A : KArgs) : KProg F (BRes F) := do
  let ⟨v787, v788⟩ : Σ' (v787 : FVec F S128x128 .f32), FVec F S128x128 .f32 ← (do
    let v784 : Vec F S128x128 .f32 ← Prog.lift (.load A.arg4 (Rect.unit (s := S1024x512) ![384, 128] S128x128.size inb_S1024x512_S128x128_384_128).toLoadRect (View.loadsAt_vmem h_S128x128))
    let v785 : Vec F S128x128 .f32 ← Prog.lift (.load A.arg7 (Rect.unit (s := S1024x128) ![384, 0] S128x128.size inb_S1024x128_S128x128_384_0).toLoadRect (View.loadsAt_vmem h_S128x128))
    pure ⟨k0_pay356 v784 v785, k0_pay357 v784⟩)
  bC78 A v787 v788

def bR18 (A : KArgs) : KProg F (BRes F) := do
  let ⟨v837, v848, v850, v852⟩ : Σ' (v837 : FVec F S128x128 .f32) (v848 : FVec F S128x128 .f32) (v850 : FVec F S128x256 .bf16), FVec F S128x256 .f32 ← (do
    let v829 : Vec F S128x128 .f32 ← Prog.lift (.load A.arg4 (Rect.unit (s := S1024x512) ![384, 256] S128x128.size inb_S1024x512_S128x128_384_256).toLoadRect (View.loadsAt_vmem h_S128x128))
    let v830 : Vec F S128x128 .f32 ← Prog.lift (.load A.arg7 (Rect.unit (s := S1024x128) ![384, 0] S128x128.size inb_S1024x128_S128x128_384_0).toLoadRect (View.loadsAt_vmem h_S128x128))
    let v834 : Vec F S128x128 .f32 ← Prog.lift (.load A.arg8 (Rect.unit (s := S1024x128) ![384, 0] S128x128.size inb_S1024x128_S128x128_384_0).toLoadRect (View.loadsAt_vmem h_S128x128))
    let v838 : Vec F S128x128 .f32 ← Prog.lift (.load A.arg5 (Rect.unit (s := S1024x512) ![384, 256] S128x128.size inb_S1024x512_S128x128_384_256).toLoadRect (View.loadsAt_vmem h_S128x128))
    let v839 : Vec F S128x128 .f32 ← Prog.lift (.load A.arg7 (Rect.unit (s := S1024x128) ![384, 0] S128x128.size inb_S1024x128_S128x128_384_0).toLoadRect (View.loadsAt_vmem h_S128x128))
    let v843 : Vec F S128x128 .f32 ← Prog.lift (.load A.arg8 (Rect.unit (s := S1024x128) ![384, 0] S128x128.size inb_S1024x128_S128x128_384_0).toLoadRect (View.loadsAt_vmem h_S128x128))
    let v849 : Vec F S128x256 .f32 ← Prog.lift (.load A.arg6 (Rect.unit (s := S1024x1024) ![384, 512] S128x256.size inb_S1024x1024_S128x256_384_512).toLoadRect (View.loadsAt_vmem h_S128x256))
    let v851 : Vec F S1x128x256 .f32 ← Prog.lift (.load A.arg12 (Rect.unit (s := S4x128x256) ![2, 0, 0] S1x128x256.size inb_S4x128x256_S1x128x256_2_0_0).toLoadRect (View.loadsAt_vmem h_S1x128x256))
    pure ⟨k0_pay364 v829 v830 v834, k0_pay365 v838 v839 v843, k0_pay366 v849, k0_pay367 v851⟩)
  bC80 A v837 v848 v850 v852

def bR19 (A : KArgs) : KProg F (BRes F) := do
  let ⟨v882, v883, v886⟩ : Σ' (v882 : FVec F S128x128 .f32) (v883 : Vec F S128x128 .f32), FVec F S128x128 .f32 ← (do
    let v874 : Vec F S128x128 .f32 ← Prog.lift (.load A.arg4 (Rect.unit (s := S1024x512) ![384, 384] S128x128.size inb_S1024x512_S128x128_384_384).toLoadRect (View.loadsAt_vmem h_S128x128))
    let v875 : Vec F S128x128 .f32 ← Prog.lift (.load A.arg7 (Rect.unit (s := S1024x128) ![384, 0] S128x128.size inb_S1024x128_S128x128_384_0).toLoadRect (View.loadsAt_vmem h_S128x128))
    let v879 : Vec F S128x128 .f32 ← Prog.lift (.load A.arg8 (Rect.unit (s := S1024x128) ![384, 0] S128x128.size inb_S1024x128_S128x128_384_0).toLoadRect (View.loadsAt_vmem h_S128x128))
    let v883 : Vec F S128x128 .f32 ← Prog.lift (.load A.arg5 (Rect.unit (s := S1024x512) ![384, 384] S128x128.size inb_S1024x512_S128x128_384_384).toLoadRect (View.loadsAt_vmem h_S128x128))
    let v884 : Vec F S128x128 .f32 ← Prog.lift (.load A.arg7 (Rect.unit (s := S1024x128) ![384, 0] S128x128.size inb_S1024x128_S128x128_384_0).toLoadRect (View.loadsAt_vmem h_S128x128))
    pure ⟨k0_pay370 v874 v875 v879, v883, k0_pay371 v883 v884⟩)
  bC81 A v882 v883 v886

def bR20 (A : KArgs) : KProg F (BRes F) := do

  bC82 A

def bR21 (A : KArgs) : KProg F (BRes F) := do
  let ⟨v972, v983⟩ : Σ' (v972 : FVec F S128x128 .f32), FVec F S128x128 .f32 ← (do
    let v964 : Vec F S128x128 .f32 ← Prog.lift (.load A.arg4 (Rect.unit (s := S1024x512) ![256, 128] S128x128.size inb_S1024x512_S128x128_256_128).toLoadRect (View.loadsAt_vmem h_S128x128))
    let v965 : Vec F S128x128 .f32 ← Prog.lift (.load A.arg7 (Rect.unit (s := S1024x128) ![256, 0] S128x128.size inb_S1024x128_S128x128_256_0).toLoadRect (View.loadsAt_vmem h_S128x128))
    let v969 : Vec F S128x128 .f32 ← Prog.lift (.load A.arg8 (Rect.unit (s := S1024x128) ![256, 0] S128x128.size inb_S1024x128_S128x128_256_0).toLoadRect (View.loadsAt_vmem h_S128x128))
    let v973 : Vec F S128x128 .f32 ← Prog.lift (.load A.arg5 (Rect.unit (s := S1024x512) ![256, 128] S128x128.size inb_S1024x512_S128x128_256_128).toLoadRect (View.loadsAt_vmem h_S128x128))
    let v974 : Vec F S128x128 .f32 ← Prog.lift (.load A.arg7 (Rect.unit (s := S1024x128) ![256, 0] S128x128.size inb_S1024x128_S128x128_256_0).toLoadRect (View.loadsAt_vmem h_S128x128))
    let v978 : Vec F S128x128 .f32 ← Prog.lift (.load A.arg8 (Rect.unit (s := S1024x128) ![256, 0] S128x128.size inb_S1024x128_S128x128_256_0).toLoadRect (View.loadsAt_vmem h_S128x128))
    pure ⟨k0_pay381 v964 v965 v969, k0_pay382 v973 v974 v978⟩)
  bC84 A v972 v983

def bR22 (A : KArgs) : KProg F (BRes F) := do
  let ⟨v1012, v1013⟩ : Σ' (v1012 : FVec F S128x128 .f32), FVec F S128x128 .f32 ← (do
    let v1009 : Vec F S128x128 .f32 ← Prog.lift (.load A.arg4 (Rect.unit (s := S1024x512) ![256, 256] S128x128.size inb_S1024x512_S128x128_256_256).toLoadRect (View.loadsAt_vmem h_S128x128))
    let v1010 : Vec F S128x128 .f32 ← Prog.lift (.load A.arg7 (Rect.unit (s := S1024x128) ![256, 0] S128x128.size inb_S1024x128_S128x128_256_0).toLoadRect (View.loadsAt_vmem h_S128x128))
    pure ⟨k0_pay386 v1009 v1010, k0_pay387 v1009⟩)
  bC85 A v1012 v1013

def bR23 (A : KArgs) : KProg F (BRes F) := do
  let ⟨v1062, v1073, v1075, v1077⟩ : Σ' (v1062 : FVec F S128x128 .f32) (v1073 : FVec F S128x128 .f32) (v1075 : FVec F S128x256 .bf16), FVec F S128x256 .f32 ← (do
    let v1054 : Vec F S128x128 .f32 ← Prog.lift (.load A.arg4 (Rect.unit (s := S1024x512) ![256, 384] S128x128.size inb_S1024x512_S128x128_256_384).toLoadRect (View.loadsAt_vmem h_S128x128))
    let v1055 : Vec F S128x128 .f32 ← Prog.lift (.load A.arg7 (Rect.unit (s := S1024x128) ![256, 0] S128x128.size inb_S1024x128_S128x128_256_0).toLoadRect (View.loadsAt_vmem h_S128x128))
    let v1059 : Vec F S128x128 .f32 ← Prog.lift (.load A.arg8 (Rect.unit (s := S1024x128) ![256, 0] S128x128.size inb_S1024x128_S128x128_256_0).toLoadRect (View.loadsAt_vmem h_S128x128))
    let v1063 : Vec F S128x128 .f32 ← Prog.lift (.load A.arg5 (Rect.unit (s := S1024x512) ![256, 384] S128x128.size inb_S1024x512_S128x128_256_384).toLoadRect (View.loadsAt_vmem h_S128x128))
    let v1064 : Vec F S128x128 .f32 ← Prog.lift (.load A.arg7 (Rect.unit (s := S1024x128) ![256, 0] S128x128.size inb_S1024x128_S128x128_256_0).toLoadRect (View.loadsAt_vmem h_S128x128))
    let v1068 : Vec F S128x128 .f32 ← Prog.lift (.load A.arg8 (Rect.unit (s := S1024x128) ![256, 0] S128x128.size inb_S1024x128_S128x128_256_0).toLoadRect (View.loadsAt_vmem h_S128x128))
    let v1074 : Vec F S128x256 .f32 ← Prog.lift (.load A.arg6 (Rect.unit (s := S1024x1024) ![256, 768] S128x256.size inb_S1024x1024_S128x256_256_768).toLoadRect (View.loadsAt_vmem h_S128x256))
    let v1076 : Vec F S1x128x256 .f32 ← Prog.lift (.load A.arg12 (Rect.unit (s := S4x128x256) ![3, 0, 0] S1x128x256.size inb_S4x128x256_S1x128x256_3_0_0).toLoadRect (View.loadsAt_vmem h_S1x128x256))
    pure ⟨k0_pay394 v1054 v1055 v1059, k0_pay395 v1063 v1064 v1068, k0_pay396 v1074, k0_pay397 v1076⟩)
  bC87 A v1062 v1073 v1075 v1077

def bR24 (A : KArgs) : KProg F (BRes F) := do
  let ⟨v1107, v1108, v1111⟩ : Σ' (v1107 : FVec F S128x128 .f32) (v1108 : Vec F S128x128 .f32), FVec F S128x128 .f32 ← (do
    let v1099 : Vec F S128x128 .f32 ← Prog.lift (.load A.arg4 (Rect.unit (s := S1024x512) ![128, 0] S128x128.size inb_S1024x512_S128x128_128_0).toLoadRect (View.loadsAt_vmem h_S128x128))
    let v1100 : Vec F S128x128 .f32 ← Prog.lift (.load A.arg7 (Rect.unit (s := S1024x128) ![128, 0] S128x128.size inb_S1024x128_S128x128_128_0).toLoadRect (View.loadsAt_vmem h_S128x128))
    let v1104 : Vec F S128x128 .f32 ← Prog.lift (.load A.arg8 (Rect.unit (s := S1024x128) ![128, 0] S128x128.size inb_S1024x128_S128x128_128_0).toLoadRect (View.loadsAt_vmem h_S128x128))
    let v1108 : Vec F S128x128 .f32 ← Prog.lift (.load A.arg5 (Rect.unit (s := S1024x512) ![128, 0] S128x128.size inb_S1024x512_S128x128_128_0).toLoadRect (View.loadsAt_vmem h_S128x128))
    let v1109 : Vec F S128x128 .f32 ← Prog.lift (.load A.arg7 (Rect.unit (s := S1024x128) ![128, 0] S128x128.size inb_S1024x128_S128x128_128_0).toLoadRect (View.loadsAt_vmem h_S128x128))
    pure ⟨k0_pay400 v1099 v1100 v1104, v1108, k0_pay401 v1108 v1109⟩)
  bC88 A v1107 v1108 v1111

def bR25 (A : KArgs) : KProg F (BRes F) := do

  bC89 A

def bR26 (A : KArgs) : KProg F (BRes F) := do
  let ⟨v1197, v1208⟩ : Σ' (v1197 : FVec F S128x128 .f32), FVec F S128x128 .f32 ← (do
    let v1189 : Vec F S128x128 .f32 ← Prog.lift (.load A.arg4 (Rect.unit (s := S1024x512) ![128, 256] S128x128.size inb_S1024x512_S128x128_128_256).toLoadRect (View.loadsAt_vmem h_S128x128))
    let v1190 : Vec F S128x128 .f32 ← Prog.lift (.load A.arg7 (Rect.unit (s := S1024x128) ![128, 0] S128x128.size inb_S1024x128_S128x128_128_0).toLoadRect (View.loadsAt_vmem h_S128x128))
    let v1194 : Vec F S128x128 .f32 ← Prog.lift (.load A.arg8 (Rect.unit (s := S1024x128) ![128, 0] S128x128.size inb_S1024x128_S128x128_128_0).toLoadRect (View.loadsAt_vmem h_S128x128))
    let v1198 : Vec F S128x128 .f32 ← Prog.lift (.load A.arg5 (Rect.unit (s := S1024x512) ![128, 256] S128x128.size inb_S1024x512_S128x128_128_256).toLoadRect (View.loadsAt_vmem h_S128x128))
    let v1199 : Vec F S128x128 .f32 ← Prog.lift (.load A.arg7 (Rect.unit (s := S1024x128) ![128, 0] S128x128.size inb_S1024x128_S128x128_128_0).toLoadRect (View.loadsAt_vmem h_S128x128))
    let v1203 : Vec F S128x128 .f32 ← Prog.lift (.load A.arg8 (Rect.unit (s := S1024x128) ![128, 0] S128x128.size inb_S1024x128_S128x128_128_0).toLoadRect (View.loadsAt_vmem h_S128x128))
    pure ⟨k0_pay411 v1189 v1190 v1194, k0_pay412 v1198 v1199 v1203⟩)
  bC91 A v1197 v1208

def bR27 (A : KArgs) : KProg F (BRes F) := do
  let ⟨v1237, v1238⟩ : Σ' (v1237 : FVec F S128x128 .f32), FVec F S128x128 .f32 ← (do
    let v1234 : Vec F S128x128 .f32 ← Prog.lift (.load A.arg4 (Rect.unit (s := S1024x512) ![128, 384] S128x128.size inb_S1024x512_S128x128_128_384).toLoadRect (View.loadsAt_vmem h_S128x128))
    let v1235 : Vec F S128x128 .f32 ← Prog.lift (.load A.arg7 (Rect.unit (s := S1024x128) ![128, 0] S128x128.size inb_S1024x128_S128x128_128_0).toLoadRect (View.loadsAt_vmem h_S128x128))
    pure ⟨k0_pay416 v1234 v1235, k0_pay417 v1234⟩)
  bC92 A v1237 v1238

def bR28 (A : KArgs) : KProg F (BRes F) := do
  let ⟨v1287, v1298, v1300, v1302⟩ : Σ' (v1287 : FVec F S128x128 .f32) (v1298 : FVec F S128x128 .f32) (v1300 : FVec F S128x256 .bf16), FVec F S128x256 .f32 ← (do
    let v1279 : Vec F S128x128 .f32 ← Prog.lift (.load A.arg4 (Rect.unit (s := S1024x512) ![0, 0] S128x128.size inb_S1024x512_S128x128_0_0).toLoadRect (View.loadsAt_vmem h_S128x128))
    let v1280 : Vec F S128x128 .f32 ← Prog.lift (.load A.arg7 (Rect.unit (s := S1024x128) ![0, 0] S128x128.size inb_S1024x128_S128x128_0_0).toLoadRect (View.loadsAt_vmem h_S128x128))
    let v1284 : Vec F S128x128 .f32 ← Prog.lift (.load A.arg8 (Rect.unit (s := S1024x128) ![0, 0] S128x128.size inb_S1024x128_S128x128_0_0).toLoadRect (View.loadsAt_vmem h_S128x128))
    let v1288 : Vec F S128x128 .f32 ← Prog.lift (.load A.arg5 (Rect.unit (s := S1024x512) ![0, 0] S128x128.size inb_S1024x512_S128x128_0_0).toLoadRect (View.loadsAt_vmem h_S128x128))
    let v1289 : Vec F S128x128 .f32 ← Prog.lift (.load A.arg7 (Rect.unit (s := S1024x128) ![0, 0] S128x128.size inb_S1024x128_S128x128_0_0).toLoadRect (View.loadsAt_vmem h_S128x128))
    let v1293 : Vec F S128x128 .f32 ← Prog.lift (.load A.arg8 (Rect.unit (s := S1024x128) ![0, 0] S128x128.size inb_S1024x128_S128x128_0_0).toLoadRect (View.loadsAt_vmem h_S128x128))
    let v1299 : Vec F S128x256 .f32 ← Prog.lift (.load A.arg6 (Rect.unit (s := S1024x1024) ![0, 0] S128x256.size inb_S1024x1024_S128x256_0_0).toLoadRect (View.loadsAt_vmem h_S128x256))
    let v1301 : Vec F S1x128x256 .f32 ← Prog.lift (.load A.arg12 (Rect.unit (s := S4x128x256) ![0, 0, 0] S1x128x256.size inb_S4x128x256_S1x128x256_0_0_0).toLoadRect (View.loadsAt_vmem h_S1x128x256))
    pure ⟨k0_pay424 v1279 v1280 v1284, k0_pay425 v1288 v1289 v1293, k0_pay426 v1299, k0_pay427 v1301⟩)
  bC94 A v1287 v1298 v1300 v1302

def bR29 (A : KArgs) : KProg F (BRes F) := do
  let ⟨v1332, v1333, v1336⟩ : Σ' (v1332 : FVec F S128x128 .f32) (v1333 : Vec F S128x128 .f32), FVec F S128x128 .f32 ← (do
    let v1324 : Vec F S128x128 .f32 ← Prog.lift (.load A.arg4 (Rect.unit (s := S1024x512) ![0, 128] S128x128.size inb_S1024x512_S128x128_0_128).toLoadRect (View.loadsAt_vmem h_S128x128))
    let v1325 : Vec F S128x128 .f32 ← Prog.lift (.load A.arg7 (Rect.unit (s := S1024x128) ![0, 0] S128x128.size inb_S1024x128_S128x128_0_0).toLoadRect (View.loadsAt_vmem h_S128x128))
    let v1329 : Vec F S128x128 .f32 ← Prog.lift (.load A.arg8 (Rect.unit (s := S1024x128) ![0, 0] S128x128.size inb_S1024x128_S128x128_0_0).toLoadRect (View.loadsAt_vmem h_S128x128))
    let v1333 : Vec F S128x128 .f32 ← Prog.lift (.load A.arg5 (Rect.unit (s := S1024x512) ![0, 128] S128x128.size inb_S1024x512_S128x128_0_128).toLoadRect (View.loadsAt_vmem h_S128x128))
    let v1334 : Vec F S128x128 .f32 ← Prog.lift (.load A.arg7 (Rect.unit (s := S1024x128) ![0, 0] S128x128.size inb_S1024x128_S128x128_0_0).toLoadRect (View.loadsAt_vmem h_S128x128))
    pure ⟨k0_pay430 v1324 v1325 v1329, v1333, k0_pay431 v1333 v1334⟩)
  bC95 A v1332 v1333 v1336

def bR30 (A : KArgs) : KProg F (BRes F) := do

  bC96 A

def bR31 (A : KArgs) : KProg F (BRes F) := do
  let ⟨v1422, v1433⟩ : Σ' (v1422 : FVec F S128x128 .f32), FVec F S128x128 .f32 ← (do
    let v1414 : Vec F S128x128 .f32 ← Prog.lift (.load A.arg4 (Rect.unit (s := S1024x512) ![0, 384] S128x128.size inb_S1024x512_S128x128_0_384).toLoadRect (View.loadsAt_vmem h_S128x128))
    let v1415 : Vec F S128x128 .f32 ← Prog.lift (.load A.arg7 (Rect.unit (s := S1024x128) ![0, 0] S128x128.size inb_S1024x128_S128x128_0_0).toLoadRect (View.loadsAt_vmem h_S128x128))
    let v1419 : Vec F S128x128 .f32 ← Prog.lift (.load A.arg8 (Rect.unit (s := S1024x128) ![0, 0] S128x128.size inb_S1024x128_S128x128_0_0).toLoadRect (View.loadsAt_vmem h_S128x128))
    let v1423 : Vec F S128x128 .f32 ← Prog.lift (.load A.arg5 (Rect.unit (s := S1024x512) ![0, 384] S128x128.size inb_S1024x512_S128x128_0_384).toLoadRect (View.loadsAt_vmem h_S128x128))
    let v1424 : Vec F S128x128 .f32 ← Prog.lift (.load A.arg7 (Rect.unit (s := S1024x128) ![0, 0] S128x128.size inb_S1024x128_S128x128_0_0).toLoadRect (View.loadsAt_vmem h_S128x128))
    let v1428 : Vec F S128x128 .f32 ← Prog.lift (.load A.arg8 (Rect.unit (s := S1024x128) ![0, 0] S128x128.size inb_S1024x128_S128x128_0_0).toLoadRect (View.loadsAt_vmem h_S128x128))
    pure ⟨k0_pay441 v1414 v1415 v1419, k0_pay442 v1423 v1424 v1428⟩)
  btail A v1422 v1433

theorem bstep0 (A : KArgs) : bC54 (F := F) A = (headB A (c := 7) (h := 0) (by decide) (by decide) >>= fun _ => bR1 A) := by
  simp only [KArgs.of, bC54, bC55, k0_part54_eq_skeleton, k0_part54_skel, k0_part55_eq_skeleton, k0_part55_skel, bR1, headB, bind_assoc, pure_bind]
  rfl

theorem bstep1 (A : KArgs) : bR1 (F := F) A = (headB A (c := 7) (h := 1) (by decide) (by decide) >>= fun _ => bR2 A) := by
  simp only [KArgs.of, bR1, bC56, k0_part56_eq_skeleton, k0_part56_skel, bR2, headB, bind_assoc, pure_bind]
  rfl

theorem bstep2 (A : KArgs) : bR2 (F := F) A = (headB A (c := 7) (h := 2) (by decide) (by decide) >>= fun _ => bR3 A) := by
  simp only [KArgs.of, bR2, bC57, bC58, k0_part57_eq_skeleton, k0_part57_skel, k0_part58_eq_skeleton, k0_part58_skel, bR3, headB, bind_assoc, pure_bind]
  rfl

theorem bstep3 (A : KArgs) : bR3 (F := F) A = (headB A (c := 7) (h := 3) (by decide) (by decide) >>= fun _ => bR4 A) := by
  simp only [KArgs.of, bR3, bC59, k0_part59_eq_skeleton, k0_part59_skel, bR4, headB, bind_assoc, pure_bind]
  rfl

theorem bstep4 (A : KArgs) : bR4 (F := F) A = (headB A (c := 6) (h := 0) (by decide) (by decide) >>= fun _ => bR5 A) := by
  simp only [KArgs.of, bR4, bC60, k0_part60_eq_skeleton, k0_part60_skel, bR5, headB, bind_assoc, pure_bind]
  rfl

theorem bstep5 (A : KArgs) : bR5 (F := F) A = (headB A (c := 6) (h := 1) (by decide) (by decide) >>= fun _ => bR6 A) := by
  simp only [KArgs.of, bR5, bC61, bC62, k0_part61_eq_skeleton, k0_part61_skel, k0_part62_eq_skeleton, k0_part62_skel, bR6, headB, bind_assoc, pure_bind]
  rfl

theorem bstep6 (A : KArgs) : bR6 (F := F) A = (headB A (c := 6) (h := 2) (by decide) (by decide) >>= fun _ => bR7 A) := by
  simp only [KArgs.of, bR6, bC63, k0_part63_eq_skeleton, k0_part63_skel, bR7, headB, bind_assoc, pure_bind]
  rfl

theorem bstep7 (A : KArgs) : bR7 (F := F) A = (headB A (c := 6) (h := 3) (by decide) (by decide) >>= fun _ => bR8 A) := by
  simp only [KArgs.of, bR7, bC64, bC65, k0_part64_eq_skeleton, k0_part64_skel, k0_part65_eq_skeleton, k0_part65_skel, bR8, headB, bind_assoc, pure_bind]
  rfl

theorem bstep8 (A : KArgs) : bR8 (F := F) A = (headB A (c := 5) (h := 0) (by decide) (by decide) >>= fun _ => bR9 A) := by
  simp only [KArgs.of, bR8, bC66, k0_part66_eq_skeleton, k0_part66_skel, bR9, headB, bind_assoc, pure_bind]
  rfl

theorem bstep9 (A : KArgs) : bR9 (F := F) A = (headB A (c := 5) (h := 1) (by decide) (by decide) >>= fun _ => bR10 A) := by
  simp only [KArgs.of, bR9, bC67, k0_part67_eq_skeleton, k0_part67_skel, bR10, headB, bind_assoc, pure_bind]
  rfl

theorem bstep10 (A : KArgs) : bR10 (F := F) A = (headB A (c := 5) (h := 2) (by decide) (by decide) >>= fun _ => bR11 A) := by
  simp only [KArgs.of, bR10, bC68, bC69, k0_part68_eq_skeleton, k0_part68_skel, k0_part69_eq_skeleton, k0_part69_skel, bR11, headB, bind_assoc, pure_bind]
  rfl

theorem bstep11 (A : KArgs) : bR11 (F := F) A = (headB A (c := 5) (h := 3) (by decide) (by decide) >>= fun _ => bR12 A) := by
  simp only [KArgs.of, bR11, bC70, k0_part70_eq_skeleton, k0_part70_skel, bR12, headB, bind_assoc, pure_bind]
  rfl

theorem bstep12 (A : KArgs) : bR12 (F := F) A = (headB A (c := 4) (h := 0) (by decide) (by decide) >>= fun _ => bR13 A) := by
  simp only [KArgs.of, bR12, bC71, bC72, k0_part71_eq_skeleton, k0_part71_skel, k0_part72_eq_skeleton, k0_part72_skel, bR13, headB, bind_assoc, pure_bind]
  rfl

theorem bstep13 (A : KArgs) : bR13 (F := F) A = (headB A (c := 4) (h := 1) (by decide) (by decide) >>= fun _ => bR14 A) := by
  simp only [KArgs.of, bR13, bC73, k0_part73_eq_skeleton, k0_part73_skel, bR14, headB, bind_assoc, pure_bind]
  rfl

theorem bstep14 (A : KArgs) : bR14 (F := F) A = (headB A (c := 4) (h := 2) (by decide) (by decide) >>= fun _ => bR15 A) := by
  simp only [KArgs.of, bR14, bC74, k0_part74_eq_skeleton, k0_part74_skel, bR15, headB, bind_assoc, pure_bind]
  rfl

theorem bstep15 (A : KArgs) : bR15 (F := F) A = (headB A (c := 4) (h := 3) (by decide) (by decide) >>= fun _ => bR16 A) := by
  simp only [KArgs.of, bR15, bC75, bC76, k0_part75_eq_skeleton, k0_part75_skel, k0_part76_eq_skeleton, k0_part76_skel, bR16, headB, bind_assoc, pure_bind]
  rfl

theorem bstep16 (A : KArgs) : bR16 (F := F) A = (headB A (c := 3) (h := 0) (by decide) (by decide) >>= fun _ => bR17 A) := by
  simp only [KArgs.of, bR16, bC77, k0_part77_eq_skeleton, k0_part77_skel, bR17, headB, bind_assoc, pure_bind]
  rfl

theorem bstep17 (A : KArgs) : bR17 (F := F) A = (headB A (c := 3) (h := 1) (by decide) (by decide) >>= fun _ => bR18 A) := by
  simp only [KArgs.of, bR17, bC78, bC79, k0_part78_eq_skeleton, k0_part78_skel, k0_part79_eq_skeleton, k0_part79_skel, bR18, headB, bind_assoc, pure_bind]
  rfl

theorem bstep18 (A : KArgs) : bR18 (F := F) A = (headB A (c := 3) (h := 2) (by decide) (by decide) >>= fun _ => bR19 A) := by
  simp only [KArgs.of, bR18, bC80, k0_part80_eq_skeleton, k0_part80_skel, bR19, headB, bind_assoc, pure_bind]
  rfl

theorem bstep19 (A : KArgs) : bR19 (F := F) A = (headB A (c := 3) (h := 3) (by decide) (by decide) >>= fun _ => bR20 A) := by
  simp only [KArgs.of, bR19, bC81, k0_part81_eq_skeleton, k0_part81_skel, bR20, headB, bind_assoc, pure_bind]
  rfl

theorem bstep20 (A : KArgs) : bR20 (F := F) A = (headB A (c := 2) (h := 0) (by decide) (by decide) >>= fun _ => bR21 A) := by
  simp only [KArgs.of, bR20, bC82, bC83, k0_part82_eq_skeleton, k0_part82_skel, k0_part83_eq_skeleton, k0_part83_skel, bR21, headB, bind_assoc, pure_bind]
  rfl

theorem bstep21 (A : KArgs) : bR21 (F := F) A = (headB A (c := 2) (h := 1) (by decide) (by decide) >>= fun _ => bR22 A) := by
  simp only [KArgs.of, bR21, bC84, k0_part84_eq_skeleton, k0_part84_skel, bR22, headB, bind_assoc, pure_bind]
  rfl

theorem bstep22 (A : KArgs) : bR22 (F := F) A = (headB A (c := 2) (h := 2) (by decide) (by decide) >>= fun _ => bR23 A) := by
  simp only [KArgs.of, bR22, bC85, bC86, k0_part85_eq_skeleton, k0_part85_skel, k0_part86_eq_skeleton, k0_part86_skel, bR23, headB, bind_assoc, pure_bind]
  rfl

theorem bstep23 (A : KArgs) : bR23 (F := F) A = (headB A (c := 2) (h := 3) (by decide) (by decide) >>= fun _ => bR24 A) := by
  simp only [KArgs.of, bR23, bC87, k0_part87_eq_skeleton, k0_part87_skel, bR24, headB, bind_assoc, pure_bind]
  rfl

theorem bstep24 (A : KArgs) : bR24 (F := F) A = (headB A (c := 1) (h := 0) (by decide) (by decide) >>= fun _ => bR25 A) := by
  simp only [KArgs.of, bR24, bC88, k0_part88_eq_skeleton, k0_part88_skel, bR25, headB, bind_assoc, pure_bind]
  rfl

theorem bstep25 (A : KArgs) : bR25 (F := F) A = (headB A (c := 1) (h := 1) (by decide) (by decide) >>= fun _ => bR26 A) := by
  simp only [KArgs.of, bR25, bC89, bC90, k0_part89_eq_skeleton, k0_part89_skel, k0_part90_eq_skeleton, k0_part90_skel, bR26, headB, bind_assoc, pure_bind]
  rfl

theorem bstep26 (A : KArgs) : bR26 (F := F) A = (headB A (c := 1) (h := 2) (by decide) (by decide) >>= fun _ => bR27 A) := by
  simp only [KArgs.of, bR26, bC91, k0_part91_eq_skeleton, k0_part91_skel, bR27, headB, bind_assoc, pure_bind]
  rfl

theorem bstep27 (A : KArgs) : bR27 (F := F) A = (headB A (c := 1) (h := 3) (by decide) (by decide) >>= fun _ => bR28 A) := by
  simp only [KArgs.of, bR27, bC92, bC93, k0_part92_eq_skeleton, k0_part92_skel, k0_part93_eq_skeleton, k0_part93_skel, bR28, headB, bind_assoc, pure_bind]
  rfl

theorem bstep28 (A : KArgs) : bR28 (F := F) A = (headB A (c := 0) (h := 0) (by decide) (by decide) >>= fun _ => bR29 A) := by
  simp only [KArgs.of, bR28, bC94, k0_part94_eq_skeleton, k0_part94_skel, bR29, headB, bind_assoc, pure_bind]
  rfl

theorem bstep29 (A : KArgs) : bR29 (F := F) A = (headB A (c := 0) (h := 1) (by decide) (by decide) >>= fun _ => bR30 A) := by
  simp only [KArgs.of, bR29, bC95, k0_part95_eq_skeleton, k0_part95_skel, bR30, headB, bind_assoc, pure_bind]
  rfl

theorem bstep30 (A : KArgs) : bR30 (F := F) A = (headB A (c := 0) (h := 2) (by decide) (by decide) >>= fun _ => bR31 A) := by
  simp only [KArgs.of, bR30, bC96, bC97, k0_part96_eq_skeleton, k0_part96_skel, k0_part97_eq_skeleton, k0_part97_skel, bR31, headB, bind_assoc, pure_bind]
  rfl

/-- What follows the last part. -/
def bK (A : KArgs) (x : Σ' (v1433 : FVec F S128x128 .f32) (v1435 : FVec F S128x256 .bf16) (v1437 : FVec F S128x256 .f32), FVec F S128x128 .bf16) : KProg F PUnit := do
    let v1444 : Vec F S1x1x128x128 .f32 ← Prog.lift (.load A.arg10 (Rect.unit (s := S4x4x128x128) ![3, 3, 0, 0] S1x1x128x128.size inb_S4x4x128x128_S1x1x128x128_3_3_0_0).toLoadRect (View.loadsAt_vmem h_S1x1x128x128))
    let v1448 : Vec F S1x128x256 .bf16 ← Prog.lift (.load A.arg11 (Rect.unit (s := S1x1024x1024) ![0, 0, 768] S1x128x256.size inb_S1x1024x1024_S1x128x256_0_0_768).toLoadRect (View.loadsAt_vmem h_S1x128x256))
    Prog.lift (.store A.arg11 (Rect.unit (s := S1x1024x1024) ![0, 0, 768] S1x128x256.size inb_S1x1024x1024_S1x128x256_0_0_768) (k0_pay3 x.2.2.1 x.2.2.2) Finset.univ (View.stores_vmem h_S1x128x256 (A.harg11.storeExact_slice rfl _ packedbf16_S1x1024x1024_S1x128x256_0_0_768) (fun _ => rfl)) (.inl rfl))
    let v1456 : Vec F S1x128x256 .f32 ← Prog.lift (.load A.arg12 (Rect.unit (s := S4x128x256) ![3, 0, 0] S1x128x256.size inb_S4x128x256_S1x128x256_3_0_0).toLoadRect (View.loadsAt_vmem h_S1x128x256))
    Prog.lift (.store A.arg12 (Rect.unit (s := S4x128x256) ![3, 0, 0] S1x128x256.size inb_S4x128x256_S1x128x256_3_0_0) (k0_pay4 x.1 x.2.1 x.2.2.1 v1444) Finset.univ (View.stores_vmem_bits_univ h_S1x128x256 rfl) (.inl rfl))
    pure ⟨⟩

theorem bpart (A : KArgs) : k0_part98 (F := F) A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 = bC54 A := by
  rw [k0_part98_eq_skeleton]; rfl

theorem blast (A : KArgs) : (bR31 (F := F) A >>= bK A) = (headB A (c := 0) (h := 3) (by decide) (by decide)) := by
  simp only [KArgs.of, bR31, btail, bK, headB, bind_assoc, pure_bind]
  rfl

theorem bE31 (A : KArgs) : (bR31 (F := F) A >>= bK A) = headsB A 1 31 := by
  rw [blast]; rfl

theorem bE30 (A : KArgs) : (bR30 (F := F) A >>= bK A) = headsB A 2 30 := by
  rw [bstep30, bind_assoc]; simp only [KArgs.of, bE31]; rfl

theorem bE29 (A : KArgs) : (bR29 (F := F) A >>= bK A) = headsB A 3 29 := by
  rw [bstep29, bind_assoc]; simp only [KArgs.of, bE30]; rfl

theorem bE28 (A : KArgs) : (bR28 (F := F) A >>= bK A) = headsB A 4 28 := by
  rw [bstep28, bind_assoc]; simp only [KArgs.of, bE29]; rfl

theorem bE27 (A : KArgs) : (bR27 (F := F) A >>= bK A) = headsB A 5 27 := by
  rw [bstep27, bind_assoc]; simp only [KArgs.of, bE28]; rfl

theorem bE26 (A : KArgs) : (bR26 (F := F) A >>= bK A) = headsB A 6 26 := by
  rw [bstep26, bind_assoc]; simp only [KArgs.of, bE27]; rfl

theorem bE25 (A : KArgs) : (bR25 (F := F) A >>= bK A) = headsB A 7 25 := by
  rw [bstep25, bind_assoc]; simp only [KArgs.of, bE26]; rfl

theorem bE24 (A : KArgs) : (bR24 (F := F) A >>= bK A) = headsB A 8 24 := by
  rw [bstep24, bind_assoc]; simp only [KArgs.of, bE25]; rfl

theorem bE23 (A : KArgs) : (bR23 (F := F) A >>= bK A) = headsB A 9 23 := by
  rw [bstep23, bind_assoc]; simp only [KArgs.of, bE24]; rfl

theorem bE22 (A : KArgs) : (bR22 (F := F) A >>= bK A) = headsB A 10 22 := by
  rw [bstep22, bind_assoc]; simp only [KArgs.of, bE23]; rfl

theorem bE21 (A : KArgs) : (bR21 (F := F) A >>= bK A) = headsB A 11 21 := by
  rw [bstep21, bind_assoc]; simp only [KArgs.of, bE22]; rfl

theorem bE20 (A : KArgs) : (bR20 (F := F) A >>= bK A) = headsB A 12 20 := by
  rw [bstep20, bind_assoc]; simp only [KArgs.of, bE21]; rfl

theorem bE19 (A : KArgs) : (bR19 (F := F) A >>= bK A) = headsB A 13 19 := by
  rw [bstep19, bind_assoc]; simp only [KArgs.of, bE20]; rfl

theorem bE18 (A : KArgs) : (bR18 (F := F) A >>= bK A) = headsB A 14 18 := by
  rw [bstep18, bind_assoc]; simp only [KArgs.of, bE19]; rfl

theorem bE17 (A : KArgs) : (bR17 (F := F) A >>= bK A) = headsB A 15 17 := by
  rw [bstep17, bind_assoc]; simp only [KArgs.of, bE18]; rfl

theorem bE16 (A : KArgs) : (bR16 (F := F) A >>= bK A) = headsB A 16 16 := by
  rw [bstep16, bind_assoc]; simp only [KArgs.of, bE17]; rfl

theorem bE15 (A : KArgs) : (bR15 (F := F) A >>= bK A) = headsB A 17 15 := by
  rw [bstep15, bind_assoc]; simp only [KArgs.of, bE16]; rfl

theorem bE14 (A : KArgs) : (bR14 (F := F) A >>= bK A) = headsB A 18 14 := by
  rw [bstep14, bind_assoc]; simp only [KArgs.of, bE15]; rfl

theorem bE13 (A : KArgs) : (bR13 (F := F) A >>= bK A) = headsB A 19 13 := by
  rw [bstep13, bind_assoc]; simp only [KArgs.of, bE14]; rfl

theorem bE12 (A : KArgs) : (bR12 (F := F) A >>= bK A) = headsB A 20 12 := by
  rw [bstep12, bind_assoc]; simp only [KArgs.of, bE13]; rfl

theorem bE11 (A : KArgs) : (bR11 (F := F) A >>= bK A) = headsB A 21 11 := by
  rw [bstep11, bind_assoc]; simp only [KArgs.of, bE12]; rfl

theorem bE10 (A : KArgs) : (bR10 (F := F) A >>= bK A) = headsB A 22 10 := by
  rw [bstep10, bind_assoc]; simp only [KArgs.of, bE11]; rfl

theorem bE9 (A : KArgs) : (bR9 (F := F) A >>= bK A) = headsB A 23 9 := by
  rw [bstep9, bind_assoc]; simp only [KArgs.of, bE10]; rfl

theorem bE8 (A : KArgs) : (bR8 (F := F) A >>= bK A) = headsB A 24 8 := by
  rw [bstep8, bind_assoc]; simp only [KArgs.of, bE9]; rfl

theorem bE7 (A : KArgs) : (bR7 (F := F) A >>= bK A) = headsB A 25 7 := by
  rw [bstep7, bind_assoc]; simp only [KArgs.of, bE8]; rfl

theorem bE6 (A : KArgs) : (bR6 (F := F) A >>= bK A) = headsB A 26 6 := by
  rw [bstep6, bind_assoc]; simp only [KArgs.of, bE7]; rfl

theorem bE5 (A : KArgs) : (bR5 (F := F) A >>= bK A) = headsB A 27 5 := by
  rw [bstep5, bind_assoc]; simp only [KArgs.of, bE6]; rfl

theorem bE4 (A : KArgs) : (bR4 (F := F) A >>= bK A) = headsB A 28 4 := by
  rw [bstep4, bind_assoc]; simp only [KArgs.of, bE5]; rfl

theorem bE3 (A : KArgs) : (bR3 (F := F) A >>= bK A) = headsB A 29 3 := by
  rw [bstep3, bind_assoc]; simp only [KArgs.of, bE4]; rfl

theorem bE2 (A : KArgs) : (bR2 (F := F) A >>= bK A) = headsB A 30 2 := by
  rw [bstep2, bind_assoc]; simp only [KArgs.of, bE3]; rfl

theorem bE1 (A : KArgs) : (bR1 (F := F) A >>= bK A) = headsB A 31 1 := by
  rw [bstep1, bind_assoc]; simp only [KArgs.of, bE2]; rfl

theorem bE0 (A : KArgs) : (bC54 (F := F) A >>= bK A) = headsB A 32 0 := by
  rw [bstep0, bind_assoc]; simp only [KArgs.of, bE1]; rfl

end Cert.RetIdeal.Hand
-- ==== Proof.RetIdealHand.Triple.lean ====
module

public import proofs.«01_k».proof.Proof.RetIdealHand.Base
public import proofs.«01_k».proof.Proof.Gen.RetIdeal.Launch
public import Idealize.ShloMosaic.Lib.VecWindow
public import Idealize.ShloMosaic.Lib.Tactic

@[expose] public section

set_option maxRecDepth 16384
set_option synthInstance.maxSize 4096

noncomputable section

/-! The triple of one head of one chunk, of all the heads, and what they leave. -/

namespace Cert.RetIdeal.Hand

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The blocks the body reads at one grid point. -/
structure Blocks (F : FTy → Type) where
  q : Vec F S1024x512 .f32
  k : Vec F S1024x512 .f32
  v : Vec F S1024x1024 .f32
  cs : Vec F S1024x128 .f32
  sn : Vec F S1024x128 .f32
  dm : Vec F S4x128x128 .f32
  rw : Vec F S4x4x128x128 .f32

/-- The next state of head `h` over chunk `c`, with the decay table's row `r`. -/
def Blocks.next (X : Blocks F) {c h r : ℕ} (hc : c < 8) (hh : h < 4) (hr : r < 4) (S : Vec F S1x128x256 .f32) : FVec F S1x128x256 .f32 :=
  nextV h (VecWindow.window X.k ![128 * c, 128 * h] S128x128.size (inbQ hc hh)) (VecWindow.window X.cs ![128 * c, 0] S128x128.size (inbC hc))
    (VecWindow.window X.sn ![128 * c, 0] S128x128.size (inbC hc)) (VecWindow.window X.v ![128 * c, 256 * h] S128x256.size (inbV hc hh)) S
    (VecWindow.window X.rw ![h, r, 0, 0] S1x1x128x128.size (inbR hh hr))

/-- The forward block of head `h` over chunk `c` at the state `S`. -/
def Blocks.outF (X : Blocks F) {c h : ℕ} (hc : c < 8) (hh : h < 4) (S : Vec F S1x128x256 .f32) : FVec F S1x128x256 .bf16 :=
  Hand.outF (VecWindow.window X.q ![128 * c, 128 * h] S128x128.size (inbQ hc hh)) (VecWindow.window X.cs ![128 * c, 0] S128x128.size (inbC hc))
    (VecWindow.window X.sn ![128 * c, 0] S128x128.size (inbC hc)) (VecWindow.window X.k ![128 * c, 128 * h] S128x128.size (inbQ hc hh))
    (VecWindow.window X.cs ![128 * c, 0] S128x128.size (inbC hc)) (VecWindow.window X.sn ![128 * c, 0] S128x128.size (inbC hc))
    (VecWindow.window X.v ![128 * c, 256 * h] S128x256.size (inbV hc hh)) S
    (VecWindow.window X.dm ![h, 0, 0] S1x128x128.size (inbD hh)) (VecWindow.window X.rw ![h, 0, 0, 0] S1x1x128x128.size (inbR hh (by decide)))

/-- The backward block of head `h` over chunk `c` at the state `S`. -/
def Blocks.outB (X : Blocks F) {c h : ℕ} (hc : c < 8) (hh : h < 4) (S : Vec F S1x128x256 .f32) : FVec F S1x128x256 .bf16 :=
  Hand.outB (VecWindow.window X.q ![128 * c, 128 * h] S128x128.size (inbQ hc hh)) (VecWindow.window X.cs ![128 * c, 0] S128x128.size (inbC hc))
    (VecWindow.window X.sn ![128 * c, 0] S128x128.size (inbC hc)) S (VecWindow.window X.rw ![h, 1, 0, 0] S1x1x128x128.size (inbR hh (by decide)))

/-- The scratch after one head. -/
def Blocks.stS (X : Blocks F) {c h r : ℕ} (hc : c < 8) (hh : h < 4) (hr : r < 4) (S : Vec F S4x128x256 .f32) : Vec F S4x128x256 .f32 :=
  VecWindow.put S ![h, 0, 0] S1x128x256.size (X.next hc hh hr (VecWindow.window S ![h, 0, 0] S1x128x256.size (inbS hh)))
/-- The output block after one forward head. -/
def Blocks.stOF (X : Blocks F) {c h : ℕ} (hc : c < 8) (hh : h < 4) (S : Vec F S4x128x256 .f32) (O : Vec F S1x1024x1024 .bf16) : Vec F S1x1024x1024 .bf16 :=
  VecWindow.put O ![0, 128 * c, 256 * h] S1x128x256.size (X.outF hc hh (VecWindow.window S ![h, 0, 0] S1x128x256.size (inbS hh)))
/-- The output block after one backward head. -/
def Blocks.stOB (X : Blocks F) {c h : ℕ} (hc : c < 8) (hh : h < 4) (S : Vec F S4x128x256 .f32) (O : Vec F S1x1024x1024 .bf16) : Vec F S1x1024x1024 .bf16 :=
  VecWindow.put O ![0, 128 * c, 256 * h] S1x128x256.size (X.outB hc hh (VecWindow.window S ![h, 0, 0] S1x128x256.size (inbS hh)))

/-- The body's memrefs at the blocks read, the output block and the scratch. -/
def held (A : KArgs) (c : Dev nD) (X : Blocks F) (O : Vec F S1x1024x1024 .bf16) (S : Vec F S4x128x256 .f32) : sProp 𝕄 :=
  iprop(owns (c : Thread nD τ) A.arg4 fullShare X.q ∗ owns (c : Thread nD τ) A.arg5 fullShare X.k ∗ owns (c : Thread nD τ) A.arg6 fullShare X.v
    ∗ owns (c : Thread nD τ) A.arg7 fullShare X.cs ∗ owns (c : Thread nD τ) A.arg8 fullShare X.sn ∗ owns (c : Thread nD τ) A.arg9 fullShare X.dm
    ∗ owns (c : Thread nD τ) A.arg10 fullShare X.rw ∗ owns (c : Thread nD τ) A.arg11 fullShare O ∗ owns (c : Thread nD τ) A.arg12 fullShare S)

theorem headF_run (A : KArgs) (d : Dev nD) (X : Blocks F) (O : Vec F S1x1024x1024 .bf16) (S : Vec F S4x128x256 .f32) {c h : ℕ} (hc : c < 8) (hh : h < 4)
    (E : Set ℕ) (K : PUnit → sProp 𝕄) :
    iprop(held A d X O S ∗ (held A d X (X.stOF hc hh S O) (X.stS hc hh (r := 2) (by decide) S) -∗ K ⟨⟩))
      ⊢ wp frame (wpE (defs₀ (F := F)) Variants.none d none) E (headF A hc hh) K := by
  obtain ⟨i, arg2, harg2, arg3, harg3, arg4, harg4, arg5, harg5, arg6, harg6, arg7, harg7, arg8, harg8, arg9, harg9, arg10, harg10, arg11, harg11, arg12, harg12⟩ := A
  obtain ⟨xq, xk, xv, xc, xs, xd, xr⟩ := X
  unfold headF
  unfold held
  unfold owns
  dsimp only
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr
    swap; · iexact H11
    ipureintro
    rw [View.read_writes_cons_put _ _ _ _ _ rfl, View.writes_nil, hf11]
    subst hf4 hf5 hf6 hf7 hf8 hf9 hf10 hf12
    rfl
  · iexists _; isplitr
    swap; · iexact H12
    ipureintro
    rw [View.read_writes_cons_put _ _ _ _ _ rfl, View.writes_nil, hf12]
    subst hf4 hf5 hf6 hf7 hf8 hf9 hf10 hf12
    rfl

theorem headB_run (A : KArgs) (d : Dev nD) (X : Blocks F) (O : Vec F S1x1024x1024 .bf16) (S : Vec F S4x128x256 .f32) {c h : ℕ} (hc : c < 8) (hh : h < 4)
    (E : Set ℕ) (K : PUnit → sProp 𝕄) :
    iprop(held A d X O S ∗ (held A d X (X.stOB hc hh S O) (X.stS hc hh (r := 3) (by decide) S) -∗ K ⟨⟩))
      ⊢ wp frame (wpE (defs₀ (F := F)) Variants.none d none) E (headB A hc hh) K := by
  obtain ⟨i, arg2, harg2, arg3, harg3, arg4, harg4, arg5, harg5, arg6, harg6, arg7, harg7, arg8, harg8, arg9, harg9, arg10, harg10, arg11, harg11, arg12, harg12⟩ := A
  obtain ⟨xq, xk, xv, xc, xs, xd, xr⟩ := X
  unfold headB
  unfold held
  unfold owns
  dsimp only
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr
    swap; · iexact H11
    ipureintro
    rw [View.read_writes_cons_put _ _ _ _ _ rfl, View.writes_nil, hf11]
    subst hf4 hf5 hf6 hf7 hf8 hf9 hf10 hf12
    rfl
  · iexists _; isplitr
    swap; · iexact H12
    ipureintro
    rw [View.read_writes_cons_put _ _ _ _ _ rfl, View.writes_nil, hf12]
    subst hf4 hf5 hf6 hf7 hf8 hf9 hf10 hf12
    rfl

/-- The scratch after the first `n` heads. -/
def Blocks.scrF (X : Blocks F) (S : Vec F S4x128x256 .f32) : ℕ → Vec F S4x128x256 .f32
  | 0 => S
  | n + 1 => if hn : n < 32 then X.stS (c := n / 4) (h := n % 4) (r := 2) (by omega) (by omega) (by decide) (X.scrF S n) else X.scrF S n

/-- The output block after the first `n` heads. -/
def Blocks.obF (X : Blocks F) (S : Vec F S4x128x256 .f32) (O : Vec F S1x1024x1024 .bf16) : ℕ → Vec F S1x1024x1024 .bf16
  | 0 => O
  | n + 1 => if hn : n < 32 then X.stOF (c := n / 4) (h := n % 4) (by omega) (by omega) (X.scrF S n) (X.obF S O n) else X.obF S O n

theorem headsF_run (A : KArgs) (d : Dev nD) (X : Blocks F) (O : Vec F S1x1024x1024 .bf16) (S : Vec F S4x128x256 .f32)
    (E : Set ℕ) (K : PUnit → sProp 𝕄) (m : ℕ) : ∀ n, n + m = 32 →
    iprop(held A d X (X.obF S O n) (X.scrF S n) ∗ (held A d X (X.obF S O 32) (X.scrF S 32) -∗ K ⟨⟩))
      ⊢ wp frame (wpE (defs₀ (F := F)) Variants.none d none) E (headsF A m n) K := by
  induction m with
  | zero =>
    intro n hn
    obtain rfl : n = 32 := by omega
    iintro ⟨H, Hk⟩
    unfold headsF
    sl_step
    iapply Hk
    iexact H
  | succ m ih =>
    intro n hn
    have hlt : n < 32 := by omega
    show _ ⊢ wp frame (wpE (defs₀ (F := F)) Variants.none d none) E
      ((if hn : n < 32 then headF A (c := n / 4) (h := n % 4) (by omega) (by omega) else pure ⟨⟩) >>= fun _ => headsF A m (n + 1)) K
    rw [dif_pos hlt, wp_bind_eq]
    have HH := headF_run (c := n / 4) (h := n % 4) A d X (X.obF S O n) (X.scrF S n) (by omega) (by omega) E (fun _ => wp frame (wpE (defs₀ (F := F)) Variants.none d none) E (headsF A m (n + 1)) K)
    refine BIBase.Entails.trans ?_ HH
    clear HH
    iintro ⟨H, Hk⟩
    isplitl [H]; · iexact H
    iintro H
    iapply ih (n + 1) (by omega)
    isplitl [H]
    · have e1 : X.obF S O (n + 1) = X.stOF (c := n / 4) (h := n % 4) (by omega) (by omega) (X.scrF S n) (X.obF S O n) := by
        show (if hn : n < 32 then _ else _) = _
        rw [dif_pos hlt]
      have e2 : X.scrF S (n + 1) = X.stS (c := n / 4) (h := n % 4) (r := 2) (by omega) (by omega) (by decide) (X.scrF S n) := by
        show (if hn : n < 32 then _ else _) = _
        rw [dif_pos hlt]
      rw [e1, e2]
      iexact H
    iexact Hk

/-- The scratch after the first `n` heads. -/
def Blocks.scrB (X : Blocks F) (S : Vec F S4x128x256 .f32) : ℕ → Vec F S4x128x256 .f32
  | 0 => S
  | n + 1 => if hn : n < 32 then X.stS (c := 7 - n / 4) (h := n % 4) (r := 3) (by omega) (by omega) (by decide) (X.scrB S n) else X.scrB S n

/-- The output block after the first `n` heads. -/
def Blocks.obB (X : Blocks F) (S : Vec F S4x128x256 .f32) (O : Vec F S1x1024x1024 .bf16) : ℕ → Vec F S1x1024x1024 .bf16
  | 0 => O
  | n + 1 => if hn : n < 32 then X.stOB (c := 7 - n / 4) (h := n % 4) (by omega) (by omega) (X.scrB S n) (X.obB S O n) else X.obB S O n

theorem headsB_run (A : KArgs) (d : Dev nD) (X : Blocks F) (O : Vec F S1x1024x1024 .bf16) (S : Vec F S4x128x256 .f32)
    (E : Set ℕ) (K : PUnit → sProp 𝕄) (m : ℕ) : ∀ n, n + m = 32 →
    iprop(held A d X (X.obB S O n) (X.scrB S n) ∗ (held A d X (X.obB S O 32) (X.scrB S 32) -∗ K ⟨⟩))
      ⊢ wp frame (wpE (defs₀ (F := F)) Variants.none d none) E (headsB A m n) K := by
  induction m with
  | zero =>
    intro n hn
    obtain rfl : n = 32 := by omega
    iintro ⟨H, Hk⟩
    unfold headsB
    sl_step
    iapply Hk
    iexact H
  | succ m ih =>
    intro n hn
    have hlt : n < 32 := by omega
    show _ ⊢ wp frame (wpE (defs₀ (F := F)) Variants.none d none) E
      ((if hn : n < 32 then headB A (c := 7 - n / 4) (h := n % 4) (by omega) (by omega) else pure ⟨⟩) >>= fun _ => headsB A m (n + 1)) K
    rw [dif_pos hlt, wp_bind_eq]
    have HH := headB_run (c := 7 - n / 4) (h := n % 4) A d X (X.obB S O n) (X.scrB S n) (by omega) (by omega) E (fun _ => wp frame (wpE (defs₀ (F := F)) Variants.none d none) E (headsB A m (n + 1)) K)
    refine BIBase.Entails.trans ?_ HH
    clear HH
    iintro ⟨H, Hk⟩
    isplitl [H]; · iexact H
    iintro H
    iapply ih (n + 1) (by omega)
    isplitl [H]
    · have e1 : X.obB S O (n + 1) = X.stOB (c := 7 - n / 4) (h := n % 4) (by omega) (by omega) (X.scrB S n) (X.obB S O n) := by
        show (if hn : n < 32 then _ else _) = _
        rw [dif_pos hlt]
      have e2 : X.scrB S (n + 1) = X.stS (c := 7 - n / 4) (h := n % 4) (r := 3) (by omega) (by omega) (by decide) (X.scrB S n) := by
        show (if hn : n < 32 then _ else _) = _
        rw [dif_pos hlt]
      rw [e1, e2]
      iexact H
    iexact Hk

end Cert.RetIdeal.Hand
-- ==== Proof.RetIdealHand.Sweep.lean ====
module

public import proofs.«01_k».proof.Proof.RetIdealHand.StepsF
public import proofs.«01_k».proof.Proof.RetIdealHand.StepsB
public import proofs.«01_k».proof.Proof.RetIdealHand.Triple

@[expose] public section

set_option maxRecDepth 16384
set_option synthInstance.maxSize 4096

noncomputable section

/-! The kernel body as its two heads' programs, and its triple in the two directions. -/

namespace Cert.RetIdeal.Hand

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Whether the body clears the state first, from the two tables' words. -/
def clears (i : grid0.Coords) (v6 v8 : BitVec 32) : BitVec 1 :=
  Scalar.cmpi .ne (Scalar.extui (Scalar.cmpi .eq (Scalar.select (Scalar.cmpi .eq (BitVec.ofNat 32 (i 0).val) 0#32) v6 v8) 1#32) : BitVec 32) 0#32

/-- The clearing of the state. -/
def clearing (A : KArgs) : KProg F PUnit := do
  let v20 : Vec F S4x128x256 .f32 ← Prog.lift (.load A.arg12 (Rect.unit (s := S4x128x256) ![0, 0, 0] S4x128x256.size inb_S4x128x256_S4x128x256_0_0_0).toLoadRect (View.loadsAt_vmem h_S4x128x256))
  Prog.lift (.store A.arg12 (Rect.unit (s := S4x128x256) ![0, 0, 0] S4x128x256.size inb_S4x128x256_S4x128x256_0_0_0) (k0_pay1 (F := F)) Finset.univ (View.stores_vmem_bits_univ h_S4x128x256 rfl) (.inl rfl))
  pure ⟨⟩

/-- The kernel body at `A`. -/
abbrev sweepOf (A : KArgs) : KProg F PUnit :=
  cc0_ret_sweep A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12

/-- Everything up to the heads, then `P`. -/
def upTo (A : KArgs) (P : KProg F PUnit) : Prog (TpuEff nD τ sig (Elt F) Λ₀ .tc) PUnit :=
  smemLoad A.arg2 (Rect.unit (s := S24) (k0_off1 A.i) S1.size (k0_off1_inb A.i)) numel1_S1 rfl >>= fun v6 : Elt F .i32 =>
  smemLoad A.arg3 (Rect.unit (s := S24) (k0_off1 A.i) S1.size (k0_off1_inb A.i)) numel1_S1 rfl >>= fun v8 : Elt F .i32 =>
  (if clears A.i v6 v8 = 1#1 then clearing A else pure ⟨⟩) >>= fun _ => P

theorem sweepF_eq (A : KArgs) (h2 : k0_cond2 A.i = 1#1) (h3 : ¬ k0_cond3 A.i = 1#1) :
    sweepOf (F := F) A = upTo A (headsF A 32 0) := by
  unfold sweepOf
  rw [cc0_ret_sweep_eq_skeleton]
  unfold cc0_ret_sweep_skel upTo
  have e : (k0_part53 A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 >>= fK A) = headsF (F := F) A 32 0 := by
    rw [fpart, fE0]
  rw [← e]
  simp only [dif_pos h2, dif_neg h3, bind_assoc, pure_bind]
  refine congrArg _ (funext fun v6 => congrArg _ (funext fun v8 => ?_))
  unfold clears
  split
  · unfold clearing
    simp only [bind_assoc, pure_bind]
    rfl
  · simp only [bind_assoc, pure_bind]
    rfl

theorem sweepB_eq (A : KArgs) (h2 : ¬ k0_cond2 A.i = 1#1) (h3 : k0_cond3 A.i = 1#1) :
    sweepOf (F := F) A = upTo A (headsB A 32 0) := by
  unfold sweepOf
  rw [cc0_ret_sweep_eq_skeleton]
  unfold cc0_ret_sweep_skel upTo
  have e : (k0_part98 A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 >>= bK A) = headsB (F := F) A 32 0 := by
    rw [bpart, bE0]
  rw [← e]
  simp only [dif_neg h2, dif_pos h3, bind_assoc, pure_bind]
  refine congrArg _ (funext fun v6 => congrArg _ (funext fun v8 => ?_))
  unfold clears
  split
  · unfold clearing
    simp only [bind_assoc, pure_bind]
    rfl
  · simp only [bind_assoc, pure_bind]
    rfl

/-- A table's buffer, and the half of it the region lends the body. -/
abbrev TbBuf (c : Dev nD) (M : Memref sig .tc .smem S24 .i32) := Buf (Elt F) (M.view.loc (c : Thread nD τ))
abbrev tbPt (c : Dev nD) (M : Memref sig .tc .smem S24 .i32) (f : TbBuf (F := F) c M) : sProp 𝕄 := M.view.loc (c : Thread nD τ) ↦{fullShare.right} f

/-- The word the body reads of a table. -/
def word (c : Dev nD) (i : grid0.Coords) (M : Memref sig .tc .smem S24 .i32) (f : TbBuf (F := F) c M) : BitVec 32 :=
  (M.access (Rect.unit (s := S24) (k0_off1 i) S1.size (k0_off1_inb i))).read (Elt F) f (Shape.Idx.first (numel1_S1.symm ▸ Nat.one_pos))

theorem upTo_run (A : KArgs) (d : Dev nD) (X : Blocks F) (O : Vec F S1x1024x1024 .bf16) (S : Vec F S4x128x256 .f32)
    (f0 : TbBuf (F := F) d A.arg2) (f1 : TbBuf (F := F) d A.arg3)
    (P : KProg F PUnit) (E : Set ℕ) (K : PUnit → sProp 𝕄) :
    iprop(tbPt d A.arg2 f0 ∗ tbPt d A.arg3 f1 ∗ held A d X O S
      ∗ ((tbPt d A.arg2 f0 ∗ tbPt d A.arg3 f1 ∗ held A d X O (if clears A.i (word d A.i A.arg2 f0) (word d A.i A.arg3 f1) = 1#1 then k0_pay1 else S))
          -∗ wp frame (wpE (defs₀ (F := F)) Variants.none d none) E P K))
      ⊢ wp frame (wpE (defs₀ (F := F)) Variants.none d none) E (upTo A P) K := by
  obtain ⟨i, arg2, harg2, arg3, harg3, arg4, harg4, arg5, harg5, arg6, harg6, arg7, harg7, arg8, harg8, arg9, harg9, arg10, harg10, arg11, harg11, arg12, harg12⟩ := A
  unfold upTo held
  unfold owns
  dsimp only
  iintro ⟨T0, T1, ⟨H4, H5, H6, H7, H8, H9, H10, H11, ⟨%f12, %hf12, H12⟩⟩, Hk⟩
  sl_exec
  iapply Hk
  isplitl [T0]; · iexact T0
  isplitl [T1]; · iexact T1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; isplitr
  swap; · iexact H12
  ipureintro
  by_cases h : clears i (word d i arg2 f0) (word d i arg3 f1) = 1#1
  · rw [if_pos h]
    refine (congrArg _ (dif_pos h)).trans ?_
    exact View.read_writes_full _ _ _ _ _
  · rw [if_neg h]
    exact (congrArg _ (dif_neg h)).trans hf12

end Cert.RetIdeal.Hand
-- ==== Proof.RetIdealHand.Kit.lean ====
module

public import proofs.«01_k».proof.Proof.RetIdealHand.Sweep
public import Idealize.ShloMosaic.Lib.Pipeline.Frame
public import Idealize.ShloMosaic.Lib.Pipeline.FrameBody

@[expose] public section

set_option maxRecDepth 16384
set_option synthInstance.maxSize 4096

noncomputable section

/-! The launch set-up of the sweep: the host operations ahead of it, the tables, the windows' blocks. -/

namespace Cert.RetIdeal.Hand

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

set_option maxHeartbeats 4000000 in
theorem hostOps0_fresh : (hostOps0 : List (HloOp τ sig (Elt F))).Forall fun op => op.fresh = ∅ := by
  simp only [List.Forall]; repeat' constructor

set_option maxHeartbeats 4000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The tables' contents. -/
def tbl : pre0.Contents (Elt F) := fun
  | 0 => (fun i => lit0 (S24.rowMajor i) : S24.Idx → BitVec 32)
  | 1 => (fun i => lit1 (S24.rowMajor i) : S24.Idx → BitVec 32)
  | ⟨_ + 2, h⟩ => absurd h (Nat.not_lt.2 (Nat.le_add_left _ _))

set_option maxHeartbeats 4000000 in
theorem V_tbl0 (c : Dev nD) : V m c main_c = (fun i => lit0 (S24.rowMajor i) : S24.Idx → BitVec 32) := by
  show StableHlo.after hostOps0 (fun b => m (c, b)) (Proc.devRef .tc main_c) = _
  after_results
  rfl
set_option maxHeartbeats 4000000 in
theorem V_tbl1 (c : Dev nD) : V m c main_c_0 = (fun i => lit1 (S24.rowMajor i) : S24.Idx → BitVec 32) := by
  show StableHlo.after hostOps0 (fun b => m (c, b)) (Proc.devRef .tc main_c_0) = _
  after_results
  rfl

theorem V_pre (c : Dev nD) (j : Fin 2) : V m c (pre0.ref j) = tbl j := by
  fin_cases j
  · exact V_tbl0 m c
  · exact V_tbl1 m c

abbrev adm : (pcfg0 (F := F)).Adm := ⟨tbl, trivial⟩
abbrev cfgM : Pipeline.Cfg sig Λ₀ := cfg0 (F := F) adm

abbrev tb0 : Memref sig .tc .smem S24 .i32 := Memref.whole main_c
abbrev tb1 : Memref sig .tc .smem S24 .i32 := Memref.whole main_c_0

theorem PhiT0_eq (c : Dev nD) : (Pipeline.ΦT pre0 (tbl (F := F)) c : sProp 𝕄) = iprop(tbPt c tb0 (tbl (F := F) 0) ∗ tbPt c tb1 (tbl (F := F) 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at point `t`. -/
def iblk (c : Dev nD) (w : Fin (cfgM (F := F)).W) (t : Fin (cfgM (F := F)).N) : (((cfgM (F := F)).win w).xblock ((cfgM (F := F)).grid.coords t)).Idx → Elt F ((cfgM (F := F)).win w).elt :=
  ((cfgM.win w).blk t).view.read (Elt F) (V m c (Pipeline.arrRef spec0 w))

def dflt0_0 : ((cfgM (F := F)).win 0).block.Idx → Elt F ((cfgM (F := F)).win 0).elt := fun _ => Classical.choice inferInstance
def X0_0 (c : Dev nD) (t : Fin (cfgM (F := F)).N) : ((cfgM (F := F)).win 0).block.Idx → Elt F ((cfgM (F := F)).win 0).elt :=
  (cfgM.win 0).fill (cfgM.grid.coords t) dflt0_0 (iblk m c 0 t)
theorem xsize0_0 : ∀ t : Fin (cfgM (F := F)).N, ∀ a, ((cfgM (F := F)).win 0).xsize ((cfgM (F := F)).grid.coords t) a = ((cfgM (F := F)).win 0).size a :=
  (by decide +kernel : ∀ t : Fin grid0.N, ∀ a : Fin 2, (clip0_0 (grid0.coords t) a).extent ((spec0 0).size a) = (spec0 0).size a)
theorem moved0_0 (t : Fin (cfgM (F := F)).N) (j : ((cfgM (F := F)).win 0).block.Idx) : ((cfgM (F := F)).win 0).moved (cfgM.grid.coords t) j = true :=
  ((cfgM.win 0).moved_iff _ j).mpr fun a => by rw [xsize0_0 t a]; exact (j a).isLt
theorem fill0_0 (t : Fin (cfgM (F := F)).N) (d d' : ((cfgM (F := F)).win 0).block.Idx → Elt F ((cfgM (F := F)).win 0).elt) (g) :
    ((cfgM (F := F)).win 0).fill (cfgM.grid.coords t) d g = (cfgM.win 0).fill (cfgM.grid.coords t) d' g := by
  funext j; unfold Pipeline.Window.fill; rw [dif_pos (moved0_0 t j), dif_pos (moved0_0 t j)]
theorem before0_0_of {c : Dev nD} (dat : Dat τ (Elt F) Unit ℕ (UR sig nD τ) ℕ cfgM c) (hA : dat.A 0 = V m c (Pipeline.arrRef spec0 0))
    (hafter : ∀ t, dat.after 0 t = X0_0 m c t) (t : Fin (cfgM (F := F)).N) (d) : dat.before 0 t d = X0_0 m c t :=
  (dat.before_in_eq_fetched 0 rfl (fun _ => rfl)
      (fun t t' h => funext fun a => congrArg (fun n => Pipeline.Clip.of n (((cfgM (F := F)).win 0).size a) (S24576x19712.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)

def dflt0_1 : ((cfgM (F := F)).win 1).block.Idx → Elt F ((cfgM (F := F)).win 1).elt := fun _ => Classical.choice inferInstance
def X0_1 (c : Dev nD) (t : Fin (cfgM (F := F)).N) : ((cfgM (F := F)).win 1).block.Idx → Elt F ((cfgM (F := F)).win 1).elt :=
  (cfgM.win 1).fill (cfgM.grid.coords t) dflt0_1 (iblk m c 1 t)
theorem xsize0_1 : ∀ t : Fin (cfgM (F := F)).N, ∀ a, ((cfgM (F := F)).win 1).xsize ((cfgM (F := F)).grid.coords t) a = ((cfgM (F := F)).win 1).size a :=
  (by decide +kernel : ∀ t : Fin grid0.N, ∀ a : Fin 2, (clip0_1 (grid0.coords t) a).extent ((spec0 1).size a) = (spec0 1).size a)
theorem moved0_1 (t : Fin (cfgM (F := F)).N) (j : ((cfgM (F := F)).win 1).block.Idx) : ((cfgM (F := F)).win 1).moved (cfgM.grid.coords t) j = true :=
  ((cfgM.win 1).moved_iff _ j).mpr fun a => by rw [xsize0_1 t a]; exact (j a).isLt
theorem fill0_1 (t : Fin (cfgM (F := F)).N) (d d' : ((cfgM (F := F)).win 1).block.Idx → Elt F ((cfgM (F := F)).win 1).elt) (g) :
    ((cfgM (F := F)).win 1).fill (cfgM.grid.coords t) d g = (cfgM.win 1).fill (cfgM.grid.coords t) d' g := by
  funext j; unfold Pipeline.Window.fill; rw [dif_pos (moved0_1 t j), dif_pos (moved0_1 t j)]
theorem before0_1_of {c : Dev nD} (dat : Dat τ (Elt F) Unit ℕ (UR sig nD τ) ℕ cfgM c) (hA : dat.A 1 = V m c (Pipeline.arrRef spec0 1))
    (hafter : ∀ t, dat.after 1 t = X0_1 m c t) (t : Fin (cfgM (F := F)).N) (d) : dat.before 1 t d = X0_1 m c t :=
  (dat.before_in_eq_fetched 1 rfl (fun _ => rfl)
      (fun t t' h => funext fun a => congrArg (fun n => Pipeline.Clip.of n (((cfgM (F := F)).win 1).size a) (S24576x19712.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)

def dflt0_2 : ((cfgM (F := F)).win 2).block.Idx → Elt F ((cfgM (F := F)).win 2).elt := fun _ => Classical.choice inferInstance
def X0_2 (c : Dev nD) (t : Fin (cfgM (F := F)).N) : ((cfgM (F := F)).win 2).block.Idx → Elt F ((cfgM (F := F)).win 2).elt :=
  (cfgM.win 2).fill (cfgM.grid.coords t) dflt0_2 (iblk m c 2 t)
theorem xsize0_2 : ∀ t : Fin (cfgM (F := F)).N, ∀ a, ((cfgM (F := F)).win 2).xsize ((cfgM (F := F)).grid.coords t) a = ((cfgM (F := F)).win 2).size a :=
  (by decide +kernel : ∀ t : Fin grid0.N, ∀ a : Fin 2, (clip0_2 (grid0.coords t) a).extent ((spec0 2).size a) = (spec0 2).size a)
theorem moved0_2 (t : Fin (cfgM (F := F)).N) (j : ((cfgM (F := F)).win 2).block.Idx) : ((cfgM (F := F)).win 2).moved (cfgM.grid.coords t) j = true :=
  ((cfgM.win 2).moved_iff _ j).mpr fun a => by rw [xsize0_2 t a]; exact (j a).isLt
theorem fill0_2 (t : Fin (cfgM (F := F)).N) (d d' : ((cfgM (F := F)).win 2).block.Idx → Elt F ((cfgM (F := F)).win 2).elt) (g) :
    ((cfgM (F := F)).win 2).fill (cfgM.grid.coords t) d g = (cfgM.win 2).fill (cfgM.grid.coords t) d' g := by
  funext j; unfold Pipeline.Window.fill; rw [dif_pos (moved0_2 t j), dif_pos (moved0_2 t j)]
theorem before0_2_of {c : Dev nD} (dat : Dat τ (Elt F) Unit ℕ (UR sig nD τ) ℕ cfgM c) (hA : dat.A 2 = V m c (Pipeline.arrRef spec0 2))
    (hafter : ∀ t, dat.after 2 t = X0_2 m c t) (t : Fin (cfgM (F := F)).N) (d) : dat.before 2 t d = X0_2 m c t :=
  (dat.before_in_eq_fetched 2 rfl (fun _ => rfl)
      (fun t t' h => funext fun a => congrArg (fun n => Pipeline.Clip.of n (((cfgM (F := F)).win 2).size a) (S24576x19712.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)

def dflt0_3 : ((cfgM (F := F)).win 3).block.Idx → Elt F ((cfgM (F := F)).win 3).elt := fun _ => Classical.choice inferInstance
def X0_3 (c : Dev nD) (t : Fin (cfgM (F := F)).N) : ((cfgM (F := F)).win 3).block.Idx → Elt F ((cfgM (F := F)).win 3).elt :=
  (cfgM.win 3).fill (cfgM.grid.coords t) dflt0_3 (iblk m c 3 t)
theorem xsize0_3 (t : Fin (cfgM (F := F)).N) (a) : ((cfgM (F := F)).win 3).xsize ((cfgM (F := F)).grid.coords t) a = ((cfgM (F := F)).win 3).size a := rfl
theorem moved0_3 (t : Fin (cfgM (F := F)).N) (j : ((cfgM (F := F)).win 3).block.Idx) : ((cfgM (F := F)).win 3).moved (cfgM.grid.coords t) j = true :=
  ((cfgM.win 3).moved_iff _ j).mpr fun a => by rw [xsize0_3 t a]; exact (j a).isLt
theorem fill0_3 (t : Fin (cfgM (F := F)).N) (d d' : ((cfgM (F := F)).win 3).block.Idx → Elt F ((cfgM (F := F)).win 3).elt) (g) :
    ((cfgM (F := F)).win 3).fill (cfgM.grid.coords t) d g = (cfgM.win 3).fill (cfgM.grid.coords t) d' g := by
  funext j; unfold Pipeline.Window.fill; rw [dif_pos (moved0_3 t j), dif_pos (moved0_3 t j)]
theorem before0_3_of {c : Dev nD} (dat : Dat τ (Elt F) Unit ℕ (UR sig nD τ) ℕ cfgM c) (hA : dat.A 3 = V m c (Pipeline.arrRef spec0 3))
    (hafter : ∀ t, dat.after 3 t = X0_3 m c t) (t : Fin (cfgM (F := F)).N) (d) : dat.before 3 t d = X0_3 m c t :=
  (dat.before_in_eq_fetched 3 rfl (fun _ => rfl)
      (fun _ _ _ => rfl)
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)

def dflt0_4 : ((cfgM (F := F)).win 4).block.Idx → Elt F ((cfgM (F := F)).win 4).elt := fun _ => Classical.choice inferInstance
def X0_4 (c : Dev nD) (t : Fin (cfgM (F := F)).N) : ((cfgM (F := F)).win 4).block.Idx → Elt F ((cfgM (F := F)).win 4).elt :=
  (cfgM.win 4).fill (cfgM.grid.coords t) dflt0_4 (iblk m c 4 t)
theorem xsize0_4 (t : Fin (cfgM (F := F)).N) (a) : ((cfgM (F := F)).win 4).xsize ((cfgM (F := F)).grid.coords t) a = ((cfgM (F := F)).win 4).size a := rfl
theorem moved0_4 (t : Fin (cfgM (F := F)).N) (j : ((cfgM (F := F)).win 4).block.Idx) : ((cfgM (F := F)).win 4).moved (cfgM.grid.coords t) j = true :=
  ((cfgM.win 4).moved_iff _ j).mpr fun a => by rw [xsize0_4 t a]; exact (j a).isLt
theorem fill0_4 (t : Fin (cfgM (F := F)).N) (d d' : ((cfgM (F := F)).win 4).block.Idx → Elt F ((cfgM (F := F)).win 4).elt) (g) :
    ((cfgM (F := F)).win 4).fill (cfgM.grid.coords t) d g = (cfgM.win 4).fill (cfgM.grid.coords t) d' g := by
  funext j; unfold Pipeline.Window.fill; rw [dif_pos (moved0_4 t j), dif_pos (moved0_4 t j)]
theorem before0_4_of {c : Dev nD} (dat : Dat τ (Elt F) Unit ℕ (UR sig nD τ) ℕ cfgM c) (hA : dat.A 4 = V m c (Pipeline.arrRef spec0 4))
    (hafter : ∀ t, dat.after 4 t = X0_4 m c t) (t : Fin (cfgM (F := F)).N) (d) : dat.before 4 t d = X0_4 m c t :=
  (dat.before_in_eq_fetched 4 rfl (fun _ => rfl)
      (fun _ _ _ => rfl)
      (fun t => by rw [hafter]; unfold X0_4; rw [Pipeline.Window.cut_fill]; unfold Dat.blockOf iblk; rw [hA]; try rfl) t d).trans
    (by unfold Dat.fetched X0_4; rw [fill0_4 t d dflt0_4]; unfold Dat.blockOf iblk; rw [hA]; try rfl)

def dflt0_5 : ((cfgM (F := F)).win 5).block.Idx → Elt F ((cfgM (F := F)).win 5).elt := fun _ => Classical.choice inferInstance
def X0_5 (c : Dev nD) (t : Fin (cfgM (F := F)).N) : ((cfgM (F := F)).win 5).block.Idx → Elt F ((cfgM (F := F)).win 5).elt :=
  (cfgM.win 5).fill (cfgM.grid.coords t) dflt0_5 (iblk m c 5 t)
theorem xsize0_5 (t : Fin (cfgM (F := F)).N) (a) : ((cfgM (F := F)).win 5).xsize ((cfgM (F := F)).grid.coords t) a = ((cfgM (F := F)).win 5).size a := rfl
theorem moved0_5 (t : Fin (cfgM (F := F)).N) (j : ((cfgM (F := F)).win 5).block.Idx) : ((cfgM (F := F)).win 5).moved (cfgM.grid.coords t) j = true :=
  ((cfgM.win 5).moved_iff _ j).mpr fun a => by rw [xsize0_5 t a]; exact (j a).isLt
theorem fill0_5 (t : Fin (cfgM (F := F)).N) (d d' : ((cfgM (F := F)).win 5).block.Idx → Elt F ((cfgM (F := F)).win 5).elt) (g) :
    ((cfgM (F := F)).win 5).fill (cfgM.grid.coords t) d g = (cfgM.win 5).fill (cfgM.grid.coords t) d' g := by
  funext j; unfold Pipeline.Window.fill; rw [dif_pos (moved0_5 t j), dif_pos (moved0_5 t j)]
theorem before0_5_of {c : Dev nD} (dat : Dat τ (Elt F) Unit ℕ (UR sig nD τ) ℕ cfgM c) (hA : dat.A 5 = V m c (Pipeline.arrRef spec0 5))
    (hafter : ∀ t, dat.after 5 t = X0_5 m c t) (t : Fin (cfgM (F := F)).N) (d) : dat.before 5 t d = X0_5 m c t :=
  (dat.before_in_eq_fetched 5 rfl (fun _ => rfl)
      (fun _ _ _ => rfl)
      (fun t => by rw [hafter]; unfold X0_5; rw [Pipeline.Window.cut_fill]; unfold Dat.blockOf iblk; rw [hA]; try rfl) t d).trans
    (by unfold Dat.fetched X0_5; rw [fill0_5 t d dflt0_5]; unfold Dat.blockOf iblk; rw [hA]; try rfl)

def dflt0_6 : ((cfgM (F := F)).win 6).block.Idx → Elt F ((cfgM (F := F)).win 6).elt := fun _ => Classical.choice inferInstance
def X0_6 (c : Dev nD) (t : Fin (cfgM (F := F)).N) : ((cfgM (F := F)).win 6).block.Idx → Elt F ((cfgM (F := F)).win 6).elt :=
  (cfgM.win 6).fill (cfgM.grid.coords t) dflt0_6 (iblk m c 6 t)
theorem xsize0_6 (t : Fin (cfgM (F := F)).N) (a) : ((cfgM (F := F)).win 6).xsize ((cfgM (F := F)).grid.coords t) a = ((cfgM (F := F)).win 6).size a := rfl
theorem moved0_6 (t : Fin (cfgM (F := F)).N) (j : ((cfgM (F := F)).win 6).block.Idx) : ((cfgM (F := F)).win 6).moved (cfgM.grid.coords t) j = true :=
  ((cfgM.win 6).moved_iff _ j).mpr fun a => by rw [xsize0_6 t a]; exact (j a).isLt
theorem fill0_6 (t : Fin (cfgM (F := F)).N) (d d' : ((cfgM (F := F)).win 6).block.Idx → Elt F ((cfgM (F := F)).win 6).elt) (g) :
    ((cfgM (F := F)).win 6).fill (cfgM.grid.coords t) d g = (cfgM.win 6).fill (cfgM.grid.coords t) d' g := by
  funext j; unfold Pipeline.Window.fill; rw [dif_pos (moved0_6 t j), dif_pos (moved0_6 t j)]
theorem before0_6_of {c : Dev nD} (dat : Dat τ (Elt F) Unit ℕ (UR sig nD τ) ℕ cfgM c) (hA : dat.A 6 = V m c (Pipeline.arrRef spec0 6))
    (hafter : ∀ t, dat.after 6 t = X0_6 m c t) (t : Fin (cfgM (F := F)).N) (d) : dat.before 6 t d = X0_6 m c t :=
  (dat.before_in_eq_fetched 6 rfl (fun _ => rfl)
      (fun _ _ _ => rfl)
      (fun t => by rw [hafter]; unfold X0_6; rw [Pipeline.Window.cut_fill]; unfold Dat.blockOf iblk; rw [hA]; try rfl) t d).trans
    (by unfold Dat.fetched X0_6; rw [fill0_6 t d dflt0_6]; unfold Dat.blockOf iblk; rw [hA]; try rfl)

abbrev ms0_0 (t : Fin (cfgM (F := F)).N) : Memref sig .tc .vmem S1024x512 .f32 := spec0_0.stage (cfgM.slots t 0)
abbrev hs0_0 (t : Fin (cfgM (F := F)).N) : (ms0_0 (F := F) t).IsWhole := hstage0_0 ((cfgM.slots t 0).cast nbuf0_0)
abbrev ms0_1 (t : Fin (cfgM (F := F)).N) : Memref sig .tc .vmem S1024x512 .f32 := spec0_1.stage (cfgM.slots t 1)
abbrev hs0_1 (t : Fin (cfgM (F := F)).N) : (ms0_1 (F := F) t).IsWhole := hstage0_1 ((cfgM.slots t 1).cast nbuf0_1)
abbrev ms0_2 (t : Fin (cfgM (F := F)).N) : Memref sig .tc .vmem S1024x1024 .f32 := spec0_2.stage (cfgM.slots t 2)
abbrev hs0_2 (t : Fin (cfgM (F := F)).N) : (ms0_2 (F := F) t).IsWhole := hstage0_2 ((cfgM.slots t 2).cast nbuf0_2)
abbrev ms0_3 (t : Fin (cfgM (F := F)).N) : Memref sig .tc .vmem S1024x128 .f32 := spec0_3.stage (cfgM.slots t 3)
abbrev hs0_3 (t : Fin (cfgM (F := F)).N) : (ms0_3 (F := F) t).IsWhole := hstage0_3 ((cfgM.slots t 3).cast nbuf0_3)
abbrev ms0_4 (t : Fin (cfgM (F := F)).N) : Memref sig .tc .vmem S1024x128 .f32 := spec0_4.stage (cfgM.slots t 4)
abbrev hs0_4 (t : Fin (cfgM (F := F)).N) : (ms0_4 (F := F) t).IsWhole := hstage0_4 ((cfgM.slots t 4).cast nbuf0_4)
abbrev ms0_5 (t : Fin (cfgM (F := F)).N) : Memref sig .tc .vmem S4x128x128 .f32 := spec0_5.stage (cfgM.slots t 5)
abbrev hs0_5 (t : Fin (cfgM (F := F)).N) : (ms0_5 (F := F) t).IsWhole := hstage0_5 ((cfgM.slots t 5).cast nbuf0_5)
abbrev ms0_6 (t : Fin (cfgM (F := F)).N) : Memref sig .tc .vmem S4x4x128x128 .f32 := spec0_6.stage (cfgM.slots t 6)
abbrev hs0_6 (t : Fin (cfgM (F := F)).N) : (ms0_6 (F := F) t).IsWhole := hstage0_6 ((cfgM.slots t 6).cast nbuf0_6)
abbrev ms0_7 (t : Fin (cfgM (F := F)).N) : Memref sig .tc .vmem S1x1024x1024 .bf16 := spec0_7.stage (cfgM.slots t 7)
abbrev hs0_7 (t : Fin (cfgM (F := F)).N) : (ms0_7 (F := F) t).IsWhole := hstage0_7 ((cfgM.slots t 7).cast nbuf0_7)

/-- Window 0's block at point `t`, at its own shape. -/
def y0 (c : Dev nD) (t : Fin (cfgM (F := F)).N) : Vec F S1024x512 .f32 := X0_0 m c t
theorem y0_eq (c : Dev nD) (t : Fin (cfgM (F := F)).N) : y0 m c t = X0_0 m c t := rfl

/-- Window 1's block at point `t`, at its own shape. -/
def y1 (c : Dev nD) (t : Fin (cfgM (F := F)).N) : Vec F S1024x512 .f32 := X0_1 m c t
theorem y1_eq (c : Dev nD) (t : Fin (cfgM (F := F)).N) : y1 m c t = X0_1 m c t := rfl

/-- Window 2's block at point `t`, at its own shape. -/
def y2 (c : Dev nD) (t : Fin (cfgM (F := F)).N) : Vec F S1024x1024 .f32 := X0_2 m c t
theorem y2_eq (c : Dev nD) (t : Fin (cfgM (F := F)).N) : y2 m c t = X0_2 m c t := rfl

/-- Window 3's block at point `t`, at its own shape. -/
def y3 (c : Dev nD) (t : Fin (cfgM (F := F)).N) : Vec F S1024x128 .f32 := X0_3 m c t
theorem y3_eq (c : Dev nD) (t : Fin (cfgM (F := F)).N) : y3 m c t = X0_3 m c t := rfl

/-- Window 4's block at point `t`, at its own shape. -/
def y4 (c : Dev nD) (t : Fin (cfgM (F := F)).N) : Vec F S1024x128 .f32 := X0_4 m c t
theorem y4_eq (c : Dev nD) (t : Fin (cfgM (F := F)).N) : y4 m c t = X0_4 m c t := rfl

/-- Window 5's block at point `t`, at its own shape. -/
def y5 (c : Dev nD) (t : Fin (cfgM (F := F)).N) : Vec F S4x128x128 .f32 := X0_5 m c t
theorem y5_eq (c : Dev nD) (t : Fin (cfgM (F := F)).N) : y5 m c t = X0_5 m c t := rfl

/-- Window 6's block at point `t`, at its own shape. -/
def y6 (c : Dev nD) (t : Fin (cfgM (F := F)).N) : Vec F S4x4x128x128 .f32 := X0_6 m c t
theorem y6_eq (c : Dev nD) (t : Fin (cfgM (F := F)).N) : y6 m c t = X0_6 m c t := rfl

end Cert.RetIdeal.Hand
-- ==== Proof.RetIdealHand.Outs.lean ====
module

public import proofs.«01_k».proof.Proof.RetIdealHand.Triple
public import Idealize.ShloMosaic.Lib.Pointwise

@[expose] public section

set_option maxRecDepth 16384
set_option synthInstance.maxSize 4096

noncomputable section

/-! What all the heads leave in the output block, whatever it held. -/

namespace Cert.RetIdeal.Hand

open Cert.RetIdeal Cert.RetIdeal.Gen
open Idealize.ShloMosaic Idealize.ShloMosaic.TcCoe Idealize.ShloMosaic.Pointwise

variable {F : FTy → Type} [FloatOps F] [Named F]

/-- Position `y` of the output block within its head's block. -/
def locO (y : S1x1024x1024.Idx) : S1x128x256.Idx :=
  ix3 (n0 := 1) (n1 := 128) (n2 := 256) ⟨0, by decide⟩ ⟨(y 1).val % 128, Nat.mod_lt _ (by decide)⟩ ⟨(y 2).val % 256, Nat.mod_lt _ (by decide)⟩

/-- The block head `n` leaves. -/
def Blocks.oAtF (X : Blocks F) (S : Vec F S4x128x256 .f32) (n : ℕ) (hn : n < 32) : FVec F S1x128x256 .bf16 :=
  X.outF (c := (n / 4)) (h := n % 4) (by omega) (by omega) (VecWindow.window (X.scrF S n) ![n % 4, 0, 0] S1x128x256.size (inbS (by omega)))

/-- The head that leaves position `y` of the output block. -/
def headOfF (y : S1x1024x1024.Idx) : ℕ := (4 * ((y 1).val / 128) + (y 2).val / 256)
theorem headOfF_lt (y : S1x1024x1024.Idx) : headOfF y < 32 := by
  have h1 : (y 1).val < 1024 := (y 1).isLt
  have h2 : (y 2).val < 1024 := (y 2).isLt
  unfold headOfF; omega

/-- What all the heads leave in the output block. -/
def Blocks.oF (X : Blocks F) (S : Vec F S4x128x256 .f32) : Vec F S1x1024x1024 .bf16 :=
  fun y => X.oAtF S (headOfF y) (headOfF_lt y) (locO y)

theorem obF_apply (X : Blocks F) (S : Vec F S4x128x256 .f32) (O : Vec F S1x1024x1024 .bf16) (y : S1x1024x1024.Idx) (n : ℕ) :
    n ≤ 32 → headOfF y < n → X.obF S O n y = X.oF S y := by
  induction n with
  | zero => intro _ h; exact absurd h (Nat.not_lt_zero _)
  | succ n ih =>
    intro hn hy
    have hlt : n < 32 := by omega
    have e1 : X.obF S O (n + 1) = X.stOF (c := (n / 4)) (h := n % 4) (by omega) (by omega) (X.scrF S n) (X.obF S O n) := by
      show (if hn : n < 32 then _ else _) = _
      rw [dif_pos hlt]
    rw [e1]
    have h1 : (y 1).val < 1024 := (y 1).isLt
    have h2 : (y 2).val < 1024 := (y 2).isLt
    have h0 : (y 0).val < 1 := (y 0).isLt
    by_cases he : n = headOfF y
    · subst he
      have hin : ∀ a, (![0, 128 * (headOfF y / 4), 256 * (headOfF y % 4)] : Fin 3 → ℕ) a ≤ (y a).val
          ∧ (y a).val < (![0, 128 * (headOfF y / 4), 256 * (headOfF y % 4)] : Fin 3 → ℕ) a + S1x128x256.size a := by
        unfold headOfF
        intro a; fin_cases a
        · exact ⟨Nat.zero_le _, h0⟩
        · refine ⟨?_, ?_⟩
          · show 128 * ((4 * ((y 1).val / 128) + (y 2).val / 256) / 4) ≤ (y 1).val; omega
          · show (y 1).val < 128 * ((4 * ((y 1).val / 128) + (y 2).val / 256) / 4) + 128; omega
        · refine ⟨?_, ?_⟩
          · show 256 * ((4 * ((y 1).val / 128) + (y 2).val / 256) % 4) ≤ (y 2).val; omega
          · show (y 2).val < 256 * ((4 * ((y 1).val / 128) + (y 2).val / 256) % 4) + 256; omega
      unfold Blocks.stOF VecWindow.put
      rw [dif_pos hin]
      unfold Blocks.oF Blocks.oAtF
      refine congrArg _ (funext fun a => Fin.ext ?_)
      unfold headOfF at hin ⊢
      fin_cases a
      · show (y 0).val - 0 = 0; omega
      · show (y 1).val - 128 * ((4 * ((y 1).val / 128) + (y 2).val / 256) / 4) = (y 1).val % 128; omega
      · show (y 2).val - 256 * ((4 * ((y 1).val / 128) + (y 2).val / 256) % 4) = (y 2).val % 256; omega
    · have hout : ¬ ∀ a, (![0, 128 * (n / 4), 256 * (n % 4)] : Fin 3 → ℕ) a ≤ (y a).val
          ∧ (y a).val < (![0, 128 * (n / 4), 256 * (n % 4)] : Fin 3 → ℕ) a + S1x128x256.size a := by
        intro hall
        have a1 : 128 * (n / 4) ≤ (y 1).val ∧ (y 1).val < 128 * (n / 4) + 128 := hall 1
        have a2 : 256 * (n % 4) ≤ (y 2).val ∧ (y 2).val < 256 * (n % 4) + 256 := hall 2
        unfold headOfF at he
        omega
      unfold Blocks.stOF VecWindow.put
      rw [dif_neg hout]
      exact ih (by omega) (by omega)

theorem obF_full (X : Blocks F) (S : Vec F S4x128x256 .f32) (O : Vec F S1x1024x1024 .bf16) : X.obF S O 32 = X.oF S :=
  funext fun y => obF_apply X S O y 32 le_rfl (headOfF_lt y)

/-- The block head `n` leaves. -/
def Blocks.oAtB (X : Blocks F) (S : Vec F S4x128x256 .f32) (n : ℕ) (hn : n < 32) : FVec F S1x128x256 .bf16 :=
  X.outB (c := (7 - n / 4)) (h := n % 4) (by omega) (by omega) (VecWindow.window (X.scrB S n) ![n % 4, 0, 0] S1x128x256.size (inbS (by omega)))

/-- The head that leaves position `y` of the output block. -/
def headOfB (y : S1x1024x1024.Idx) : ℕ := (4 * (7 - (y 1).val / 128) + (y 2).val / 256)
theorem headOfB_lt (y : S1x1024x1024.Idx) : headOfB y < 32 := by
  have h1 : (y 1).val < 1024 := (y 1).isLt
  have h2 : (y 2).val < 1024 := (y 2).isLt
  unfold headOfB; omega

/-- What all the heads leave in the output block. -/
def Blocks.oB (X : Blocks F) (S : Vec F S4x128x256 .f32) : Vec F S1x1024x1024 .bf16 :=
  fun y => X.oAtB S (headOfB y) (headOfB_lt y) (locO y)

theorem obB_apply (X : Blocks F) (S : Vec F S4x128x256 .f32) (O : Vec F S1x1024x1024 .bf16) (y : S1x1024x1024.Idx) (n : ℕ) :
    n ≤ 32 → headOfB y < n → X.obB S O n y = X.oB S y := by
  induction n with
  | zero => intro _ h; exact absurd h (Nat.not_lt_zero _)
  | succ n ih =>
    intro hn hy
    have hlt : n < 32 := by omega
    have e1 : X.obB S O (n + 1) = X.stOB (c := (7 - n / 4)) (h := n % 4) (by omega) (by omega) (X.scrB S n) (X.obB S O n) := by
      show (if hn : n < 32 then _ else _) = _
      rw [dif_pos hlt]
    rw [e1]
    have h1 : (y 1).val < 1024 := (y 1).isLt
    have h2 : (y 2).val < 1024 := (y 2).isLt
    have h0 : (y 0).val < 1 := (y 0).isLt
    by_cases he : n = headOfB y
    · subst he
      have hin : ∀ a, (![0, 128 * (7 - headOfB y / 4), 256 * (headOfB y % 4)] : Fin 3 → ℕ) a ≤ (y a).val
          ∧ (y a).val < (![0, 128 * (7 - headOfB y / 4), 256 * (headOfB y % 4)] : Fin 3 → ℕ) a + S1x128x256.size a := by
        unfold headOfB
        intro a; fin_cases a
        · exact ⟨Nat.zero_le _, h0⟩
        · refine ⟨?_, ?_⟩
          · show 128 * (7 - (4 * (7 - (y 1).val / 128) + (y 2).val / 256) / 4) ≤ (y 1).val; omega
          · show (y 1).val < 128 * (7 - (4 * (7 - (y 1).val / 128) + (y 2).val / 256) / 4) + 128; omega
        · refine ⟨?_, ?_⟩
          · show 256 * ((4 * (7 - (y 1).val / 128) + (y 2).val / 256) % 4) ≤ (y 2).val; omega
          · show (y 2).val < 256 * ((4 * (7 - (y 1).val / 128) + (y 2).val / 256) % 4) + 256; omega
      unfold Blocks.stOB VecWindow.put
      rw [dif_pos hin]
      unfold Blocks.oB Blocks.oAtB
      refine congrArg _ (funext fun a => Fin.ext ?_)
      unfold headOfB at hin ⊢
      fin_cases a
      · show (y 0).val - 0 = 0; omega
      · show (y 1).val - 128 * (7 - (4 * (7 - (y 1).val / 128) + (y 2).val / 256) / 4) = (y 1).val % 128; omega
      · show (y 2).val - 256 * ((4 * (7 - (y 1).val / 128) + (y 2).val / 256) % 4) = (y 2).val % 256; omega
    · have hout : ¬ ∀ a, (![0, 128 * (7 - n / 4), 256 * (n % 4)] : Fin 3 → ℕ) a ≤ (y a).val
          ∧ (y a).val < (![0, 128 * (7 - n / 4), 256 * (n % 4)] : Fin 3 → ℕ) a + S1x128x256.size a := by
        intro hall
        have a1 : 128 * (7 - n / 4) ≤ (y 1).val ∧ (y 1).val < 128 * (7 - n / 4) + 128 := hall 1
        have a2 : 256 * (n % 4) ≤ (y 2).val ∧ (y 2).val < 256 * (n % 4) + 256 := hall 2
        unfold headOfB at he
        omega
      unfold Blocks.stOB VecWindow.put
      rw [dif_neg hout]
      exact ih (by omega) (by omega)

theorem obB_full (X : Blocks F) (S : Vec F S4x128x256 .f32) (O : Vec F S1x1024x1024 .bf16) : X.obB S O 32 = X.oB S :=
  funext fun y => obB_apply X S O y 32 le_rfl (headOfB_lt y)

end Cert.RetIdeal.Hand
-- ==== Proof.RetIdealHand.State.lean ====
module

public import proofs.«01_k».proof.Proof.RetIdealHand.Kit
public import proofs.«01_k».proof.Proof.RetIdealHand.Outs

@[expose] public section

set_option maxRecDepth 16384
set_option synthInstance.maxSize 4096

noncomputable section

/-! The sweep's state: what is carried between grid points and what each point leaves. -/

namespace Cert.RetIdeal.Hand

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The state the heads of point `i` begin with. -/
def begun (i : grid0.Coords) (S : Vec F S4x128x256 .f32) : Vec F S4x128x256 .f32 :=
  if clears i (lit0 ⟨k0_off1 i 0, Nat.lt_of_lt_of_le (Nat.lt_succ_self _) (k0_off1_inb i 0)⟩) (lit1 ⟨k0_off1 i 0, Nat.lt_of_lt_of_le (Nat.lt_succ_self _) (k0_off1_inb i 0)⟩) = 1#1 then k0_pay1 else S

/-- What the heads of point `i` leave in the output block and in the scratch. -/
def leftO (i : grid0.Coords) (X : Blocks F) (S : Vec F S4x128x256 .f32) : Vec F S1x1024x1024 .bf16 :=
  if k0_cond2 i = 1#1 then X.oF S else X.oB S
def leftS (i : grid0.Coords) (X : Blocks F) (S : Vec F S4x128x256 .f32) : Vec F S4x128x256 .f32 :=
  if k0_cond2 i = 1#1 then X.scrF S 32 else X.scrB S 32

theorem word0 (d : Dev nD) (i : grid0.Coords) : word (F := F) d i tb0 (tbl (F := F) 0) = lit0 ⟨k0_off1 i 0, Nat.lt_of_lt_of_le (Nat.lt_succ_self _) (k0_off1_inb i 0)⟩ := by
  show lit0 (S24.rowMajor _) = _
  refine congrArg lit0 (Fin.ext ?_)
  refine (Shape.rowMajor_val_one _).trans ?_
  rfl
theorem word1 (d : Dev nD) (i : grid0.Coords) : word (F := F) d i tb1 (tbl (F := F) 1) = lit1 ⟨k0_off1 i 0, Nat.lt_of_lt_of_le (Nat.lt_succ_self _) (k0_off1_inb i 0)⟩ := by
  show lit1 (S24.rowMajor _) = _
  refine congrArg lit1 (Fin.ext ?_)
  refine (Shape.rowMajor_val_one _).trans ?_
  rfl

theorem cond_cases : ∀ i : grid0.Coords, (k0_cond2 i = 1#1 ∧ ¬ k0_cond3 i = 1#1) ∨ (¬ k0_cond2 i = 1#1 ∧ k0_cond3 i = 1#1) := by decide +kernel

/-- The body's arguments at point `t`. -/
def argsAt (t : Fin (cfgM (F := F)).N) : KArgs :=
  ⟨grid0.coords t, tb0, Memref.isWhole_whole _, tb1, Memref.isWhole_whole _, ms0_0 (F := F) t, hs0_0 (F := F) t, ms0_1 (F := F) t, hs0_1 (F := F) t, ms0_2 (F := F) t, hs0_2 (F := F) t, ms0_3 (F := F) t, hs0_3 (F := F) t, ms0_4 (F := F) t, hs0_4 (F := F) t, ms0_5 (F := F) t, hs0_5 (F := F) t, ms0_6 (F := F) t, hs0_6 (F := F) t, ms0_7 (F := F) t, hs0_7 (F := F) t, Memref.whole cc0_scratch0, Memref.isWhole_whole _⟩

theorem sweep_run (t : Fin (cfgM (F := F)).N) (d : Dev nD) (X : Blocks F) (O : Vec F S1x1024x1024 .bf16) (S : Vec F S4x128x256 .f32) (E : Set ℕ) (K : PUnit → sProp 𝕄) :
    iprop(tbPt d tb0 (tbl (F := F) 0) ∗ tbPt d tb1 (tbl (F := F) 1) ∗ held (argsAt (F := F) t) d X O S
      ∗ ((tbPt d tb0 (tbl (F := F) 0) ∗ tbPt d tb1 (tbl (F := F) 1)
          ∗ held (argsAt (F := F) t) d X (leftO (grid0.coords t) X (begun (grid0.coords t) S)) (leftS (grid0.coords t) X (begun (grid0.coords t) S))) -∗ K ⟨⟩))
      ⊢ wp frame (wpE (defs₀ (F := F)) Variants.none d none) E (sweepOf (argsAt (F := F) t)) K := by
  have hb : begun (grid0.coords t) S = (if clears (argsAt (F := F) t).i (word (F := F) d (argsAt (F := F) t).i (argsAt (F := F) t).arg2 (tbl (F := F) 0)) (word (F := F) d (argsAt (F := F) t).i (argsAt (F := F) t).arg3 (tbl (F := F) 1)) = 1#1 then k0_pay1 else S) := by
    unfold begun
    rw [show word (F := F) d (argsAt (F := F) t).i (argsAt (F := F) t).arg2 (tbl (F := F) 0) = _ from word0 d (grid0.coords t),
      show word (F := F) d (argsAt (F := F) t).i (argsAt (F := F) t).arg3 (tbl (F := F) 1) = _ from word1 d (grid0.coords t)]
    rfl
  rcases cond_cases (grid0.coords t) with ⟨h2, h3⟩ | ⟨h2, h3⟩
  · rw [sweepF_eq (argsAt (F := F) t) h2 h3]
    have HU := upTo_run (argsAt (F := F) t) d X O S (tbl (F := F) 0) (tbl (F := F) 1) (headsF (argsAt (F := F) t) 32 0) E K
    refine BIBase.Entails.trans ?_ HU
    clear HU
    rw [← hb]
    have HH := headsF_run (argsAt (F := F) t) d X O (begun (grid0.coords t) S) E K 32 0 rfl
    rw [show leftO (grid0.coords t) X (begun (grid0.coords t) S) = X.obF (begun (grid0.coords t) S) O 32 from (if_pos h2).trans (obF_full _ _ _).symm,
      show leftS (grid0.coords t) X (begun (grid0.coords t) S) = X.scrF (begun (grid0.coords t) S) 32 from if_pos h2]
    iintro ⟨T0, T1, H, Hk⟩
    isplitl [T0]; · iexact T0
    isplitl [T1]; · iexact T1
    isplitl [H]; · iexact H
    iintro ⟨T0, T1, H⟩
    iapply HH
    isplitl [H]; · iexact H
    iintro H
    iapply Hk
    isplitl [T0]; · iexact T0
    isplitl [T1]; · iexact T1
    iexact H
  · rw [sweepB_eq (argsAt (F := F) t) h2 h3]
    have HU := upTo_run (argsAt (F := F) t) d X O S (tbl (F := F) 0) (tbl (F := F) 1) (headsB (argsAt (F := F) t) 32 0) E K
    refine BIBase.Entails.trans ?_ HU
    clear HU
    rw [← hb]
    have HH := headsB_run (argsAt (F := F) t) d X O (begun (grid0.coords t) S) E K 32 0 rfl
    rw [show leftO (grid0.coords t) X (begun (grid0.coords t) S) = X.obB (begun (grid0.coords t) S) O 32 from (if_neg h2).trans (obB_full _ _ _).symm,
      show leftS (grid0.coords t) X (begun (grid0.coords t) S) = X.scrB (begun (grid0.coords t) S) 32 from if_neg h2]
    iintro ⟨T0, T1, H, Hk⟩
    isplitl [T0]; · iexact T0
    isplitl [T1]; · iexact T1
    isplitl [H]; · iexact H
    iintro ⟨T0, T1, H⟩
    iapply HH
    isplitl [H]; · iexact H
    iintro H
    iapply Hk
    isplitl [T0]; · iexact T0
    isplitl [T1]; · iexact T1
    iexact H

/-- The blocks read at point `t`. -/
def blocksAt (c : Dev nD) (t : Fin (cfgM (F := F)).N) : Blocks F :=
  ⟨y0 m c t, y1 m c t, y2 m c t, y3 m c t, y4 m c t, y5 m c t, y6 m c t⟩

/-- The scratch after the first `n` points. -/
def stateAt (c : Dev nD) : ℕ → Vec F S4x128x256 .f32
  | 0 => k0_pay1
  | n + 1 => if h : n < (cfgM (F := F)).N then leftS (grid0.coords ⟨n, h⟩) (blocksAt m c ⟨n, h⟩) (begun (grid0.coords ⟨n, h⟩) (stateAt c n)) else stateAt c n

/-- The output block after point `t`. -/
def outAt (c : Dev nD) (t : Fin (cfgM (F := F)).N) : Vec F S1x1024x1024 .bf16 :=
  leftO (grid0.coords t) (blocksAt m c t) (begun (grid0.coords t) (stateAt m c t.val))

/-- The invariant ahead of point `t`: the scratch at the state, from the first point on; the generator register; the tables. -/
def inv (c : Dev nD) (n : ℕ) : sProp 𝕄 :=
  iprop((∃ S : Vec F S4x128x256 .f32, ⌜0 < n → S = stateAt m c n⌝ ∗ owns (c : Thread nD τ) (Memref.whole cc0_scratch0) fullShare S)
    ∗ (∃ r, prngReg c r) ∗ tbPt c tb0 (tbl (F := F) 0) ∗ tbPt c tb1 (tbl (F := F) 1))

def dats (_ : Fin 1) (c : Dev nD) : Dat τ (Elt F) Unit ℕ (UR sig nD τ) ℕ (cfgM (F := F)) c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => outAt m c t
  Φ t := inv m c t.val
  q w := Pipeline.shareOf spec0 w
  owed _ := 0

theorem A_eq (c : Dev nD) (w : Fin (cfgM (F := F)).W) : (dats m 0 c).A w = V m c (Pipeline.arrRef spec0 w) := by
  dsimp only [dats]
theorem after0_0 (c : Dev nD) (t : Fin (cfgM (F := F)).N) : (dats m 0 c).after 0 t = X0_0 m c t := rfl
theorem after0_1 (c : Dev nD) (t : Fin (cfgM (F := F)).N) : (dats m 0 c).after 1 t = X0_1 m c t := rfl
theorem after0_2 (c : Dev nD) (t : Fin (cfgM (F := F)).N) : (dats m 0 c).after 2 t = X0_2 m c t := rfl
theorem after0_3 (c : Dev nD) (t : Fin (cfgM (F := F)).N) : (dats m 0 c).after 3 t = X0_3 m c t := rfl
theorem after0_4 (c : Dev nD) (t : Fin (cfgM (F := F)).N) : (dats m 0 c).after 4 t = X0_4 m c t := rfl
theorem after0_5 (c : Dev nD) (t : Fin (cfgM (F := F)).N) : (dats m 0 c).after 5 t = X0_5 m c t := rfl
theorem after0_6 (c : Dev nD) (t : Fin (cfgM (F := F)).N) : (dats m 0 c).after 6 t = X0_6 m c t := rfl
theorem after0_7 (c : Dev nD) (t : Fin (cfgM (F := F)).N) : (dats m 0 c).after 7 t = outAt m c t := rfl
theorem before0_0 (c : Dev nD) (t : Fin (cfgM (F := F)).N) (d) : (dats m 0 c).before 0 t d = X0_0 m c t :=
  before0_0_of m (dats m 0 c) (A_eq m c 0) (after0_0 m c) t d
theorem before0_1 (c : Dev nD) (t : Fin (cfgM (F := F)).N) (d) : (dats m 0 c).before 1 t d = X0_1 m c t :=
  before0_1_of m (dats m 0 c) (A_eq m c 1) (after0_1 m c) t d
theorem before0_2 (c : Dev nD) (t : Fin (cfgM (F := F)).N) (d) : (dats m 0 c).before 2 t d = X0_2 m c t :=
  before0_2_of m (dats m 0 c) (A_eq m c 2) (after0_2 m c) t d
theorem before0_3 (c : Dev nD) (t : Fin (cfgM (F := F)).N) (d) : (dats m 0 c).before 3 t d = X0_3 m c t :=
  before0_3_of m (dats m 0 c) (A_eq m c 3) (after0_3 m c) t d
theorem before0_4 (c : Dev nD) (t : Fin (cfgM (F := F)).N) (d) : (dats m 0 c).before 4 t d = X0_4 m c t :=
  before0_4_of m (dats m 0 c) (A_eq m c 4) (after0_4 m c) t d
theorem before0_5 (c : Dev nD) (t : Fin (cfgM (F := F)).N) (d) : (dats m 0 c).before 5 t d = X0_5 m c t :=
  before0_5_of m (dats m 0 c) (A_eq m c 5) (after0_5 m c) t d
theorem before0_6 (c : Dev nD) (t : Fin (cfgM (F := F)).N) (d) : (dats m 0 c).before 6 t d = X0_6 m c t :=
  before0_6_of m (dats m 0 c) (A_eq m c 6) (after0_6 m c) t d

def bodyPre (c : Dev nD) (t : Fin (cfgM (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d))
    ∗ (∃ d, owns (c : Thread nD τ) (ms0_4 (F := F) t) fullShare ((dats m 0 c).before 4 t d))
    ∗ (∃ d, owns (c : Thread nD τ) (ms0_5 (F := F) t) fullShare ((dats m 0 c).before 5 t d))
    ∗ (∃ d, owns (c : Thread nD τ) (ms0_6 (F := F) t) fullShare ((dats m 0 c).before 6 t d))
    ∗ (∃ d, owns (c : Thread nD τ) (ms0_7 (F := F) t) fullShare ((dats m 0 c).before 7 t d)))

def bodyPost (c : Dev nD) (t : Fin (cfgM (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t)
    ∗ owns (c : Thread nD τ) (ms0_4 (F := F) t) fullShare ((dats m 0 c).after 4 t)
    ∗ owns (c : Thread nD τ) (ms0_5 (F := F) t) fullShare ((dats m 0 c).after 5 t)
    ∗ owns (c : Thread nD τ) (ms0_6 (F := F) t) fullShare ((dats m 0 c).after 6 t)
    ∗ owns (c : Thread nD τ) (ms0_7 (F := F) t) fullShare ((dats m 0 c).after 7 t))

theorem begun_first (i : grid0.Coords) (h : i = grid0.coords ⟨0, by decide⟩) (S S' : Vec F S4x128x256 .f32) : begun i S = begun i S' := by
  subst h
  unfold begun
  rw [if_pos (by decide +kernel), if_pos (by decide +kernel)]

theorem begun_state (c : Dev nD) (t : Fin (cfgM (F := F)).N) (S : Vec F S4x128x256 .f32) (hS : 0 < t.val → S = stateAt m c t.val) :
    begun (grid0.coords t) S = begun (grid0.coords t) (stateAt m c t.val) := by
  by_cases h : 0 < t.val
  · rw [hS h]
  · have e : t = (⟨0, by decide⟩ : Fin grid0.N) := Fin.ext (by show t.val = 0; omega)
    exact begun_first _ (congrArg grid0.coords e) _ _

theorem stateAt_succ (c : Dev nD) (t : Fin (cfgM (F := F)).N) :
    stateAt m c (t.val + 1) = leftS (grid0.coords t) (blocksAt m c t) (begun (grid0.coords t) (stateAt m c t.val)) := by
  show (if h : t.val < (cfgM (F := F)).N then _ else _) = _
  rw [dif_pos t.isLt]

end Cert.RetIdeal.Hand
-- ==== Proof.RetIdealHand.Frame.lean ====
module

public import proofs.«01_k».proof.Proof.RetIdealHand.State

@[expose] public section

set_option maxRecDepth 16384
set_option synthInstance.maxSize 4096

noncomputable section

/-! The body at a grid point, the run and the frame. -/

namespace Cert.RetIdeal.Hand

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem outAt_eq (c : Dev nD) (t : Fin (cfgM (F := F)).N) : outAt m c t = leftO (grid0.coords t) (blocksAt m c t) (begun (grid0.coords t) (stateAt m c t.val)) := rfl

attribute [local irreducible] stateAt outAt leftO leftS begun y0 y1 y2 y3 y4 y5 y6 tbl

theorem held_at (t : Fin (cfgM (F := F)).N) (c : Dev nD) (O : Vec F S1x1024x1024 .bf16) (S : Vec F S4x128x256 .f32) :
    held (argsAt (F := F) t) c (blocksAt m c t) O S
      = iprop(owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ owns (c : Thread nD τ) (ms0_7 (F := F) t) fullShare O ∗ owns (c : Thread nD τ) (Memref.whole cc0_scratch0) fullShare S) := by
  unfold held
  exact rfl

/-- The body at point `t`, from the invariant and the windows' blocks to the next invariant and what it leaves. -/
theorem sound_core (c : Dev nD) (t : Fin (cfgM (F := F)).N) (R : sProp 𝕄) (O : Vec F S1x1024x1024 .bf16) :
    iprop(inv m c t.val ∗ R ∗ owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ owns (c : Thread nD τ) (ms0_7 (F := F) t) fullShare O)
      ⊢ wp frame (wpE (defs₀ (F := F)) Variants.none c none) Set.univ (sweepOf (argsAt (F := F) t))
        (fun _ => iprop(inv m c (t.val + 1) ∗ R ∗ owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ owns (c : Thread nD τ) (ms0_7 (F := F) t) fullShare (outAt m c t))) := by
  rw [outAt_eq]
  unfold inv
  iintro ⟨⟨⟨%S, %hS, HS⟩, HR, T0, T1⟩, Ho, H0, H1, H2, H3, H4, H5, H6, H7⟩
  have hb := begun_state m c t S hS
  have HH := sweep_run (F := F) t c (blocksAt m c t) O S Set.univ
  rw [hb, held_at, held_at] at HH
  iapply HH
  isplitl [T0]; · iexact T0
  isplitl [T1]; · iexact T1
  isplitl [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro ⟨T0, T1, H0, H1, H2, H3, H4, H5, H6, H7, HS⟩
  isplitl [HS HR T0 T1]
  · isplitl [HS]
    · iexists _
      isplitr
      swap; · iexact HS
      ipureintro
      intro _
      exact (stateAt_succ m c t).symm
    isplitl [HR]; · iexact HR
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem pre_0 (c : Dev nD) (t : Fin (cfgM (F := F)).N) : iprop(∃ d, owns (c : Thread nD τ) (ms0_0 (F := F) t) fullShare ((dats m 0 c).before 0 t d)) ⊢ (owns (c : Thread nD τ) (ms0_0 (F := F) t) fullShare (y0 m c t) : sProp 𝕄) := by
  iintro ⟨%d, H⟩
  rw [before0_0, ← y0_eq]
  iexact H
theorem post_0 (c : Dev nD) (t : Fin (cfgM (F := F)).N) : (owns (c : Thread nD τ) (ms0_0 (F := F) t) fullShare (y0 m c t) : sProp 𝕄) ⊢ owns (c : Thread nD τ) (ms0_0 (F := F) t) fullShare ((dats m 0 c).after 0 t) := by
  rw [after0_0, ← y0_eq]
theorem pre_1 (c : Dev nD) (t : Fin (cfgM (F := F)).N) : iprop(∃ d, owns (c : Thread nD τ) (ms0_1 (F := F) t) fullShare ((dats m 0 c).before 1 t d)) ⊢ (owns (c : Thread nD τ) (ms0_1 (F := F) t) fullShare (y1 m c t) : sProp 𝕄) := by
  iintro ⟨%d, H⟩
  rw [before0_1, ← y1_eq]
  iexact H
theorem post_1 (c : Dev nD) (t : Fin (cfgM (F := F)).N) : (owns (c : Thread nD τ) (ms0_1 (F := F) t) fullShare (y1 m c t) : sProp 𝕄) ⊢ owns (c : Thread nD τ) (ms0_1 (F := F) t) fullShare ((dats m 0 c).after 1 t) := by
  rw [after0_1, ← y1_eq]
theorem pre_2 (c : Dev nD) (t : Fin (cfgM (F := F)).N) : iprop(∃ d, owns (c : Thread nD τ) (ms0_2 (F := F) t) fullShare ((dats m 0 c).before 2 t d)) ⊢ (owns (c : Thread nD τ) (ms0_2 (F := F) t) fullShare (y2 m c t) : sProp 𝕄) := by
  iintro ⟨%d, H⟩
  rw [before0_2, ← y2_eq]
  iexact H
theorem post_2 (c : Dev nD) (t : Fin (cfgM (F := F)).N) : (owns (c : Thread nD τ) (ms0_2 (F := F) t) fullShare (y2 m c t) : sProp 𝕄) ⊢ owns (c : Thread nD τ) (ms0_2 (F := F) t) fullShare ((dats m 0 c).after 2 t) := by
  rw [after0_2, ← y2_eq]
theorem pre_3 (c : Dev nD) (t : Fin (cfgM (F := F)).N) : iprop(∃ d, owns (c : Thread nD τ) (ms0_3 (F := F) t) fullShare ((dats m 0 c).before 3 t d)) ⊢ (owns (c : Thread nD τ) (ms0_3 (F := F) t) fullShare (y3 m c t) : sProp 𝕄) := by
  iintro ⟨%d, H⟩
  rw [before0_3, ← y3_eq]
  iexact H
theorem post_3 (c : Dev nD) (t : Fin (cfgM (F := F)).N) : (owns (c : Thread nD τ) (ms0_3 (F := F) t) fullShare (y3 m c t) : sProp 𝕄) ⊢ owns (c : Thread nD τ) (ms0_3 (F := F) t) fullShare ((dats m 0 c).after 3 t) := by
  rw [after0_3, ← y3_eq]
theorem pre_4 (c : Dev nD) (t : Fin (cfgM (F := F)).N) : iprop(∃ d, owns (c : Thread nD τ) (ms0_4 (F := F) t) fullShare ((dats m 0 c).before 4 t d)) ⊢ (owns (c : Thread nD τ) (ms0_4 (F := F) t) fullShare (y4 m c t) : sProp 𝕄) := by
  iintro ⟨%d, H⟩
  rw [before0_4, ← y4_eq]
  iexact H
theorem post_4 (c : Dev nD) (t : Fin (cfgM (F := F)).N) : (owns (c : Thread nD τ) (ms0_4 (F := F) t) fullShare (y4 m c t) : sProp 𝕄) ⊢ owns (c : Thread nD τ) (ms0_4 (F := F) t) fullShare ((dats m 0 c).after 4 t) := by
  rw [after0_4, ← y4_eq]
theorem pre_5 (c : Dev nD) (t : Fin (cfgM (F := F)).N) : iprop(∃ d, owns (c : Thread nD τ) (ms0_5 (F := F) t) fullShare ((dats m 0 c).before 5 t d)) ⊢ (owns (c : Thread nD τ) (ms0_5 (F := F) t) fullShare (y5 m c t) : sProp 𝕄) := by
  iintro ⟨%d, H⟩
  rw [before0_5, ← y5_eq]
  iexact H
theorem post_5 (c : Dev nD) (t : Fin (cfgM (F := F)).N) : (owns (c : Thread nD τ) (ms0_5 (F := F) t) fullShare (y5 m c t) : sProp 𝕄) ⊢ owns (c : Thread nD τ) (ms0_5 (F := F) t) fullShare ((dats m 0 c).after 5 t) := by
  rw [after0_5, ← y5_eq]
theorem pre_6 (c : Dev nD) (t : Fin (cfgM (F := F)).N) : iprop(∃ d, owns (c : Thread nD τ) (ms0_6 (F := F) t) fullShare ((dats m 0 c).before 6 t d)) ⊢ (owns (c : Thread nD τ) (ms0_6 (F := F) t) fullShare (y6 m c t) : sProp 𝕄) := by
  iintro ⟨%d, H⟩
  rw [before0_6, ← y6_eq]
  iexact H
theorem post_6 (c : Dev nD) (t : Fin (cfgM (F := F)).N) : (owns (c : Thread nD τ) (ms0_6 (F := F) t) fullShare (y6 m c t) : sProp 𝕄) ⊢ owns (c : Thread nD τ) (ms0_6 (F := F) t) fullShare ((dats m 0 c).after 6 t) := by
  rw [after0_6, ← y6_eq]

theorem defs₀_row (t : Fin (cfgM (F := F)).N) :
    defs₀ (F := F) .tc (cfgM (F := F)).body ((cfgM (F := F)).bodyArgs t ((cfgM (F := F)).slots t)) = sweepOf (argsAt (F := F) t) := by
  unfold defs₀; rw [Defs.onTc_tc]
  rfl

theorem pre_7 (c : Dev nD) (t : Fin (cfgM (F := F)).N) : iprop(∃ d, owns (c : Thread nD τ) (ms0_7 (F := F) t) fullShare ((dats m 0 c).before 7 t d)) ⊢ (iprop(∃ O : Vec F S1x1024x1024 .bf16, owns (c : Thread nD τ) (ms0_7 (F := F) t) fullShare O) : sProp 𝕄) := by
  iintro ⟨%d, H⟩
  iexists ((dats m 0 c).before 7 t d)
  iexact H

theorem sound_any (c : Dev nD) (t : Fin (cfgM (F := F)).N) (R : sProp 𝕄) :
    iprop(inv m c t.val ∗ R ∗ owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ (∃ O : Vec F S1x1024x1024 .bf16, owns (c : Thread nD τ) (ms0_7 (F := F) t) fullShare O))
      ⊢ wp frame (wpE (defs₀ (F := F)) Variants.none c none) Set.univ (sweepOf (argsAt (F := F) t))
        (fun _ => iprop(inv m c (t.val + 1) ∗ R ∗ owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ owns (c : Thread nD τ) (ms0_7 (F := F) t) fullShare (outAt m c t))) := by
  iintro ⟨HI, HR, H0, H1, H2, H3, H4, H5, H6, %O, H7⟩
  iapply (sound_core m c t R O)
  isplitl [HI]; · iexact HI
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bodyPre_core (c : Dev nD) (t : Fin (cfgM (F := F)).N) :
    bodyPre m c t ⊢ iprop(inv m c t.val ∗ (dats m 0 c).owesAt () t.castSucc ∗ owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ (∃ O : Vec F S1x1024x1024 .bf16, owns (c : Thread nD τ) (ms0_7 (F := F) t) fullShare O)) :=
  BI.sep_mono (by rw [show (dats m 0 c).Φ t.castSucc = inv m c t.val from congrArg (inv m c) (Fin.val_castSucc t)]; exact BI.Entails.refl _) (BI.sep_mono (BI.Entails.refl _) (BI.sep_mono (pre_0 m c t) (BI.sep_mono (pre_1 m c t) (BI.sep_mono (pre_2 m c t) (BI.sep_mono (pre_3 m c t) (BI.sep_mono (pre_4 m c t) (BI.sep_mono (pre_5 m c t) (BI.sep_mono (pre_6 m c t) (pre_7 m c t)))))))))

theorem core_bodyPost (c : Dev nD) (t : Fin (cfgM (F := F)).N) :
    iprop(inv m c (t.val + 1) ∗ (dats m 0 c).owesAt () t.castSucc ∗ owns (c : Thread nD τ) (ms0_0 (F := F) t) fullShare (y0 m c t) ∗ owns (c : Thread nD τ) (ms0_1 (F := F) t) fullShare (y1 m c t) ∗ owns (c : Thread nD τ) (ms0_2 (F := F) t) fullShare (y2 m c t) ∗ owns (c : Thread nD τ) (ms0_3 (F := F) t) fullShare (y3 m c t) ∗ owns (c : Thread nD τ) (ms0_4 (F := F) t) fullShare (y4 m c t) ∗ owns (c : Thread nD τ) (ms0_5 (F := F) t) fullShare (y5 m c t) ∗ owns (c : Thread nD τ) (ms0_6 (F := F) t) fullShare (y6 m c t) ∗ owns (c : Thread nD τ) (ms0_7 (F := F) t) fullShare (outAt m c t)) ⊢ bodyPost m c t :=
  BI.sep_mono (by rw [show (dats m 0 c).Φ t.succ = inv m c (t.val + 1) from congrArg (inv m c) (Fin.val_succ t)]; exact BI.Entails.refl _) (BI.sep_mono (BI.Entails.refl _) (BI.sep_mono (post_0 m c t) (BI.sep_mono (post_1 m c t) (BI.sep_mono (post_2 m c t) (BI.sep_mono (post_3 m c t) (BI.sep_mono (post_4 m c t) (BI.sep_mono (post_5 m c t) (BI.sep_mono (post_6 m c t) (BI.Entails.refl _)))))))))

theorem sound_body (c : Dev nD) (t : Fin (cfgM (F := F)).N) :
    bodyPre m c t ⊢ wp frame (wpE (defs₀ (F := F)) Variants.none c none) Set.univ (sweepOf (argsAt (F := F) t)) (fun _ => bodyPost m c t) :=
  triple_restated (sound_any m c t _) rfl (bodyPre_core m c t) fun _ => core_bodyPost m c t

theorem idle_none (w : Fin 8) (i : grid0.Coords) : (cfgM (F := F)).idle w i = false :=
  (by decide +kernel : ∀ (w : Fin 8) (i : grid0.Coords), idle0 w i = false) w i

set_option maxHeartbeats 800000 in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have hi : idle0 7 ((pcfg0.gridAt (tbl (F := F))).coords t) = false := idle_none (F := F) 7 _
  simp only [idle_none, hi]
  exact BI.Entails.refl (bodyPost m c t)

/-- The scratch buffer as the launch holds it, -/
def scr (c : Dev nD) : sProp 𝕄 := iprop(∃ f : Buf (Elt F) ((c : Thread nD τ).loc cc0_scratch0), ((c : Thread nD τ).loc cc0_scratch0) ↦{fullShare} f)
/-- and as the body holds it. -/
def scrO (c : Dev nD) : sProp 𝕄 := iprop(∃ S : Vec F S4x128x256 .f32, owns (c : Thread nD τ) (Memref.whole cc0_scratch0) fullShare S)

theorem scr_eq (c : Dev nD) : (scr c : sProp 𝕄) = scrO (F := F) c := by
  unfold scr scrO
  congr 1
  funext f
  exact (owns_whole (c : Thread nD τ) cc0_scratch0 fullShare f).symm

theorem inv_in' (c : Dev nD) (A B G : sProp 𝕄) (s : ℕ → Vec F S4x128x256 .f32) :
    iprop((scr (F := F) c ∗ G) ∗ A ∗ B) ⊢ iprop((∃ S : Vec F S4x128x256 .f32, ⌜0 < 0 → S = s 0⌝ ∗ owns (c : Thread nD τ) (Memref.whole cc0_scratch0) fullShare S) ∗ G ∗ A ∗ B) := by
  rw [scr_eq]
  unfold scrO
  iintro ⟨⟨⟨%S, Hs⟩, Hr⟩, T0, T1⟩
  isplitl [Hs]
  · iexists S
    isplitr
    · ipureintro; intro h; exact absurd h (Nat.lt_irrefl 0)
    iexact Hs
  isplitl [Hr]; · iexact Hr
  isplitl [T0]; · iexact T0
  iexact T1

theorem inv_out' (c : Dev nD) (A B G : sProp 𝕄) (s : ℕ → Vec F S4x128x256 .f32) (n : ℕ) :
    iprop((∃ S : Vec F S4x128x256 .f32, ⌜0 < n → S = s n⌝ ∗ owns (c : Thread nD τ) (Memref.whole cc0_scratch0) fullShare S) ∗ G ∗ A ∗ B) ⊢ iprop(scr (F := F) c ∗ G) := by
  rw [scr_eq]
  unfold scrO
  iintro ⟨⟨%S, -, Hs⟩, Hr, -, -⟩
  isplitl [Hs]
  · iexists S
    iexact Hs
  iexact Hr

theorem inv_in (c : Dev nD) : iprop(Pipeline.ΦA (Val := Elt F) (U := UR sig nD τ) spec0 c ∗ Pipeline.ΦT pre0 (tbl (F := F)) c) ⊢ inv m c 0 := by
  rw [PhiT0_eq]
  unfold Pipeline.ΦA
  rw [scopedRest0_eq]
  exact inv_in' c _ _ _ (stateAt m c)

theorem inv_out (c : Dev nD) (n : ℕ) : inv m c n ⊢ Pipeline.ΦA (Val := Elt F) (U := UR sig nD τ) spec0 c := by
  unfold Pipeline.ΦA
  rw [scopedRest0_eq]
  exact inv_out' c _ _ _ (stateAt m c) n

set_option maxHeartbeats 1600000 in
set_option backward.isDefEq.respectTransparency.types false in
theorem run_main_quiescent : θ_run defs (onTc (τ := τ) (main (F := F))) (s₀ m ρ)
    (fun r => (Pipeline.FramePost (Pipeline.pin pcfgs fun _ => adm) (dats m) 0 (V m)) r ∧ r.2.sem = fun _ => 0) :=
  Pipeline.θ_run_frameP_track_shared (Q' := _) pcfgs (fun _ => adm) (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := V_pre m)
    (hin := fun c => inv_in m c) (hout := fun c => inv_out m c _)

theorem run_main : θ_run defs (onTc (τ := τ) (main (F := F))) (s₀ m ρ) (Pipeline.FramePost (Pipeline.pin pcfgs fun _ => adm) (dats m) 0 (V m)) :=
  (θ_run defs _ _).mono (fun _ h => h.1) (run_main_quiescent m ρ)

/-- The frame: the argument array ends unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).1 0).trans (((dats m 0 c).arrAt_in 0 rfl _).trans ((A_eq m c 0).trans (V_main_arg0 m c))), h.2⟩) (run_main_quiescent m ρ)

end Cert.RetIdeal.Hand
-- ==== Proof.RetValue.Spec.lean ====
/-
  The retention's values, plainly: the rotation, the decays, the states over the chunks of one sequence, the two outputs.
  A sequence is a function of the position in it and the column.
-/
module

public import Idealize.ShloMosaic.Lib.Pointwise

@[expose] public section

noncomputable section

namespace Cert.RetSpec

open Idealize.ShloMosaic

/-- A number of an iota, as a value. -/
def num (n : ℕ) : EReal := FloatOps.sitofp (F := Ideal) FTy.f32 (BitVec.ofNat 32 n)
/-- The angle at position `s` of the `d`-th pair. -/
def ang (s d : ℕ) : EReal :=
  num s * Ideal.pow (Ideal.ofBits FTy.f32 1176256512#32) (Ideal.div (-num d) (Ideal.ofBits FTy.f32 1115684864#32))
/-- The logarithm of a head's decay. -/
def logg (h : ℕ) : EReal :=
  Ideal.log (1 - Ideal.pow (Ideal.ofBits FTy.f32 1073741824#32) (Ideal.ofBits FTy.f32 3231711232#32 - num h))
/-- The decay between two positions of a chunk. -/
def dmat (h i j : ℕ) : EReal := Ideal.exp (logg h * FloatOps.absf (F := Ideal) (φ := .f32) (num i - num j))
/-- The decay from the chunk's start to the position after `i`. -/
def qf (h i : ℕ) : EReal := Ideal.exp (logg h * (num i + 1))
/-- The decay from position `i` to the chunk's end. -/
def qb (h i : ℕ) : EReal := Ideal.exp (logg h * (Ideal.ofBits FTy.f32 1124073472#32 - num i))
/-- The decay from position `i` to the chunk's last position. -/
def de (h i : ℕ) : EReal := Ideal.exp (logg h * (Ideal.ofBits FTy.f32 1123942400#32 - num i))
/-- The decay from the chunk's first position to position `i`. -/
def ds (h i : ℕ) : EReal := Ideal.exp (logg h * num i)
/-- The decay over a chunk. -/
def gc (h : ℕ) : EReal := Ideal.exp (logg h * Ideal.ofBits FTy.f32 1124073472#32)

variable (x : ℕ → ℕ → EReal)

/-- The rotated column `d` of head `h`, the heads' columns starting at `col`. -/
def rot (col s h d : ℕ) : EReal :=
  if d < 64 then
    x s (col + (h * 128 + d)) * Ideal.cos (ang s d) - x s (col + (h * 128 + (64 + d))) * Ideal.sin (ang s d)
  else
    x s (col + (h * 128 + (d - 64))) * Ideal.sin (ang s (d - 64)) + x s (col + (h * 128 + (64 + (d - 64)))) * Ideal.cos (ang s (d - 64))
/-- The query, -/
def qq (s h d : ℕ) : EReal := rot x 18432 s h d
/-- the key, -/
def kk (s h d : ℕ) : EReal := rot x 18944 s h d * Ideal.ofBits FTy.f32 1035273459#32
/-- and the value. -/
def vv (s h e : ℕ) : EReal := x s (6144 + (h * 256 + e))

/-- What chunk `n` adds to the state of the earlier chunks, -/
def kvF (n h d e : ℕ) : EReal := ∑ j : Fin 128, kk x (n * 128 + j.val) h d * de h j.val * vv x (n * 128 + j.val) h e
/-- and to the state of the later chunks. -/
def kvB (n h d e : ℕ) : EReal := ∑ j : Fin 128, kk x (n * 128 + j.val) h d * ds h j.val * vv x (n * 128 + j.val) h e

/-- The state of the first `n` chunks. -/
def stF : ℕ → ℕ → ℕ → ℕ → EReal
  | 0, _, _, _ => 0
  | n + 1, h, d, e => gc h * stF n h d e + kvF x n h d e
/-- The state of the last `k` of `N` chunks. -/
def stB (N : ℕ) : ℕ → ℕ → ℕ → ℕ → EReal
  | 0, _, _, _ => 0
  | k + 1, h, d, e => gc h * stB N k h d e + kvB x (N - 1 - k) h d e

/-- A chunk's masked products with itself. -/
def intra (n i h e : ℕ) : EReal :=
  ∑ j : Fin 128, (∑ d : Fin 128, qq x (n * 128 + i) h d.val * kk x (n * 128 + j.val) h d.val) * dmat h i j.val * vv x (n * 128 + j.val) h e
/-- The forward output. -/
def oF (n i h e : ℕ) : EReal :=
  intra x n i h e + ∑ d : Fin 128, qq x (n * 128 + i) h d.val * qf h i * stF x n h d.val e
/-- The backward output, of `N` chunks. -/
def oB (N n i h e : ℕ) : EReal := ∑ d : Fin 128, qq x (n * 128 + i) h d.val * qb h i * stB x N (N - 1 - n) h d.val e

/-- The tokens, by number. -/
def tok (P : (⟨2, ![24576, 19712]⟩ : Shape).Idx → EReal) (t c : ℕ) : EReal :=
  if h : t < 24576 ∧ c < 19712 then P (ix2 ⟨t, h.1⟩ ⟨c, h.2⟩) else 0
/-- Sequence `b`: the prompt, then the four samples. -/
def sqn (P : (⟨2, ![24576, 19712]⟩ : Shape).Idx → EReal) (b s c : ℕ) : EReal :=
  if b < 1 then tok P s c else if s < 2048 then tok P (16384 + ((b - 1) * 2048 + s)) c else 0

/-- The number of chunks of a sequence. -/
def len (b : ℕ) : ℕ := if b < 1 then 128 else 16

/-- One element of the result: direction, token, column. -/
def G (P : (⟨2, ![24576, 19712]⟩ : Shape).Idx → EReal) (a t e : ℕ) : EReal :=
  let b := if t < 16384 then 0 else 1 + (t - 16384) / 2048
  let s := if t < 16384 then t else (t - 16384) % 2048
  if a < 1 then oF (sqn P b) (s / 128) (s % 128) (e / 256) (e % 256)
  else oB (sqn P b) (len b) (s / 128) (s % 128) (e / 256) (e % 256)

end Cert.RetSpec
-- ==== Proof.RetValue.Head.lean ====
/-
  One head of one chunk at its elements: the next state and the two outputs are the retention's, when the blocks read are a
  sequence's rows and the tables of its positions.
-/
module

public import proofs.«01_k».proof.Proof.RetIdealHand.Frame
public import proofs.«01_k».proof.Proof.RetValue.Spec
public import Idealize.ShloMosaic.Lib.Pointwise

@[expose] public section

set_option maxRecDepth 16384

noncomputable section

namespace Cert.RetIdeal.RetValue

open Cert.RetIdeal Cert.RetIdeal.Gen Cert.RetIdeal.Hand
open Idealize.ShloMosaic Idealize.ShloMosaic.TcCoe
open Cert.RetSpec

/-- The blocks hold the rows of the sequence `x` from chunk `n` on, and the tables of its positions. -/
structure Reads (X : Blocks Ideal) (x : ℕ → ℕ → EReal) (n : ℕ) : Prop where
  q : ∀ (r : Fin 1024) (d : Fin 512), (X.q : S1024x512.Idx → EReal) (ix2 r d) = x (n * 128 + r.val) (18432 + d.val)
  k : ∀ (r : Fin 1024) (d : Fin 512), (X.k : S1024x512.Idx → EReal) (ix2 r d) = x (n * 128 + r.val) (18944 + d.val)
  v : ∀ (r : Fin 1024) (d : Fin 1024), (X.v : S1024x1024.Idx → EReal) (ix2 r d) = x (n * 128 + r.val) (6144 + d.val)
  cs : ∀ (r : Fin 1024) (d : Fin 128), (X.cs : S1024x128.Idx → EReal) (ix2 r d)
    = if d.val < 64 then Ideal.cos (ang (n * 128 + r.val) d.val) else Ideal.cos (ang (n * 128 + r.val) (d.val - 64))
  sn : ∀ (r : Fin 1024) (d : Fin 128), (X.sn : S1024x128.Idx → EReal) (ix2 r d)
    = if d.val < 64 then - Ideal.sin (ang (n * 128 + r.val) d.val) else Ideal.sin (ang (n * 128 + r.val) (d.val - 64))
  dm : ∀ (h : Fin 4) (i j : Fin 128), (X.dm : S4x128x128.Idx → EReal) (ix3 h i j) = dmat h.val i.val j.val
  r0 : ∀ (h : Fin 4) (i j : Fin 128), (X.rw : S4x4x128x128.Idx → EReal) (ix4 h 0 i j) = qf h.val i.val
  r1 : ∀ (h : Fin 4) (i j : Fin 128), (X.rw : S4x4x128x128.Idx → EReal) (ix4 h 1 i j) = qb h.val i.val
  r2 : ∀ (h : Fin 4) (i j : Fin 128), (X.rw : S4x4x128x128.Idx → EReal) (ix4 h 2 i j) = de h.val i.val
  r3 : ∀ (h : Fin 4) (i j : Fin 128), (X.rw : S4x4x128x128.Idx → EReal) (ix4 h 3 i j) = ds h.val i.val

theorem rotV_at (x c s : S128x128.Idx → EReal) (i d : Fin 128) :
    rotV (F := Ideal) x c s (ix2 i d) = x (ix2 i d) * c (ix2 i d) + x (ix2 i ⟨(d.val + 128 - 64) % 128, by omega⟩) * s (ix2 i d) := by
  pointwise [rotV]

theorem nextV_at (h : ℕ) (k kc ks : S128x128.Idx → EReal) (v : S128x256.Idx → EReal) (S : S1x128x256.Idx → EReal) (r : S1x1x128x128.Idx → EReal) (i : Fin 128) (e : Fin 256) :
    nextV (F := Ideal) h k kc ks v S r (ix3 0 i e) = gOf (F := Ideal) h * S (ix3 0 i e)
      + ∑ x : Fin 128, rotV (F := Ideal) k kc ks (ix2 x i) * Ideal.ofBits .f32 1035273459#32 * r (ix4 0 0 x i) * v (ix2 x e) := by
  pointwise [nextV, rotK]

theorem outF_at (q qc qs k kc ks : S128x128.Idx → EReal) (v : S128x256.Idx → EReal) (S : S1x128x256.Idx → EReal) (dm : S1x128x128.Idx → EReal) (r : S1x1x128x128.Idx → EReal) (i : Fin 128) (e : Fin 256) :
    Hand.outF (F := Ideal) q qc qs k kc ks v S dm r (ix3 0 i e)
      = ∑ j : Fin 128, (∑ d : Fin 128, rotV (F := Ideal) q qc qs (ix2 i d) * (rotV (F := Ideal) k kc ks (ix2 j d) * Ideal.ofBits .f32 1035273459#32)) * dm (ix3 0 i j) * v (ix2 j e)
        + ∑ d : Fin 128, rotV (F := Ideal) q qc qs (ix2 i d) * r (ix4 0 0 i d) * S (ix3 0 d e) := by
  pointwise [Hand.outF, rotK, intraV, crossV]

theorem outB_at (q qc qs : S128x128.Idx → EReal) (S : S1x128x256.Idx → EReal) (r : S1x1x128x128.Idx → EReal) (i : Fin 128) (e : Fin 256) :
    Hand.outB (F := Ideal) q qc qs S r (ix3 0 i e)
      = ∑ d : Fin 128, rotV (F := Ideal) q qc qs (ix2 i d) * r (ix4 0 0 i d) * S (ix3 0 d e) := by
  pointwise [Hand.outB, crossV]

/-! ## The windows -/

theorem winQ (X : S1024x512.Idx → EReal) {c h : ℕ} (hc : c < 8) (hh : h < 4) (i d : Fin 128) :
    VecWindow.window X ![128 * c, 128 * h] S128x128.size (inbQ hc hh) (ix2 i d) = X (ix2 ⟨128 * c + i.val, by omega⟩ ⟨128 * h + d.val, by omega⟩) :=
  congrArg X (funext fun a => Fin.ext (by
    match a with
    | ⟨0, _⟩ => show 128 * c + 1 * i.val = 128 * c + i.val; omega
    | ⟨1, _⟩ => show 128 * h + 1 * d.val = 128 * h + d.val; omega))
theorem winC (X : S1024x128.Idx → EReal) {c : ℕ} (hc : c < 8) (i d : Fin 128) :
    VecWindow.window X ![128 * c, 0] S128x128.size (inbC hc) (ix2 i d) = X (ix2 ⟨128 * c + i.val, by omega⟩ d) :=
  congrArg X (funext fun a => Fin.ext (by
    match a with
    | ⟨0, _⟩ => show 128 * c + 1 * i.val = 128 * c + i.val; omega
    | ⟨1, _⟩ => show 0 + 1 * d.val = d.val; omega))
theorem winV (X : S1024x1024.Idx → EReal) {c h : ℕ} (hc : c < 8) (hh : h < 4) (i : Fin 128) (d : Fin 256) :
    VecWindow.window X ![128 * c, 256 * h] S128x256.size (inbV hc hh) (ix2 i d) = X (ix2 ⟨128 * c + i.val, by omega⟩ ⟨256 * h + d.val, by omega⟩) :=
  congrArg X (funext fun a => Fin.ext (by
    match a with
    | ⟨0, _⟩ => show 128 * c + 1 * i.val = 128 * c + i.val; omega
    | ⟨1, _⟩ => show 256 * h + 1 * d.val = 256 * h + d.val; omega))
theorem winD (X : S4x128x128.Idx → EReal) {h : ℕ} (hh : h < 4) (i j : Fin 128) :
    VecWindow.window X ![h, 0, 0] S1x128x128.size (inbD hh) (ix3 0 i j) = X (ix3 ⟨h, hh⟩ i j) :=
  congrArg X (funext fun a => Fin.ext (by
    match a with
    | ⟨0, _⟩ => show h + 1 * 0 = h; omega
    | ⟨1, _⟩ => show 0 + 1 * i.val = i.val; omega
    | ⟨2, _⟩ => show 0 + 1 * j.val = j.val; omega))
theorem winS (X : S4x128x256.Idx → EReal) {h : ℕ} (hh : h < 4) (i : Fin 128) (j : Fin 256) :
    VecWindow.window X ![h, 0, 0] S1x128x256.size (inbS hh) (ix3 0 i j) = X (ix3 ⟨h, hh⟩ i j) :=
  congrArg X (funext fun a => Fin.ext (by
    match a with
    | ⟨0, _⟩ => show h + 1 * 0 = h; omega
    | ⟨1, _⟩ => show 0 + 1 * i.val = i.val; omega
    | ⟨2, _⟩ => show 0 + 1 * j.val = j.val; omega))
theorem winR (X : S4x4x128x128.Idx → EReal) {h r : ℕ} (hh : h < 4) (hr : r < 4) (i j : Fin 128) :
    VecWindow.window X ![h, r, 0, 0] S1x1x128x128.size (inbR hh hr) (ix4 0 0 i j) = X (ix4 ⟨h, hh⟩ ⟨r, hr⟩ i j) :=
  congrArg X (funext fun a => Fin.ext (by
    match a with
    | ⟨0, _⟩ => show h + 1 * 0 = h; omega
    | ⟨1, _⟩ => show r + 1 * 0 = r; omega
    | ⟨2, _⟩ => show 0 + 1 * i.val = i.val; omega
    | ⟨3, _⟩ => show 0 + 1 * j.val = j.val; omega))

/-- A state written over head `h`. -/
theorem putS (X : S4x128x256.Idx → EReal) (w : S1x128x256.Idx → EReal) {h : ℕ} (hh : h < 4) (h' : Fin 4) (i : Fin 128) (j : Fin 256) :
    VecWindow.put X ![h, 0, 0] S1x128x256.size w (ix3 h' i j) = if h'.val = h then w (ix3 0 i j) else X (ix3 h' i j) := by
  unfold VecWindow.put
  by_cases e : h'.val = h
  · rw [if_pos e, dif_pos ?_]
    · refine congrArg w (funext fun a => Fin.ext ?_)
      match a with
      | ⟨0, _⟩ => show h'.val - h = 0; omega
      | ⟨1, _⟩ => show i.val - 0 = i.val; omega
      | ⟨2, _⟩ => show j.val - 0 = j.val; omega
    · intro a
      match a with
      | ⟨0, _⟩ => exact ⟨(by show h ≤ h'.val; omega), (by show h'.val < h + 1; omega)⟩
      | ⟨1, _⟩ => exact ⟨(by show 0 ≤ i.val; omega), (by show i.val < 0 + 128; omega)⟩
      | ⟨2, _⟩ => exact ⟨(by show 0 ≤ j.val; omega), (by show j.val < 0 + 256; omega)⟩
  · rw [if_neg e, dif_neg ?_]
    intro hall
    have a0 : h ≤ h'.val ∧ h'.val < h + 1 := hall 0
    omega

/-! ## A head of a chunk -/

/-- The rotation of a window is the rotated row. -/
theorem rot_of (x : ℕ → ℕ → EReal) (p col h : ℕ) (w c s : S128x128.Idx → EReal)
    (hw : ∀ i d : Fin 128, w (ix2 i d) = x (p + i.val) (col + (h * 128 + d.val)))
    (hc : ∀ i d : Fin 128, c (ix2 i d) = if d.val < 64 then Ideal.cos (ang (p + i.val) d.val) else Ideal.cos (ang (p + i.val) (d.val - 64)))
    (hs : ∀ i d : Fin 128, s (ix2 i d) = if d.val < 64 then - Ideal.sin (ang (p + i.val) d.val) else Ideal.sin (ang (p + i.val) (d.val - 64)))
    (i d : Fin 128) : rotV (F := Ideal) w c s (ix2 i d) = rot x col (p + i.val) h d.val := by
  rw [rotV_at, hw, hw, hc, hs]
  unfold rot
  dsimp only
  by_cases e : d.val < 64
  · rw [if_pos e, if_pos e, if_pos e, mul_neg, ← sub_eq_add_neg, show (d.val + 128 - 64) % 128 = 64 + d.val by omega]
  · rw [if_neg e, if_neg e, if_neg e, add_comm, show (d.val + 128 - 64) % 128 = d.val - 64 by omega, show 64 + (d.val - 64) = d.val by omega]

section
variable {X : Blocks Ideal} {x : ℕ → ℕ → EReal} {n : ℕ} (R : Reads X x n)
include R

theorem rotQ_of {c h : ℕ} (hc : c < 8) (hh : h < 4) (i d : Fin 128) :
    rotV (F := Ideal) (VecWindow.window X.q ![128 * c, 128 * h] S128x128.size (inbQ hc hh)) (VecWindow.window X.cs ![128 * c, 0] S128x128.size (inbC hc))
      (VecWindow.window X.sn ![128 * c, 0] S128x128.size (inbC hc)) (ix2 i d) = qq x ((n + c) * 128 + i.val) h d.val := by
  unfold qq
  refine rot_of x ((n + c) * 128) 18432 h _ _ _ (fun i d => ?_) (fun i d => ?_) (fun i d => ?_) i d
  · rw [winQ _ hc hh, R.q]
    exact congrArg₂ x (by show n * 128 + (128 * c + i.val) = _; omega) (by show 18432 + (128 * h + d.val) = _; omega)
  · rw [winC _ hc, R.cs, show n * 128 + (128 * c + i.val) = (n + c) * 128 + i.val by omega]
  · rw [winC _ hc, R.sn, show n * 128 + (128 * c + i.val) = (n + c) * 128 + i.val by omega]

theorem rotK_of {c h : ℕ} (hc : c < 8) (hh : h < 4) (i d : Fin 128) :
    rotV (F := Ideal) (VecWindow.window X.k ![128 * c, 128 * h] S128x128.size (inbQ hc hh)) (VecWindow.window X.cs ![128 * c, 0] S128x128.size (inbC hc))
      (VecWindow.window X.sn ![128 * c, 0] S128x128.size (inbC hc)) (ix2 i d) = rot x 18944 ((n + c) * 128 + i.val) h d.val := by
  refine rot_of x ((n + c) * 128) 18944 h _ _ _ (fun i d => ?_) (fun i d => ?_) (fun i d => ?_) i d
  · rw [winQ _ hc hh, R.k]
    exact congrArg₂ x (by show n * 128 + (128 * c + i.val) = _; omega) (by show 18944 + (128 * h + d.val) = _; omega)
  · rw [winC _ hc, R.cs, show n * 128 + (128 * c + i.val) = (n + c) * 128 + i.val by omega]
  · rw [winC _ hc, R.sn, show n * 128 + (128 * c + i.val) = (n + c) * 128 + i.val by omega]

theorem val_of {c h : ℕ} (hc : c < 8) (hh : h < 4) (i : Fin 128) (e : Fin 256) :
    VecWindow.window X.v ![128 * c, 256 * h] S128x256.size (inbV hc hh) (ix2 i e) = vv x ((n + c) * 128 + i.val) h e.val := by
  unfold vv
  refine (winV X.v hc hh i e).trans ((R.v _ _).trans ?_)
  exact congrArg₂ x (by show n * 128 + (128 * c + i.val) = _; omega) (by show 6144 + (256 * h + e.val) = _; omega)

/-- The forward output of a head of a chunk, at the state it is given. -/
theorem outF_of {c h : ℕ} (hc : c < 8) (hh : h < 4) (S : S1x128x256.Idx → EReal) (st : ℕ → ℕ → EReal)
    (hS : ∀ (d : Fin 128) (e : Fin 256), S (ix3 0 d e) = st d.val e.val) (i : Fin 128) (e : Fin 256) :
    X.outF hc hh S (ix3 0 i e) = intra x (n + c) i.val h e.val + ∑ d : Fin 128, qq x ((n + c) * 128 + i.val) h d.val * qf h i.val * st d.val e.val := by
  unfold Blocks.outF
  refine (outF_at _ _ _ _ _ _ _ _ _ _ i e).trans ?_
  unfold intra
  congr 1
  · refine Finset.sum_congr rfl fun j _ => ?_
    rw [val_of R hc hh, winD _ hh, R.dm]
    congr 2
    refine Finset.sum_congr rfl fun d _ => ?_
    rw [rotQ_of R hc hh, rotK_of R hc hh]
    rfl
  · refine Finset.sum_congr rfl fun d _ => ?_
    rw [rotQ_of R hc hh, winR _ hh (by decide), hS]
    exact congrArg (fun z => _ * z * _) (R.r0 ⟨h, hh⟩ i d)

/-- The backward output of a head of a chunk, at the state it is given. -/
theorem outB_of {c h : ℕ} (hc : c < 8) (hh : h < 4) (S : S1x128x256.Idx → EReal) (st : ℕ → ℕ → EReal)
    (hS : ∀ (d : Fin 128) (e : Fin 256), S (ix3 0 d e) = st d.val e.val) (i : Fin 128) (e : Fin 256) :
    X.outB hc hh S (ix3 0 i e) = ∑ d : Fin 128, qq x ((n + c) * 128 + i.val) h d.val * qb h i.val * st d.val e.val := by
  unfold Blocks.outB
  refine (outB_at _ _ _ _ _ i e).trans ?_
  refine Finset.sum_congr rfl fun d _ => ?_
  rw [rotQ_of R hc hh, winR _ hh (by decide), hS]
  exact congrArg (fun z => _ * z * _) (R.r1 ⟨h, hh⟩ i d)

/-- The next forward state. -/
theorem nextF_of {c h : ℕ} (hc : c < 8) (hh : h < 4) (S : S1x128x256.Idx → EReal) (d : Fin 128) (e : Fin 256) :
    X.next hc hh (r := 2) (by decide) S (ix3 0 d e) = gOf (F := Ideal) h * S (ix3 0 d e) + kvF x (n + c) h d.val e.val := by
  unfold Blocks.next
  refine (nextV_at _ _ _ _ _ _ _ d e).trans ?_
  unfold kvF kk
  congr 1
  refine Finset.sum_congr rfl fun j _ => ?_
  rw [val_of R hc hh, rotK_of R hc hh, winR _ hh (by decide)]
  exact congrArg (fun z => _ * z * _) (R.r2 ⟨h, hh⟩ j d)

/-- The next backward state. -/
theorem nextB_of {c h : ℕ} (hc : c < 8) (hh : h < 4) (S : S1x128x256.Idx → EReal) (d : Fin 128) (e : Fin 256) :
    X.next hc hh (r := 3) (by decide) S (ix3 0 d e) = gOf (F := Ideal) h * S (ix3 0 d e) + kvB x (n + c) h d.val e.val := by
  unfold Blocks.next
  refine (nextV_at _ _ _ _ _ _ _ d e).trans ?_
  unfold kvB kk
  congr 1
  refine Finset.sum_congr rfl fun j _ => ?_
  rw [val_of R hc hh, rotK_of R hc hh, winR _ hh (by decide)]
  exact congrArg (fun z => _ * z * _) (R.r3 ⟨h, hh⟩ j d)
end

end Cert.RetIdeal.RetValue
-- ==== Proof.RetValue.Decay.lean ====
/-
  The decay over a chunk: the named constant of each head is the exponential of 128 times the logarithm of the head's decay.
-/
module

public import proofs.«01_k».proof.Proof.RetIdealHand.Base
public import proofs.«01_k».proof.Proof.RetValue.Spec
public import Mathlib.Analysis.SpecialFunctions.Pow.Real

@[expose] public section

noncomputable section

namespace Cert.RetIdeal.RetValue

open Cert.RetIdeal Cert.RetIdeal.Gen Cert.RetIdeal.Hand
open Idealize.ShloMosaic
open Cert.RetSpec

theorem num_eq (n : ℕ) (h : n < 4) : num n = ((n : ℝ) : EReal) := by
  unfold num
  show (((BitVec.ofNat 32 n).toInt : ℝ) : EReal) = _
  interval_cases n <;> simp [BitVec.toInt]
theorem c2 : Ideal.ofBits .f32 1073741824#32 = ((2 : ℝ) : EReal) := by
  simp [Ideal.ofBits, Ideal.ieee, -EReal.coe_mul]; norm_num
theorem c5 : Ideal.ofBits .f32 3231711232#32 = ((-5 : ℝ) : EReal) := by
  simp [Ideal.ofBits, Ideal.ieee, -EReal.coe_mul]; norm_num
theorem c128 : Ideal.ofBits .f32 1124073472#32 = ((128 : ℝ) : EReal) := by
  simp [Ideal.ofBits, Ideal.ieee, -EReal.coe_mul]; norm_num

theorem pow_eq (n : ℕ) (h : n < 4) : Ideal.pow (Ideal.ofBits .f32 1073741824#32) (Ideal.ofBits .f32 3231711232#32 - num n) = (((2 : ℝ) ^ (-(5 + n : ℝ)) : ℝ) : EReal) := by
  rw [c2, c5, num_eq n h, ← EReal.coe_sub, show (-5 : ℝ) - n = -(5 + n) by ring]
  rfl
theorem pow_lt (n : ℕ) : (2 : ℝ) ^ (-(5 + n : ℝ)) = 1 / 2 ^ (5 + n) := by
  rw [Real.rpow_neg (by norm_num), one_div]
  congr 1
  exact_mod_cast Real.rpow_natCast 2 (5 + n)

theorem gc_eq (n : ℕ) (h : n < 4) : gc n = (((1 - 1 / 2 ^ (5 + n) : ℝ) ^ 128 : ℝ) : EReal) := by
  have hpos : (0 : ℝ) < 1 - 1 / 2 ^ (5 + n) := by
    have h2 : (1 : ℝ) < 2 ^ (5 + n) := one_lt_pow₀ (by norm_num) (by omega)
    rw [sub_pos, div_lt_one (by positivity)]
    exact h2
  unfold gc logg
  rw [pow_eq n h, pow_lt, c128, ← EReal.coe_one, ← EReal.coe_sub]
  have hl : Ideal.log ((1 - 1 / 2 ^ (5 + n) : ℝ) : EReal) = ((Real.log (1 - 1 / 2 ^ (5 + n) : ℝ) : ℝ) : EReal) := if_neg (not_le.mpr hpos)
  rw [hl, ← EReal.coe_mul]
  show ((Real.exp _ : ℝ) : EReal) = _
  rw [← Real.rpow_def_of_pos hpos]
  exact congrArg _ (by exact_mod_cast Real.rpow_natCast _ 128)

theorem g0_eq : gOf (F := Ideal) 0 = (((1 - 1 / 2 ^ (5 + 0) : ℝ) ^ 128 : ℝ) : EReal) := by
  have e := (IdealRules.named_const.statement κ "g0" .f32 0x3C8CC36A#32 _ rfl).2.2
  unfold gOf
  rw [e]
  refine congrArg Real.toEReal ?_
  norm_num
theorem g1_eq : gOf (F := Ideal) 1 = (((1 - 1 / 2 ^ (5 + 1) : ℝ) ^ 128 : ℝ) : EReal) := by
  have e := (IdealRules.named_const.statement κ "g1" .f32 0x3E08698E#32 _ rfl).2.2
  unfold gOf
  rw [e]
  refine congrArg Real.toEReal ?_
  norm_num
theorem g2_eq : gOf (F := Ideal) 2 = (((1 - 1 / 2 ^ (5 + 2) : ℝ) ^ 128 : ℝ) : EReal) := by
  have e := (IdealRules.named_const.statement κ "g2" .f32 0x3EBB9DB9#32 _ rfl).2.2
  unfold gOf
  rw [e]
  refine congrArg Real.toEReal ?_
  norm_num
theorem g3_eq : gOf (F := Ideal) 3 = (((1 - 1 / 2 ^ (5 + 3) : ℝ) ^ 128 : ℝ) : EReal) := by
  have e := (IdealRules.named_const.statement κ "g3" .f32 0x3F1B1EB1#32 _ rfl).2.2
  unfold gOf
  rw [e]
  refine congrArg Real.toEReal ?_
  norm_num
theorem gOf_eq (n : ℕ) (h : n < 4) : gOf (F := Ideal) n = gc n := by
  rw [gc_eq n h]
  match n, h with
  | 0, _ => exact g0_eq.trans (by norm_num)
  | 1, _ => exact g1_eq.trans (by norm_num)
  | 2, _ => exact g2_eq.trans (by norm_num)
  | 3, _ => exact g3_eq.trans (by norm_num)

end Cert.RetIdeal.RetValue
-- ==== Proof.RetValue.Block.lean ====
/-
  One block of eight chunks: the states over its heads and the output block, when the state it begins with is the sequence's.
-/
module

public import proofs.«01_k».proof.Proof.RetValue.Head
public import proofs.«01_k».proof.Proof.RetValue.Decay

@[expose] public section

set_option maxRecDepth 16384

noncomputable section

namespace Cert.RetIdeal.RetValue

open Cert.RetIdeal Cert.RetIdeal.Gen Cert.RetIdeal.Hand
open Idealize.ShloMosaic Idealize.ShloMosaic.TcCoe
open Cert.RetSpec

/-- The scratch holds the states `st`. -/
abbrev Holds (S : S4x128x256.Idx → EReal) (st : ℕ → ℕ → ℕ → EReal) : Prop :=
  ∀ (h : Fin 4) (d : Fin 128) (e : Fin 256), S (ix3 h d e) = st h.val d.val e.val

section
variable {X : Blocks Ideal} {x : ℕ → ℕ → EReal} {n : ℕ} (R : Reads X x n)
include R

/-- The states after `m` forward heads. -/
theorem scrF_of (S : S4x128x256.Idx → EReal) (hS : Holds S (stF x n)) (m : ℕ) (hm : m ≤ 32) :
    Holds (X.scrF S m) (fun h d e => stF x (n + (m + 3 - h) / 4) h d e) := by
  induction m with
  | zero =>
    intro h d e
    have hh := h.isLt
    refine (hS h d e).trans ?_
    beta_reduce
    rw [show n + (0 + 3 - h.val) / 4 = n by omega]
  | succ m ih =>
    intro h d e
    have hlt : m < 32 := by omega
    have hh := h.isLt
    have ih := ih (by omega)
    have e1 : X.scrF S (m + 1) = X.stS (c := m / 4) (h := m % 4) (r := 2) (by omega) (by omega) (by decide) (X.scrF S m) := by
      show (if hn : m < 32 then _ else _) = _
      rw [dif_pos hlt]
    rw [e1]
    unfold Blocks.stS
    refine (putS _ _ (h := m % 4) (by omega) h d e).trans ?_
    by_cases he : h.val = m % 4
    · rw [if_pos he, nextF_of R (c := m / 4) (h := m % 4) (by omega) (by omega), winS _ (h := m % 4) (by omega), gOf_eq (m % 4) (by omega)]
      have i1 := ih ⟨m % 4, by omega⟩ d e
      dsimp only at i1
      rw [i1, show n + (m + 3 - m % 4) / 4 = n + m / 4 by omega, he]
      beta_reduce
      rw [show n + (m + 1 + 3 - m % 4) / 4 = n + m / 4 + 1 by omega]
      rfl
    · rw [if_neg he, ih h d e]
      dsimp only
      rw [show (m + 1 + 3 - h.val) / 4 = (m + 3 - h.val) / 4 by omega]

/-- The states after `m` backward heads. -/
theorem scrB_of (N : ℕ) (hN : n + 8 ≤ N) (S : S4x128x256.Idx → EReal) (hS : Holds S (stB x N (N - (n + 8)))) (m : ℕ) (hm : m ≤ 32) :
    Holds (X.scrB S m) (fun h d e => stB x N (N - (n + 8) + (m + 3 - h) / 4) h d e) := by
  induction m with
  | zero =>
    intro h d e
    have hh := h.isLt
    refine (hS h d e).trans ?_
    beta_reduce
    rw [show N - (n + 8) + (0 + 3 - h.val) / 4 = N - (n + 8) by omega]
  | succ m ih =>
    intro h d e
    have hlt : m < 32 := by omega
    have hh := h.isLt
    have ih := ih (by omega)
    have e1 : X.scrB S (m + 1) = X.stS (c := 7 - m / 4) (h := m % 4) (r := 3) (by omega) (by omega) (by decide) (X.scrB S m) := by
      show (if hn : m < 32 then _ else _) = _
      rw [dif_pos hlt]
    rw [e1]
    unfold Blocks.stS
    refine (putS _ _ (h := m % 4) (by omega) h d e).trans ?_
    by_cases he : h.val = m % 4
    · rw [if_pos he, nextB_of R (c := 7 - m / 4) (h := m % 4) (by omega) (by omega), winS _ (h := m % 4) (by omega), gOf_eq (m % 4) (by omega)]
      have i1 := ih ⟨m % 4, by omega⟩ d e
      dsimp only at i1
      rw [i1, show N - (n + 8) + (m + 3 - m % 4) / 4 = N - (n + 8) + m / 4 by omega, he]
      beta_reduce
      rw [show N - (n + 8) + (m + 1 + 3 - m % 4) / 4 = N - (n + 8) + m / 4 + 1 by omega]
      show _ = gc _ * _ + kvB x (N - 1 - (N - (n + 8) + m / 4)) _ _ _
      rw [show N - 1 - (N - (n + 8) + m / 4) = n + (7 - m / 4) by omega]
    · rw [if_neg he, ih h d e]
      dsimp only
      rw [show (m + 1 + 3 - h.val) / 4 = (m + 3 - h.val) / 4 by omega]

/-- The forward output block. -/
theorem oF_of (S : S4x128x256.Idx → EReal) (hS : Holds S (stF x n)) (r e : Fin 1024) :
    X.oF S (ix3 0 r e) = Cert.RetSpec.oF x (n + r.val / 128) (r.val % 128) (e.val / 256) (e.val % 256) := by
  have hr := r.isLt
  have he := e.isLt
  unfold Blocks.oF Blocks.oAtF locO headOfF
  have h1 : (4 * (r.val / 128) + e.val / 256) / 4 < 8 := by omega
  have h2 : (4 * (r.val / 128) + e.val / 256) % 4 < 4 := by omega
  show X.outF (c := (4 * (r.val / 128) + e.val / 256) / 4) (h := (4 * (r.val / 128) + e.val / 256) % 4) _ _ _ (ix3 0 ⟨r.val % 128, _⟩ ⟨e.val % 256, _⟩) = _
  refine (outF_of R h1 h2 _ (fun d e' => stF x (n + r.val / 128) (e.val / 256) d e') (fun d e' => ?_) _ _).trans ?_
  · refine (winS _ h2 d e').trans ((scrF_of R S hS (4 * (r.val / 128) + e.val / 256) (by omega) ⟨_, h2⟩ d e').trans ?_)
    dsimp only
    rw [show (4 * (r.val / 128) + e.val / 256) % 4 = e.val / 256 by omega, show (4 * (r.val / 128) + e.val / 256 + 3 - e.val / 256) / 4 = r.val / 128 by omega]
  · rw [show (4 * (r.val / 128) + e.val / 256) % 4 = e.val / 256 by omega, show (4 * (r.val / 128) + e.val / 256) / 4 = r.val / 128 by omega]
    rfl

/-- The backward output block. -/
theorem oB_of (N : ℕ) (hN : n + 8 ≤ N) (S : S4x128x256.Idx → EReal) (hS : Holds S (stB x N (N - (n + 8)))) (r e : Fin 1024) :
    X.oB S (ix3 0 r e) = Cert.RetSpec.oB x N (n + r.val / 128) (r.val % 128) (e.val / 256) (e.val % 256) := by
  have hr := r.isLt
  have he := e.isLt
  unfold Blocks.oB Blocks.oAtB locO headOfB
  have h1 : 7 - (4 * (7 - r.val / 128) + e.val / 256) / 4 < 8 := by omega
  have h2 : (4 * (7 - r.val / 128) + e.val / 256) % 4 < 4 := by omega
  show X.outB (c := 7 - (4 * (7 - r.val / 128) + e.val / 256) / 4) (h := (4 * (7 - r.val / 128) + e.val / 256) % 4) _ _ _ (ix3 0 ⟨r.val % 128, _⟩ ⟨e.val % 256, _⟩) = _
  refine (outB_of R h1 h2 _ (fun d e' => stB x N (N - 1 - (n + r.val / 128)) (e.val / 256) d e') (fun d e' => ?_) _ _).trans ?_
  · refine (winS _ h2 d e').trans ((scrB_of R N hN S hS (4 * (7 - r.val / 128) + e.val / 256) (by omega) ⟨_, h2⟩ d e').trans ?_)
    dsimp only
    rw [show (4 * (7 - r.val / 128) + e.val / 256) % 4 = e.val / 256 by omega,
      show N - (n + 8) + (4 * (7 - r.val / 128) + e.val / 256 + 3 - e.val / 256) / 4 = N - 1 - (n + r.val / 128) by omega]
  · rw [show (4 * (7 - r.val / 128) + e.val / 256) % 4 = e.val / 256 by omega, show 7 - (4 * (7 - r.val / 128) + e.val / 256) / 4 = r.val / 128 by omega]
    rfl
end

end Cert.RetIdeal.RetValue
-- ==== Proof.RetValue.Tables.lean ====
/-
  The kernel's tables, element by element: the rotations' cosines and sines, the decays inside a chunk, the rows of decays.
-/
module

public import proofs.«01_k».proof.Proof.RetIdealHand.Frame
public import proofs.«01_k».proof.Proof.RetValue.Spec
public import Idealize.ShloMosaic.Lib.StableHlo.RunRead
public import Idealize.ShloMosaic.Lib.StableHlo.RunClose

@[expose] public section

set_option maxRecDepth 16384

noncomputable section

namespace Cert.RetIdeal.RetValue

open Cert.RetIdeal Cert.RetIdeal.Gen Cert.RetIdeal.Hand
open Idealize.ShloMosaic Idealize.ShloMosaic.TcCoe
open Idealize.ShloMosaic.StableHlo
open Cert.RetSpec

/-- The tokens' positions in their sequences. -/
def posK : S24576.Idx → EReal :=
  concatenate S24576 0 [⟨S16384, (sitofp (F := Ideal) .f32 (iotaInDim S16384 32 0) : S16384.Idx → EReal)⟩, ⟨S2048, (sitofp (F := Ideal) .f32 (iotaInDim S2048 32 0) : S2048.Idx → EReal)⟩, ⟨S2048, (sitofp (F := Ideal) .f32 (iotaInDim S2048 32 0) : S2048.Idx → EReal)⟩,
    ⟨S2048, (sitofp (F := Ideal) .f32 (iotaInDim S2048 32 0) : S2048.Idx → EReal)⟩, ⟨S2048, (sitofp (F := Ideal) .f32 (iotaInDim S2048 32 0) : S2048.Idx → EReal)⟩] concatenates_S16384_S2048_S2048_S2048_S2048_S24576_d0
/-- The angles. -/
def angK (p : S24576.Idx → EReal) : S24576x64.Idx → EReal :=
  mulf (F := Ideal) (φ := .f32) (broadcastInDim S24576x64 ![0, 1] bcast_S24576x1_S24576x64_0_1 (broadcastInDim S24576x1 ![0] bcast_S24576_S24576x1_0 p))
    (broadcastInDim S24576x64 ![0, 1] bcast_S1x64_S24576x64_0_1 (broadcastInDim S1x64 ![1] bcast_S64_S1x64_1
      (Host.powf (F := Ideal) (φ := .f32) (broadcastInDim S64 ![] bcast_S_S64 (constant (F := Ideal) S_ .f32 0x461C4000#32))
        (Host.divf (F := Ideal) (φ := .f32) (Host.negf (F := Ideal) (φ := .f32) (sitofp (F := Ideal) .f32 (iotaInDim S64 32 0))) (broadcastInDim S64 ![] bcast_S_S64 (constant (F := Ideal) S_ .f32 0x42800000#32))))))
/-- Two half tables side by side. -/
def cat2 (a b : S24576x64.Idx → EReal) : S24576x128.Idx → EReal :=
  concatenate S24576x128 1 [⟨S24576x64, a⟩, ⟨S24576x64, b⟩] concatenates_S24576x64_S24576x64_S24576x128_d1
def logK : S4.Idx → EReal :=
  Host.log (F := Ideal) (φ := .f32) (subf (F := Ideal) (φ := .f32) (broadcastInDim S4 ![] bcast_S_S4 (constant (F := Ideal) S_ .f32 0x3F800000#32))
    (Host.powf (F := Ideal) (φ := .f32) (broadcastInDim S4 ![] bcast_S_S4 (constant (F := Ideal) S_ .f32 0x40000000#32))
      (subf (F := Ideal) (φ := .f32) (broadcastInDim S4 ![] bcast_S_S4 (constant (F := Ideal) S_ .f32 0xC0A00000#32)) (sitofp (F := Ideal) .f32 (iotaInDim S4 32 0)))))
def iotK : S128.Idx → EReal := sitofp (F := Ideal) .f32 (iotaInDim S128 32 0)
def dmK (l : S4.Idx → EReal) (p : S128.Idx → EReal) : S4x128x128.Idx → EReal :=
  Host.exp (F := Ideal) (φ := .f32) (mulf (F := Ideal) (φ := .f32) (broadcastInDim S4x128x128 ![0, 1, 2] bcast_S4x1x1_S4x128x128_0_1_2 (broadcastInDim S4x1x1 ![0] bcast_S4_S4x1x1_0 l))
    (broadcastInDim S4x128x128 ![0, 1, 2] bcast_S1x128x128_S4x128x128_0_1_2 (broadcastInDim S1x128x128 ![1, 2] bcast_S128x128_S1x128x128_1_2
      (Host.absf (F := Ideal) (φ := .f32) (subf (F := Ideal) (φ := .f32) (broadcastInDim S128x128 ![0, 1] bcast_S128x1_S128x128_0_1 (broadcastInDim S128x1 ![0] bcast_S128_S128x1_0 p))
        (broadcastInDim S128x128 ![0, 1] bcast_S1x128_S128x128_0_1 (broadcastInDim S1x128 ![1] bcast_S128_S1x128_1 p)))))))
/-- A row of decays by powers of positions. -/
def rowK (l : S4.Idx → EReal) (p : S128.Idx → EReal) : S4x1x128.Idx → EReal :=
  broadcastInDim S4x1x128 ![0, 2] bcast_S4x128_S4x1x128_0_2 (Host.exp (F := Ideal) (φ := .f32) (mulf (F := Ideal) (φ := .f32) (broadcastInDim S4x128 ![0, 1] bcast_S4x1_S4x128_0_1 (broadcastInDim S4x1 ![0] bcast_S4_S4x1_0 l))
    (broadcastInDim S4x128 ![0, 1] bcast_S1x128_S4x128_0_1 (broadcastInDim S1x128 ![1] bcast_S128_S1x128_1 p))))
def rowsK (a b c d : S4x1x128.Idx → EReal) : S4x4x128x128.Idx → EReal :=
  broadcastInDim S4x4x128x128 ![0, 1, 2, 3] bcast_S4x4x128x1_S4x4x128x128_0_1_2_3 (broadcastInDim S4x4x128x1 ![0, 1, 2] bcast_S4x4x128_S4x4x128x1_0_1_2
    (concatenate S4x4x128 1 [⟨S4x1x128, a⟩, ⟨S4x1x128, b⟩, ⟨S4x1x128, c⟩, ⟨S4x1x128, d⟩] concatenates_S4x1x128_S4x1x128_S4x1x128_S4x1x128_S4x4x128_d1))
def p1K (p : S128.Idx → EReal) : S128.Idx → EReal := addf (F := Ideal) (φ := .f32) p (broadcastInDim S128 ![] bcast_S_S128 (constant (F := Ideal) S_ .f32 0x3F800000#32))
def p128K (p : S128.Idx → EReal) : S128.Idx → EReal := subf (F := Ideal) (φ := .f32) (broadcastInDim S128 ![] bcast_S_S128 (constant (F := Ideal) S_ .f32 0x43000000#32)) p
def p127K (p : S128.Idx → EReal) : S128.Idx → EReal := subf (F := Ideal) (φ := .f32) (broadcastInDim S128 ![] bcast_S_S128 (constant (F := Ideal) S_ .f32 0x42FE0000#32)) p

section
variable (W : Valuation τ sig (Elt Ideal))
theorem dm_eq : (StableHlo.after (hostOps0 (F := Ideal)) W (Proc.devRef .tc main_v42) : S4x128x128.Idx → EReal) = dmK logK iotK := by
  after_results
  rfl
theorem cos_eq : (StableHlo.after (hostOps0 (F := Ideal)) W (Proc.devRef .tc main_v19) : S24576x128.Idx → EReal) = cat2 (Host.cos (F := Ideal) (φ := .f32) (angK posK)) (Host.cos (F := Ideal) (φ := .f32) (angK posK)) := by
  after_results
  rfl
theorem sin_eq : (StableHlo.after (hostOps0 (F := Ideal)) W (Proc.devRef .tc main_v21) : S24576x128.Idx → EReal) = cat2 (Host.negf (F := Ideal) (φ := .f32) (Host.sin (F := Ideal) (φ := .f32) (angK posK))) (Host.sin (F := Ideal) (φ := .f32) (angK posK)) := by
  after_results
  rfl
theorem rows_eq : (StableHlo.after (hostOps0 (F := Ideal)) W (Proc.devRef .tc main_v79) : S4x4x128x128.Idx → EReal)
    = rowsK (rowK logK (p1K iotK)) (rowK logK (p128K iotK)) (rowK logK (p127K iotK)) (rowK logK iotK) := by
  after_results
  rfl
end

/-- A token's position. -/
def posOf (t : ℕ) : ℕ := if t < 16384 then t else (t - 16384) % 2048

theorem iot_at (i : Fin 128) : iotK (ix1 i) = num i.val := by
  unfold iotK
  pointwise
  rfl
theorem logK_at (h : Fin 4) : logK (ix1 h) = logg h.val := by
  unfold logK
  pointwise
  unfold logg num
  rfl
theorem dmK_at (h : Fin 4) (i j : Fin 128) : dmK logK iotK (ix3 h i j) = dmat h.val i.val j.val := by
  unfold dmK dmat
  rw [← logK_at h, ← iot_at i, ← iot_at j]
  generalize logK = y
  generalize iotK = y2
  pointwise
theorem posK_at (t : Fin 24576) : posK (ix1 t) = num (posOf t.val) := by
  unfold posK posOf
  pointwise
  split_ifs <;> exact congrArg num (by omega)
theorem angK_at (t : Fin 24576) (d : Fin 64) : angK posK (ix2 t d) = ang (posOf t.val) d.val := by
  unfold angK ang
  rw [← posK_at t]
  generalize posK = y
  pointwise
  rfl
theorem cat2_at (a b) (t : Fin 24576) (d : Fin 128) : cat2 a b (ix2 t d) = if h : d.val < 64 then a (ix2 t ⟨d.val, h⟩) else b (ix2 t ⟨d.val - 64, by omega⟩) := by
  unfold cat2
  pointwise
theorem rowK_at (l p) (h : Fin 4) (i : Fin 128) : rowK l p (ix3 h 0 i) = Ideal.exp (l (ix1 h) * p (ix1 i)) := by
  unfold rowK
  pointwise
theorem rowsK_at0 (a b c d) (h : Fin 4) (i j : Fin 128) : rowsK a b c d (ix4 h 0 i j) = a (ix3 h 0 i) := by
  unfold rowsK
  pointwise
theorem rowsK_at1 (a b c d) (h : Fin 4) (i j : Fin 128) : rowsK a b c d (ix4 h 1 i j) = b (ix3 h 0 i) := by
  unfold rowsK
  pointwise
theorem rowsK_at2 (a b c d) (h : Fin 4) (i j : Fin 128) : rowsK a b c d (ix4 h 2 i j) = c (ix3 h 0 i) := by
  unfold rowsK
  pointwise
theorem rowsK_at3 (a b c d) (h : Fin 4) (i j : Fin 128) : rowsK a b c d (ix4 h 3 i j) = d (ix3 h 0 i) := by
  unfold rowsK
  pointwise
theorem p1K_at (p) (i : Fin 128) : p1K p (ix1 i) = p (ix1 i) + 1 := by
  unfold p1K
  pointwise
theorem p128K_at (p) (i : Fin 128) : p128K p (ix1 i) = Ideal.ofBits .f32 1124073472#32 - p (ix1 i) := by
  unfold p128K
  pointwise
theorem p127K_at (p) (i : Fin 128) : p127K p (ix1 i) = Ideal.ofBits .f32 1123942400#32 - p (ix1 i) := by
  unfold p127K
  pointwise

end Cert.RetIdeal.RetValue
-- ==== Proof.RetValue.Grid.lean ====
/-
  The grid: 24 blocks of 1024 tokens forward, then the same blocks backward. The blocks read at each point, the states carried
  from point to point, the output block of each point.
-/
module

public import proofs.«01_k».proof.Proof.RetValue.Block
public import proofs.«01_k».proof.Proof.RetValue.Tables

@[expose] public section

set_option maxRecDepth 16384

noncomputable section

namespace Cert.RetIdeal.RetValue

open Cert.RetIdeal Cert.RetIdeal.Gen Cert.RetIdeal.Hand
open Idealize.ShloMosaic Idealize.ShloMosaic.TcCoe
open Cert.RetSpec

/-- The block of tokens of point `t`. -/
def blk (t : ℕ) : ℕ := if t < 24 then t else 47 - t
/-- The sequence of a block, -/
def seqOf (j : ℕ) : ℕ := if j < 16 then 0 else 1 + (j - 16) / 2
/-- and the block's first chunk in it. -/
def fstOf (j : ℕ) : ℕ := if j < 16 then 8 * j else 8 * ((j - 16) % 2)

theorem blk_lt (t : Fin grid0.N) : blk t.val < 24 := by
  have h : t.val < 48 := t.isLt
  unfold blk; split <;> omega
theorem row_lt (t : Fin grid0.N) (r : Fin 1024) : blk t.val * 1024 + r.val < 24576 := by
  have := blk_lt t
  have := r.isLt
  omega

theorem ix_0 : ∀ t : Fin grid0.N, cc0_transform_0 (grid0.coords t) 0 = blk t.val ∧ cc0_transform_0 (grid0.coords t) 1 = 36 := by decide +kernel
theorem ix_1 : ∀ t : Fin grid0.N, cc0_transform_1 (grid0.coords t) 0 = blk t.val ∧ cc0_transform_1 (grid0.coords t) 1 = 37 := by decide +kernel
theorem ix_2 : ∀ t : Fin grid0.N, cc0_transform_2 (grid0.coords t) 0 = blk t.val ∧ cc0_transform_2 (grid0.coords t) 1 = 6 := by decide +kernel
theorem ix_3 : ∀ t : Fin grid0.N, cc0_transform_3 (grid0.coords t) 0 = blk t.val ∧ cc0_transform_3 (grid0.coords t) 1 = 0 := by decide +kernel
theorem ix_4 : ∀ t : Fin grid0.N, cc0_transform_4 (grid0.coords t) 0 = blk t.val ∧ cc0_transform_4 (grid0.coords t) 1 = 0 := by decide +kernel
theorem ix_5 : ∀ t : Fin grid0.N, cc0_transform_5 (grid0.coords t) 0 = 0 ∧ cc0_transform_5 (grid0.coords t) 1 = 0 ∧ cc0_transform_5 (grid0.coords t) 2 = 0 := by decide +kernel
theorem ix_6 : ∀ t : Fin grid0.N, cc0_transform_6 (grid0.coords t) 0 = 0 ∧ cc0_transform_6 (grid0.coords t) 1 = 0 ∧ cc0_transform_6 (grid0.coords t) 2 = 0 ∧ cc0_transform_6 (grid0.coords t) 3 = 0 := by decide +kernel
theorem ix_7 : ∀ t : Fin grid0.N, cc0_transform_7 (grid0.coords t) 0 = t.val / 24 ∧ cc0_transform_7 (grid0.coords t) 1 = blk t.val ∧ cc0_transform_7 (grid0.coords t) 2 = 0 := by decide +kernel

/-- Forward and backward points. -/
theorem fwd : ∀ t : Fin grid0.N, (k0_cond2 (grid0.coords t) = 1#1) ↔ t.val < 24 := by decide +kernel
/-- The points that clear the state. -/
theorem clr : ∀ t : Fin grid0.N, (clears (grid0.coords t) (lit0 ⟨k0_off1 (grid0.coords t) 0, Nat.lt_of_lt_of_le (Nat.lt_succ_self _) (k0_off1_inb (grid0.coords t) 0)⟩)
    (lit1 ⟨k0_off1 (grid0.coords t) 0, Nat.lt_of_lt_of_le (Nat.lt_succ_self _) (k0_off1_inb (grid0.coords t) 0)⟩) = 1#1)
      ↔ if t.val < 24 then fstOf (blk t.val) = 0 else fstOf (blk t.val) + 8 = len (seqOf (blk t.val)) := by decide +kernel

variable (m : (ℓ : Loc nD τ sig) → Buf (Elt Ideal) ℓ)

/-- The tokens in memory. -/
abbrev toks (c : Dev nD) : S24576x19712.Idx → EReal := m ((c : Thread nD τ).loc main_arg0)

theorem y0_at (c : Dev nD) (t : Fin grid0.N) (r : Fin 1024) (d : Fin 512) :
    (y0 m c t : S1024x512.Idx → EReal) (ix2 r d) = toks m c (ix2 ⟨blk t.val * 1024 + r.val, row_lt t r⟩ ⟨18432 + d.val, by omega⟩) := by
  obtain ⟨e0, e1⟩ := ix_0 t
  unfold y0 X0_0 Pipeline.Window.fill
  rw [dif_pos (moved0_0 t _)]
  show V m c main_arg0 ((((cfgM (F := Ideal)).win 0).blk t).view.emb _) = _
  rw [V_main_arg0]
  refine congrArg (toks m c) (funext fun a => Fin.ext ?_)
  match a with
  | ⟨0, _⟩ => show cc0_transform_0 (grid0.coords t) 0 * 1024 + 1 * r.val = blk t.val * 1024 + r.val; omega
  | ⟨1, _⟩ => show cc0_transform_0 (grid0.coords t) 1 * 512 + 1 * d.val = 18432 + d.val; omega
theorem y1_at (c : Dev nD) (t : Fin grid0.N) (r : Fin 1024) (d : Fin 512) :
    (y1 m c t : S1024x512.Idx → EReal) (ix2 r d) = toks m c (ix2 ⟨blk t.val * 1024 + r.val, row_lt t r⟩ ⟨18944 + d.val, by omega⟩) := by
  obtain ⟨e0, e1⟩ := ix_1 t
  unfold y1 X0_1 Pipeline.Window.fill
  rw [dif_pos (moved0_1 t _)]
  show V m c main_arg0 ((((cfgM (F := Ideal)).win 1).blk t).view.emb _) = _
  rw [V_main_arg0]
  refine congrArg (toks m c) (funext fun a => Fin.ext ?_)
  match a with
  | ⟨0, _⟩ => show cc0_transform_1 (grid0.coords t) 0 * 1024 + 1 * r.val = blk t.val * 1024 + r.val; omega
  | ⟨1, _⟩ => show cc0_transform_1 (grid0.coords t) 1 * 512 + 1 * d.val = 18944 + d.val; omega
theorem y2_at (c : Dev nD) (t : Fin grid0.N) (r d : Fin 1024) :
    (y2 m c t : S1024x1024.Idx → EReal) (ix2 r d) = toks m c (ix2 ⟨blk t.val * 1024 + r.val, row_lt t r⟩ ⟨6144 + d.val, by omega⟩) := by
  obtain ⟨e0, e1⟩ := ix_2 t
  unfold y2 X0_2 Pipeline.Window.fill
  rw [dif_pos (moved0_2 t _)]
  show V m c main_arg0 ((((cfgM (F := Ideal)).win 2).blk t).view.emb _) = _
  rw [V_main_arg0]
  refine congrArg (toks m c) (funext fun a => Fin.ext ?_)
  match a with
  | ⟨0, _⟩ => show cc0_transform_2 (grid0.coords t) 0 * 1024 + 1 * r.val = blk t.val * 1024 + r.val; omega
  | ⟨1, _⟩ => show cc0_transform_2 (grid0.coords t) 1 * 1024 + 1 * d.val = 6144 + d.val; omega

theorem V19 (c : Dev nD) : (V m c main_v19 : S24576x128.Idx → EReal) = cat2 (Host.cos (F := Ideal) (φ := .f32) (angK posK)) (Host.cos (F := Ideal) (φ := .f32) (angK posK)) :=
  cos_eq (fun b => m (c, b))
theorem V21 (c : Dev nD) : (V m c main_v21 : S24576x128.Idx → EReal) = cat2 (Host.negf (F := Ideal) (φ := .f32) (Host.sin (F := Ideal) (φ := .f32) (angK posK))) (Host.sin (F := Ideal) (φ := .f32) (angK posK)) :=
  sin_eq (fun b => m (c, b))
theorem V42 (c : Dev nD) : (V m c main_v42 : S4x128x128.Idx → EReal) = dmK logK iotK := dm_eq (fun b => m (c, b))
theorem V79 (c : Dev nD) : (V m c main_v79 : S4x4x128x128.Idx → EReal)
    = rowsK (rowK logK (p1K iotK)) (rowK logK (p128K iotK)) (rowK logK (p127K iotK)) (rowK logK iotK) := rows_eq (fun b => m (c, b))

theorem y3_at (c : Dev nD) (t : Fin grid0.N) (r : Fin 1024) (d : Fin 128) :
    (y3 m c t : S1024x128.Idx → EReal) (ix2 r d) = cat2 (Host.cos (F := Ideal) (φ := .f32) (angK posK)) (Host.cos (F := Ideal) (φ := .f32) (angK posK)) (ix2 ⟨blk t.val * 1024 + r.val, row_lt t r⟩ d) := by
  obtain ⟨e0, e1⟩ := ix_3 t
  unfold y3 X0_3 Pipeline.Window.fill
  rw [dif_pos (moved0_3 t _)]
  show V m c main_v19 ((((cfgM (F := Ideal)).win 3).blk t).view.emb (ix2 r d)) = _
  rw [V19]
  refine congrArg (cat2 _ _) (funext fun a => Fin.ext ?_)
  match a with
  | ⟨0, _⟩ => show cc0_transform_3 (grid0.coords t) 0 * 1024 + 1 * r.val = blk t.val * 1024 + r.val; omega
  | ⟨1, _⟩ => show cc0_transform_3 (grid0.coords t) 1 * 128 + 1 * d.val = d.val; omega
theorem y4_at (c : Dev nD) (t : Fin grid0.N) (r : Fin 1024) (d : Fin 128) :
    (y4 m c t : S1024x128.Idx → EReal) (ix2 r d) = cat2 (Host.negf (F := Ideal) (φ := .f32) (Host.sin (F := Ideal) (φ := .f32) (angK posK))) (Host.sin (F := Ideal) (φ := .f32) (angK posK)) (ix2 ⟨blk t.val * 1024 + r.val, row_lt t r⟩ d) := by
  obtain ⟨e0, e1⟩ := ix_4 t
  unfold y4 X0_4 Pipeline.Window.fill
  rw [dif_pos (moved0_4 t _)]
  show V m c main_v21 ((((cfgM (F := Ideal)).win 4).blk t).view.emb (ix2 r d)) = _
  rw [V21]
  refine congrArg (cat2 _ _) (funext fun a => Fin.ext ?_)
  match a with
  | ⟨0, _⟩ => show cc0_transform_4 (grid0.coords t) 0 * 1024 + 1 * r.val = blk t.val * 1024 + r.val; omega
  | ⟨1, _⟩ => show cc0_transform_4 (grid0.coords t) 1 * 128 + 1 * d.val = d.val; omega
theorem y5_at (c : Dev nD) (t : Fin grid0.N) (h : Fin 4) (i j : Fin 128) :
    (y5 m c t : S4x128x128.Idx → EReal) (ix3 h i j) = dmK logK iotK (ix3 h i j) := by
  obtain ⟨e0, e1, e2⟩ := ix_5 t
  unfold y5 X0_5 Pipeline.Window.fill
  rw [dif_pos (moved0_5 t _)]
  show V m c main_v42 ((((cfgM (F := Ideal)).win 5).blk t).view.emb (ix3 h i j)) = _
  rw [V42]
  refine congrArg (dmK _ _) (funext fun a => Fin.ext ?_)
  match a with
  | ⟨0, _⟩ => show cc0_transform_5 (grid0.coords t) 0 * 4 + 1 * h.val = h.val; omega
  | ⟨1, _⟩ => show cc0_transform_5 (grid0.coords t) 1 * 128 + 1 * i.val = i.val; omega
  | ⟨2, _⟩ => show cc0_transform_5 (grid0.coords t) 2 * 128 + 1 * j.val = j.val; omega
theorem y6_at (c : Dev nD) (t : Fin grid0.N) (h k : Fin 4) (i j : Fin 128) :
    (y6 m c t : S4x4x128x128.Idx → EReal) (ix4 h k i j) = rowsK (rowK logK (p1K iotK)) (rowK logK (p128K iotK)) (rowK logK (p127K iotK)) (rowK logK iotK) (ix4 h k i j) := by
  obtain ⟨e0, e1, e2, e3⟩ := ix_6 t
  unfold y6 X0_6 Pipeline.Window.fill
  rw [dif_pos (moved0_6 t _)]
  show V m c main_v79 ((((cfgM (F := Ideal)).win 6).blk t).view.emb (ix4 h k i j)) = _
  rw [V79]
  refine congrArg (rowsK _ _ _ _) (funext fun a => Fin.ext ?_)
  match a with
  | ⟨0, _⟩ => show cc0_transform_6 (grid0.coords t) 0 * 4 + 1 * h.val = h.val; omega
  | ⟨1, _⟩ => show cc0_transform_6 (grid0.coords t) 1 * 4 + 1 * k.val = k.val; omega
  | ⟨2, _⟩ => show cc0_transform_6 (grid0.coords t) 2 * 128 + 1 * i.val = i.val; omega
  | ⟨3, _⟩ => show cc0_transform_6 (grid0.coords t) 3 * 128 + 1 * j.val = j.val; omega

/-- A token of block `j` in its sequence. -/
theorem tok_at (P : S24576x19712.Idx → EReal) (j : ℕ) (hj : j < 24) (r : Fin 1024) (k : ℕ) (hr : j * 1024 + r.val < 24576) (hk : k < 19712) :
    P (ix2 ⟨j * 1024 + r.val, hr⟩ ⟨k, hk⟩) = sqn P (seqOf j) (fstOf j * 128 + r.val) k := by
  have h := r.isLt
  have e : P (ix2 ⟨j * 1024 + r.val, hr⟩ ⟨k, hk⟩) = tok P (j * 1024 + r.val) k := by
    unfold tok
    rw [dif_pos ⟨hr, hk⟩]
  rw [e]
  unfold sqn seqOf fstOf
  by_cases hj' : j < 16
  · rw [if_pos hj', if_pos hj', if_pos (by omega)]
    exact congrArg (fun z => tok P z k) (by omega)
  · rw [if_neg hj', if_neg hj', if_neg (by omega), if_pos (by omega)]
    exact congrArg (fun z => tok P z k) (by omega)

/-- A token's position in its sequence. -/
theorem posOf_at (j : ℕ) (hj : j < 24) (r : ℕ) (hr : r < 1024) : posOf (j * 1024 + r) = fstOf j * 128 + r := by
  unfold posOf fstOf
  by_cases hj' : j < 16
  · rw [if_pos hj', if_pos (by omega)]; omega
  · rw [if_neg hj', if_neg (by omega)]; omega

attribute [local irreducible] y0 y1 y2 y3 y4 y5 y6 cat2 dmK rowsK angK posK rowK logK iotK p1K p127K p128K

/-- The blocks of point `t` are its rows and tables. -/
theorem reads_at (c : Dev nD) (t : Fin grid0.N) :
    Reads (blocksAt m c t) (sqn (toks m c) (seqOf (blk t.val))) (fstOf (blk t.val)) where
  q r d := (y0_at m c t r d).trans (tok_at _ _ (blk_lt t) r _ _ _)
  k r d := (y1_at m c t r d).trans (tok_at _ _ (blk_lt t) r _ _ _)
  v r d := (y2_at m c t r d).trans (tok_at _ _ (blk_lt t) r _ _ _)
  cs r d := by
    refine (y3_at m c t r d).trans ((cat2_at _ _ _ _).trans ?_)
    rw [← posOf_at _ (blk_lt t) _ r.isLt]
    by_cases h : d.val < 64
    · rw [dif_pos h, if_pos h]
      exact congrArg Ideal.cos (angK_at _ _)
    · rw [dif_neg h, if_neg h]
      exact congrArg Ideal.cos (angK_at _ _)
  sn r d := by
    refine (y4_at m c t r d).trans ((cat2_at _ _ _ _).trans ?_)
    rw [← posOf_at _ (blk_lt t) _ r.isLt]
    by_cases h : d.val < 64
    · rw [dif_pos h, if_pos h]
      exact congrArg (fun z => - Ideal.sin z) (angK_at _ _)
    · rw [dif_neg h, if_neg h]
      exact congrArg Ideal.sin (angK_at _ _)
  dm h i j := (y5_at m c t h i j).trans (dmK_at h i j)
  r0 h i j := by
    refine (y6_at m c t h 0 i j).trans ((rowsK_at0 _ _ _ _ h i j).trans ?_)
    rw [rowK_at, p1K_at, logK_at, iot_at]
    rfl
  r1 h i j := by
    refine (y6_at m c t h 1 i j).trans ((rowsK_at1 _ _ _ _ h i j).trans ?_)
    rw [rowK_at, p128K_at, logK_at, iot_at]
    rfl
  r2 h i j := by
    refine (y6_at m c t h 2 i j).trans ((rowsK_at2 _ _ _ _ h i j).trans ?_)
    rw [rowK_at, p127K_at, logK_at, iot_at]
    rfl
  r3 h i j := by
    refine (y6_at m c t h 3 i j).trans ((rowsK_at3 _ _ _ _ h i j).trans ?_)
    rw [rowK_at, logK_at, iot_at]
    rfl

end Cert.RetIdeal.RetValue
-- ==== Proof.RetValue.Sweep.lean ====
/-
  The states carried over the grid and the output block of each point.
-/
module

public import proofs.«01_k».proof.Proof.RetValue.Grid

@[expose] public section

set_option maxRecDepth 16384

noncomputable section

namespace Cert.RetIdeal.RetValue

open Cert.RetIdeal Cert.RetIdeal.Gen Cert.RetIdeal.Hand
open Idealize.ShloMosaic Idealize.ShloMosaic.TcCoe
open Cert.RetSpec

theorem fst_len : ∀ j : Fin 24, fstOf j.val + 8 ≤ len (seqOf j.val) := by decide
/-- A block that does not begin its sequence follows one of the same sequence. -/
theorem fst_next : ∀ j : Fin 24, fstOf j.val ≠ 0 → 0 < j.val ∧ seqOf (j.val - 1) = seqOf j.val ∧ fstOf (j.val - 1) + 8 = fstOf j.val := by decide
/-- A block that does not end its sequence comes before one of the same sequence. -/
theorem lst_next : ∀ j : Fin 24, fstOf j.val + 8 ≠ len (seqOf j.val) → j.val < 23 ∧ seqOf (j.val + 1) = seqOf j.val ∧ fstOf (j.val + 1) = fstOf j.val + 8 := by decide

theorem pay1_at (h : Fin 4) (d : Fin 128) (e : Fin 256) : (k0_pay1 (F := Ideal) : S4x128x256.Idx → EReal) (ix3 h d e) = 0 := by
  pointwise [k0_pay1]

variable (m : (ℓ : Loc nD τ sig) → Buf (Elt Ideal) ℓ)

/-- The state the heads of point `t` begin with. -/
def beg (c : Dev nD) (t : Fin grid0.N) : S4x128x256.Idx → EReal := begun (F := Ideal) (grid0.coords t) (stateAt m c t.val)

theorem beg_clear (c : Dev nD) (t : Fin grid0.N) (h : if t.val < 24 then fstOf (blk t.val) = 0 else fstOf (blk t.val) + 8 = len (seqOf (blk t.val))) :
    beg m c t = k0_pay1 (F := Ideal) := by
  unfold beg begun
  exact if_pos ((clr t).mpr h)
theorem beg_keep (c : Dev nD) (t : Fin grid0.N) (h : ¬ if t.val < 24 then fstOf (blk t.val) = 0 else fstOf (blk t.val) + 8 = len (seqOf (blk t.val))) :
    beg m c t = stateAt m c t.val := by
  unfold beg begun
  exact if_neg (fun h' => h ((clr t).mp h'))

theorem state_fwd (c : Dev nD) (t : Fin grid0.N) (h : t.val < 24) : stateAt m c (t.val + 1) = (blocksAt m c t).scrF (beg m c t) 32 := by
  rw [stateAt_succ]
  unfold leftS
  exact if_pos ((fwd t).mpr h)
theorem state_bwd (c : Dev nD) (t : Fin grid0.N) (h : ¬ t.val < 24) : stateAt m c (t.val + 1) = (blocksAt m c t).scrB (beg m c t) 32 := by
  rw [stateAt_succ]
  unfold leftS
  exact if_neg (fun h' => h ((fwd t).mp h'))

attribute [local irreducible] stateAt beg blocksAt Blocks.scrF Blocks.scrB

theorem beg_fwd (c : Dev nD) (n : ℕ) : ∀ (hn : n < 24), Holds (beg m c ⟨n, Nat.lt_trans hn (by decide)⟩) (stF (sqn (toks m c) (seqOf n)) (fstOf n)) := by
  induction n with
  | zero =>
    intro hn h d e
    rw [beg_clear m c ⟨0, by decide⟩ (by decide), pay1_at]
    rfl
  | succ n ih =>
    intro hn
    have hb : blk (n + 1) = n + 1 := if_pos hn
    have hb' : blk n = n := if_pos (by omega)
    by_cases h0 : fstOf (n + 1) = 0
    · intro h d e
      rw [beg_clear m c ⟨n + 1, Nat.lt_trans hn (by decide)⟩ (by rw [if_pos hn]; show fstOf (blk (n + 1)) = 0; rw [hb]; exact h0), pay1_at, h0]
      rfl
    · obtain ⟨-, hs, hf⟩ := fst_next ⟨n + 1, hn⟩ h0
      have hs : seqOf n = seqOf (n + 1) := hs
      have hf : fstOf n + 8 = fstOf (n + 1) := hf
      have R := reads_at m c ⟨n, Nat.lt_trans (Nat.lt_of_succ_lt hn) (by decide)⟩
      have R : Reads (blocksAt m c ⟨n, Nat.lt_trans (Nat.lt_of_succ_lt hn) (by decide)⟩) (sqn (toks m c) (seqOf (blk n))) (fstOf (blk n)) := R
      rw [hb'] at R
      have H := scrF_of R _ (ih (by omega)) 32 (by omega)
      rw [← state_fwd m c ⟨n, Nat.lt_trans (Nat.lt_of_succ_lt hn) (by decide)⟩ (Nat.lt_of_succ_lt hn)] at H
      rw [beg_keep m c ⟨n + 1, Nat.lt_trans hn (by decide)⟩ (by rw [if_pos hn]; show ¬ fstOf (blk (n + 1)) = 0; rw [hb]; exact h0)]
      intro h d e
      refine (H h d e).trans ?_
      beta_reduce
      have := h.isLt
      rw [show fstOf n + (32 + 3 - h.val) / 4 = fstOf (n + 1) by omega, hs]

/-- The backward points, by the number of them done. -/
theorem beg_bwd (c : Dev nD) (n : ℕ) : ∀ (hn : n < 24), Holds (beg m c ⟨24 + n, by show 24 + n < 48; omega⟩)
    (stB (sqn (toks m c) (seqOf (23 - n))) (len (seqOf (23 - n))) (len (seqOf (23 - n)) - (fstOf (23 - n) + 8))) := by
  induction n with
  | zero =>
    intro hn h d e
    rw [beg_clear m c ⟨24, by decide⟩ (by decide), pay1_at]
    rfl
  | succ n ih =>
    intro hn
    have hlt : 24 + (n + 1) < grid0.N := by show 24 + (n + 1) < 48; omega
    have hlt' : 24 + n < grid0.N := by show 24 + n < 48; omega
    have hb : blk (24 + (n + 1)) = 23 - (n + 1) := by unfold blk; rw [if_neg (by omega)]; omega
    have hb' : blk (24 + n) = 23 - n := by unfold blk; rw [if_neg (by omega)]; omega
    have hi : ¬ 24 + (n + 1) < 24 := by omega
    have hi' : ¬ 24 + n < 24 := by omega
    by_cases h0 : fstOf (23 - (n + 1)) + 8 = len (seqOf (23 - (n + 1)))
    · intro h d e
      rw [beg_clear m c ⟨24 + (n + 1), hlt⟩ (by rw [if_neg hi]; show fstOf (blk (24 + (n + 1))) + 8 = len (seqOf (blk (24 + (n + 1)))); rw [hb]; exact h0), pay1_at, h0, Nat.sub_self]
      rfl
    · obtain ⟨-, hs, hf⟩ := lst_next ⟨23 - (n + 1), by omega⟩ h0
      have e1 : 23 - (n + 1) + 1 = 23 - n := by omega
      have hs : seqOf (23 - n) = seqOf (23 - (n + 1)) := by rw [← e1]; exact hs
      have hf : fstOf (23 - n) = fstOf (23 - (n + 1)) + 8 := by rw [← e1]; exact hf
      have hl : fstOf (23 - n) + 8 ≤ len (seqOf (23 - n)) := fst_len ⟨23 - n, by omega⟩
      have R : Reads (blocksAt m c ⟨24 + n, hlt'⟩) (sqn (toks m c) (seqOf (blk (24 + n)))) (fstOf (blk (24 + n))) := reads_at m c ⟨24 + n, hlt'⟩
      rw [hb'] at R
      have H := scrB_of R _ hl _ (ih (by omega)) 32 (by omega)
      rw [← state_bwd m c ⟨24 + n, hlt'⟩ hi'] at H
      rw [beg_keep m c ⟨24 + (n + 1), hlt⟩ (by rw [if_neg hi]; show ¬ fstOf (blk (24 + (n + 1))) + 8 = len (seqOf (blk (24 + (n + 1)))); rw [hb]; exact h0)]
      intro h d e
      refine (H h d e).trans ?_
      beta_reduce
      have := h.isLt
      rw [hs] at hl ⊢
      rw [show len (seqOf (23 - (n + 1))) - (fstOf (23 - n) + 8) + (32 + 3 - h.val) / 4 = len (seqOf (23 - (n + 1))) - (fstOf (23 - (n + 1)) + 8) by omega]

/-- The token's part of `G`. -/
theorem G_at (P : S24576x19712.Idx → EReal) (a j r e : ℕ) (hj : j < 24) (hr : r < 1024) :
    G P a (j * 1024 + r) e = if a < 1 then Cert.RetSpec.oF (sqn P (seqOf j)) (fstOf j + r / 128) (r % 128) (e / 256) (e % 256)
      else Cert.RetSpec.oB (sqn P (seqOf j)) (len (seqOf j)) (fstOf j + r / 128) (r % 128) (e / 256) (e % 256) := by
  have h1 : (if j * 1024 + r < 16384 then 0 else 1 + (j * 1024 + r - 16384) / 2048) = seqOf j := by
    unfold seqOf
    by_cases h : j < 16
    · rw [if_pos h, if_pos (by omega)]
    · rw [if_neg h, if_neg (by omega)]; omega
  have h2 : (if j * 1024 + r < 16384 then j * 1024 + r else (j * 1024 + r - 16384) % 2048) = fstOf j * 128 + r := posOf_at j hj r hr
  unfold G
  dsimp only
  rw [h1, h2, show (fstOf j * 128 + r) / 128 = fstOf j + r / 128 by omega, show (fstOf j * 128 + r) % 128 = r % 128 by omega]

/-- The output block of point `t`. -/
theorem outAt_at (c : Dev nD) (t : Fin grid0.N) (r e : Fin 1024) :
    (outAt m c t : S1x1024x1024.Idx → EReal) (ix3 0 r e) = G (toks m c) (t.val / 24) (blk t.val * 1024 + r.val) e.val := by
  have ht : t.val < 48 := t.isLt
  have R := reads_at m c t
  rw [G_at _ _ _ _ _ (blk_lt t) r.isLt]
  by_cases h : t.val < 24
  · rw [if_pos (show t.val / 24 < 1 by omega)]
    have hb : blk t.val = t.val := if_pos h
    have e1 : outAt m c t = (blocksAt m c t).oF (beg m c t) := by
      unfold outAt leftO
      exact (if_pos ((fwd t).mpr h)).trans (by unfold beg; rfl)
    rw [e1]
    refine oF_of R _ ?_ r e
    rw [hb]
    exact beg_fwd m c t.val h
  · rw [if_neg (show ¬ t.val / 24 < 1 by omega)]
    have hb : blk t.val = 23 - (t.val - 24) := (if_neg h).trans (by omega)
    have e1 : outAt m c t = (blocksAt m c t).oB (beg m c t) := by
      unfold outAt leftO
      exact (if_neg (fun h' => h ((fwd t).mp h'))).trans (by unfold beg; rfl)
    rw [e1]
    refine oB_of R _ (fst_len ⟨blk t.val, blk_lt t⟩) _ ?_ r e
    have H := beg_bwd m c (t.val - 24) (by omega)
    rw [← hb] at H
    have et : (⟨24 + (t.val - 24), by show 24 + (t.val - 24) < 48; omega⟩ : Fin grid0.N) = t := Fin.ext (by show 24 + (t.val - 24) = t.val; omega)
    rw [et] at H
    exact H

end Cert.RetIdeal.RetValue
-- ==== Proof.RetValue.KernelRun.lean ====
/-
  The result array after the launch, from the blocks of its points.
-/
module

public import proofs.«01_k».proof.Proof.RetValue.Sweep
public import Idealize.ShloMosaic.Lib.Pipeline.Value

@[expose] public section

set_option maxRecDepth 16384

noncomputable section

namespace Cert.RetIdeal.RetValue

open Cert.RetIdeal Cert.RetIdeal.Gen Cert.RetIdeal.Hand
open Idealize.ShloMosaic Idealize.ShloMosaic.TcCoe Idealize.SL.Sem
open Idealize.ShloMosaic.Pipeline (Dat)
open Cert.RetSpec

variable (m : (ℓ : Loc nD τ sig) → Buf (Elt Ideal) ℓ) (ρ : Dev nD → PrngReg)

/-- The result array's contents at the tokens in memory. -/
def res (P : S24576x19712.Idx → EReal) : S2x24576x1024.Idx → EReal := fun i => G P (i 0).val (i 1).val (i 2).val
def val (c : Dev nD) : Buf (Elt Ideal) ((c : Thread nD τ).loc main_v80) := res (toks m c)

theorem dir_lt (t : Fin grid0.N) : t.val / 24 < 2 := by
  have : t.val < 48 := t.isLt
  omega

theorem emb7 (t : Fin grid0.N) (r e : Fin 1024) :
    (((cfgM (F := Ideal)).win 7).blk t).view.emb (ix3 0 r e) = ix3 ⟨t.val / 24, dir_lt t⟩ ⟨blk t.val * 1024 + r.val, row_lt t r⟩ e := by
  obtain ⟨e0, e1, e2⟩ := ix_7 t
  funext a; apply Fin.ext
  match a with
  | ⟨0, _⟩ => show cc0_transform_7 (grid0.coords t) 0 * 1 + 1 * 0 = t.val / 24; omega
  | ⟨1, _⟩ => show cc0_transform_7 (grid0.coords t) 1 * 1024 + 1 * r.val = blk t.val * 1024 + r.val; omega
  | ⟨2, _⟩ => show cc0_transform_7 (grid0.coords t) 2 * 1024 + 1 * e.val = e.val; omega

theorem moves7 : ∀ t : Fin grid0.N, (t.val + 1 = grid0.N || decide (∃ h : t.val + 1 < grid0.N, cc0_transform_7 (grid0.coords ⟨t.val + 1, h⟩) ≠ cc0_transform_7 (grid0.coords t))) = true := by
  decide +kernel
theorem flush7 (t : Fin (cfgM (F := Ideal)).N) : ((cfgM (F := Ideal)).win 7).flush t = true := moves7 t

attribute [local irreducible] outAt G

theorem flushed_eq (c : Dev nD) (t : Fin (cfgM (F := Ideal)).N) :
    (dats m 0 c).flushed 7 t = (((cfgM (F := Ideal)).win 7).blk t).view.read (Elt Ideal) (val m c) := by
  funext j
  obtain ⟨r, e, rfl⟩ : ∃ (r e : Fin 1024), j = ix3 0 r e := ⟨j 1, j 2, by
    funext a
    match a with
    | ⟨0, _⟩ => exact Fin.ext (Nat.lt_one_iff.mp (j 0).isLt)
    | ⟨1, _⟩ => rfl
    | ⟨2, _⟩ => rfl⟩
  show (outAt m c t : S1x1024x1024.Idx → EReal) (ix3 0 r e) = val m c ((((cfgM (F := Ideal)).win 7).blk t).view.emb (ix3 0 r e))
  rw [emb7]
  exact outAt_at m c t r e

theorem cover (i : S2x24576x1024.Idx) :
    ∃ t : Fin (cfgM (F := Ideal)).N, ((cfgM (F := Ideal)).win 7).flush t = true ∧ i ∈ (((cfgM (F := Ideal)).win 7).blk t).view.set := by
  have h0 : (i 0).val < 2 := (i 0).isLt
  have h1 : (i 1).val < 24576 := (i 1).isLt
  obtain ⟨t, ht, hb⟩ : ∃ t : Fin grid0.N, t.val / 24 = (i 0).val ∧ blk t.val = (i 1).val / 1024 := by
    by_cases h : (i 0).val = 0
    · refine ⟨⟨(i 1).val / 1024, by show _ < 48; omega⟩, ?_, ?_⟩
      · show (i 1).val / 1024 / 24 = _; omega
      · show blk ((i 1).val / 1024) = _; unfold blk; rw [if_pos (by omega)]
    · refine ⟨⟨47 - (i 1).val / 1024, by show _ < 48; omega⟩, ?_, ?_⟩
      · show (47 - (i 1).val / 1024) / 24 = _; omega
      · show blk (47 - (i 1).val / 1024) = _; unfold blk; rw [if_neg (by omega)]; omega
  refine ⟨t, flush7 t, ?_⟩
  have e : (((cfgM (F := Ideal)).win 7).blk t).view.emb (ix3 0 (⟨(i 1).val % 1024, Nat.mod_lt _ (by decide)⟩ : Fin 1024) (i 2)) = i := by
    refine (emb7 t _ _).trans (funext fun a => ?_)
    match a with
    | ⟨0, _⟩ => exact Fin.ext ht
    | ⟨1, _⟩ => exact Fin.ext (by show blk t.val * 1024 + (i 1).val % 1024 = (i 1).val; omega)
    | ⟨2, _⟩ => rfl
  have h := (((cfgM (F := Ideal)).win 7).blk t).view.emb_mem_set (ix3 0 (⟨(i 1).val % 1024, Nat.mod_lt _ (by decide)⟩ : Fin 1024) (i 2))
  rwa [e] at h

/-- The result array after the run. -/
theorem final (c : Dev nD) : (dats m 0 c).arrAt 7 (cfgM (F := Ideal)).N = val m c :=
  (dats m 0 c).arrAt_eq_of_cover 7 (val m c) (fun t _ => flushed_eq m c t) cover

/-- The run, read: the result array at `val`, the argument unchanged. -/
theorem run : θ_run defs (onTc (τ := τ) (main (F := Ideal))) ⟨m, fun _ => 0, ρ⟩ fun r => ∀ c : Dev nD,
      r.2.mem ((c : Thread nD τ).loc main_v80) = val m c
      ∧ r.2.mem ((c : Thread nD τ).loc main_arg0) = m ((c : Thread nD τ).loc main_arg0) :=
  (θ_run defs _ _).mono (fun _ h c => ⟨((h c).1 7).trans (final m c),
    ((h c).1 0).trans (((dats m 0 c).arrAt_in 0 rfl _).trans ((A_eq m c 0).trans (V_main_arg0 m c)))⟩) (run_main m ρ)

end Cert.RetIdeal.RetValue
-- ==== Proof.RetValue.RefLoop.lean ====
/-
  The reference's loop: what each trip makes of the carried buffers, and what they hold after `k` trips.
-/
module

public import proofs.«01_k».proof.Proof.Gen.RetRefIdeal.Run
public import Idealize.ShloMosaic.Lib.Pointwise
public import Idealize.ShloMosaic.Lib.DynamicIndex
public import Idealize.ShloMosaic.Lib.Pipeline.Value

@[expose] public section

set_option maxRecDepth 16384

noncomputable section

namespace Cert.RetRefIdeal.RefValue

open Cert.RetRefIdeal Cert.RetRefIdeal.Gen Cert.RetRefIdeal.Value
open Idealize.ShloMosaic Idealize.ShloMosaic.TcCoe
open Idealize.ShloMosaic.StableHlo

/-- The carried buffers' contents. -/
abbrev c0 (V : Valuation τ sig (Elt Ideal)) : S128x5x128x4x256.Idx → EReal := V (Proc.devRef .tc main_v159_0)
abbrev c1 (V : Valuation τ sig (Elt Ideal)) : S128x5x128x4x128.Idx → EReal := V (Proc.devRef .tc main_v159_1)
abbrev c2 (V : Valuation τ sig (Elt Ideal)) : S128x5x4x128x256.Idx → EReal := V (Proc.devRef .tc main_v159_2)
abbrev c3 (V : Valuation τ sig (Elt Ideal)) : S128x5x128x4x128.Idx → EReal := V (Proc.devRef .tc main_v159_3)
abbrev c4 (V : Valuation τ sig (Elt Ideal)) : S128x5x4x128x256.Idx → EReal := V (Proc.devRef .tc main_v159_4)
abbrev c5 (V : Valuation τ sig (Elt Ideal)) : S1x4x1x1.Idx → EReal := V (Proc.devRef .tc main_v159_5)
abbrev c6 (V : Valuation τ sig (Elt Ideal)) : S_.Idx → BitVec 32 := V (Proc.devRef .tc main_v159_6)
abbrev c7 (V : Valuation τ sig (Elt Ideal)) : S5x4x128x256.Idx → EReal := V (Proc.devRef .tc main_v159_7)
abbrev c8 (V : Valuation τ sig (Elt Ideal)) : S5x4x128x256.Idx → EReal := V (Proc.devRef .tc main_v159_8)
abbrev c9 (V : Valuation τ sig (Elt Ideal)) : S128x5x128x4x256.Idx → EReal := V (Proc.devRef .tc main_v159_9)
abbrev c10 (V : Valuation τ sig (Elt Ideal)) : S128x5x128x4x256.Idx → EReal := V (Proc.devRef .tc main_v159_10)

/-- The start of a trip's slices: the counter, then zeros. -/
theorem start_eq (w : S_.Idx → BitVec 32) (k : ℕ) (hk : k < 128) (hw : w = fun _ => BitVec.ofNat 32 k) (a : Fin 5) :
    (((![w, constantI S_ 32 0#32, constantI S_ 32 0#32, constantI S_ 32 0#32, constantI S_ 32 0#32] : Fin 5 → (⟨S_, .i32⟩ : BufTy).Contents (Elt Ideal))) a (Shape.Idx.first h_S_)).toInt
      = ((![k, 0, 0, 0, 0] : Fin 5 → ℕ) a : ℤ) := by
  subst hw
  fin_cases a
  · exact toInt_ofNat_of_lt (by omega)
  all_goals rfl

theorem slA (k : ℕ) (hk : k < 128) : S128x5x4x128x256.Slices ![k, 0, 0, 0, 0] S1x5x4x128x256 :=
  ⟨rfl, fun a => match a with
    | ⟨0, _⟩ => show k + 1 ≤ 128 by omega
    | ⟨1, _⟩ => show 0 + 5 ≤ 5 by decide
    | ⟨2, _⟩ => show 0 + 4 ≤ 4 by decide
    | ⟨3, _⟩ => show 0 + 128 ≤ 128 by decide
    | ⟨4, _⟩ => show 0 + 256 ≤ 256 by decide
  ⟩
theorem slB (k : ℕ) (hk : k < 128) : S128x5x128x4x256.Slices ![k, 0, 0, 0, 0] S1x5x128x4x256 :=
  ⟨rfl, fun a => match a with
    | ⟨0, _⟩ => show k + 1 ≤ 128 by omega
    | ⟨1, _⟩ => show 0 + 5 ≤ 5 by decide
    | ⟨2, _⟩ => show 0 + 128 ≤ 128 by decide
    | ⟨3, _⟩ => show 0 + 4 ≤ 4 by decide
    | ⟨4, _⟩ => show 0 + 256 ≤ 256 by decide
  ⟩
theorem slC (k : ℕ) (hk : k < 128) : S128x5x128x4x128.Slices ![k, 0, 0, 0, 0] S1x5x128x4x128 :=
  ⟨rfl, fun a => match a with
    | ⟨0, _⟩ => show k + 1 ≤ 128 by omega
    | ⟨1, _⟩ => show 0 + 5 ≤ 5 by decide
    | ⟨2, _⟩ => show 0 + 128 ≤ 128 by decide
    | ⟨3, _⟩ => show 0 + 4 ≤ 4 by decide
    | ⟨4, _⟩ => show 0 + 128 ≤ 128 by decide
  ⟩

/-- An update by one chunk at chunk `k`. -/
def put (x : S128x5x128x4x256.Idx → EReal) (u : S1x5x128x4x256.Idx → EReal) (k : ℕ) : S128x5x128x4x256.Idx → EReal :=
  fun j => if (j 0).val = k then u (ix5 0 (j 1) (j 2) (j 3) (j 4)) else x j

theorem put_in (x u) (k : ℕ) (hk : k < 128) (b : Fin 5) (i : Fin 128) (h : Fin 4) (e : Fin 256) :
    put x u k (ix5 ⟨k, hk⟩ b i h e) = u (ix5 0 b i h e) := if_pos rfl
theorem put_out (x u) (k : ℕ) (n : Fin 128) (b : Fin 5) (i : Fin 128) (h : Fin 4) (e : Fin 256) (hn : n.val ≠ k) :
    put x u k (ix5 n b i h e) = x (ix5 n b i h e) := if_neg hn

theorem upd (x : S128x5x128x4x256.Idx → EReal) (u : S1x5x128x4x256.Idx → EReal) (k : ℕ) (hk : k < 128) (start : Fin 5 → ℤ)
    (hs : ∀ a, start a = ((![k, 0, 0, 0, 0] : Fin 5 → ℕ) a : ℤ)) {h} :
    Host.dynamicUpdateSlice x u start h = put x u k := by
  rw [Host.dynamicUpdateSlice_eq_updateSlice x u start h ![k, 0, 0, 0, 0] (fun a => by
    rw [hs]
    match a with
    | ⟨0, _⟩ => show (min (max (k : ℤ) 0) ((128 - 1 : ℕ) : ℤ)).toNat = k; omega
    | ⟨1, _⟩ => rfl
    | ⟨2, _⟩ => rfl
    | ⟨3, _⟩ => rfl
    | ⟨4, _⟩ => rfl) (slB k hk)]
  funext j
  by_cases hn : (j 0).val = k
  · refine (dif_pos fun a => ?_).trans ((congrArg u (funext fun a => Fin.ext ?_)).trans (if_pos hn).symm)
    · match a with
      | ⟨0, _⟩ => show k ≤ (j 0).val ∧ (j 0).val < k + 1; omega
      | ⟨1, _⟩ => show 0 ≤ (j 1).val ∧ (j 1).val < 0 + 5; have := (j 1).isLt; exact ⟨Nat.zero_le _, by rw [Nat.zero_add]; exact this⟩
      | ⟨2, _⟩ => show 0 ≤ (j 2).val ∧ (j 2).val < 0 + 128; have := (j 2).isLt; exact ⟨Nat.zero_le _, by rw [Nat.zero_add]; exact this⟩
      | ⟨3, _⟩ => show 0 ≤ (j 3).val ∧ (j 3).val < 0 + 4; have := (j 3).isLt; exact ⟨Nat.zero_le _, by rw [Nat.zero_add]; exact this⟩
      | ⟨4, _⟩ => show 0 ≤ (j 4).val ∧ (j 4).val < 0 + 256; have := (j 4).isLt; exact ⟨Nat.zero_le _, by rw [Nat.zero_add]; exact this⟩
    · match a with
      | ⟨0, _⟩ => show (j 0).val - k = 0; omega
      | ⟨1, _⟩ => rfl
      | ⟨2, _⟩ => rfl
      | ⟨3, _⟩ => rfl
      | ⟨4, _⟩ => rfl
  · refine (dif_neg fun hin => hn ?_).trans (if_neg hn).symm
    have h0 : k ≤ (j 0).val ∧ (j 0).val < k + 1 := hin 0
    omega

section

variable (V : Valuation τ sig (Elt Ideal)) (k : ℕ) (hk : k < 128)
  (hc : c6 V = fun _ => BitVec.ofNat 32 k)

include hc in
theorem step6 : (step_main_v159_6 V : S_.Idx → BitVec 32) = fun _ => BitVec.ofNat 32 (k + 1) := by
  funext i
  unfold step_main_v159_6
  show c6 V i + 1#32 = _
  rw [hc]
  exact (BitVec.ofNat_add k 1).symm

include hk hc in
theorem step7 (b : Fin 5) (h : Fin 4) (d : Fin 128) (e : Fin 256) :
    (step_main_v159_7 V : S5x4x128x256.Idx → EReal) (ix4 b h d e)
      = c5 V (ix4 0 h 0 0) * c7 V (ix4 b h d e)
        + c2 V (ix5 ⟨k, hk⟩ b h d e) := by
  unfold step_main_v159_7
  rw [Host.dynamicSlice_eq_extractStridedSlice _ _ _ ![k, 0, 0, 0, 0] _ (slA k hk) (start_eq (c6 V) k hk hc)]
  simp only [id]
  pointwise
  done

include hk hc in
theorem step8 (b : Fin 5) (h : Fin 4) (d : Fin 128) (e : Fin 256) :
    (step_main_v159_8 V : S5x4x128x256.Idx → EReal) (ix4 b h d e)
      = c5 V (ix4 0 h 0 0) * c8 V (ix4 b h d e) + c4 V (ix5 ⟨k, hk⟩ b h d e) := by
  unfold step_main_v159_8
  rw [Host.dynamicSlice_eq_extractStridedSlice _ _ _ ![k, 0, 0, 0, 0] _ (slA k hk) (start_eq (c6 V) k hk hc)]
  simp only [id]
  pointwise
  done

include hk hc in
theorem step9 (n : Fin 128) (b : Fin 5) (i : Fin 128) (h : Fin 4) (e : Fin 256) :
    (step_main_v159_9 V : S128x5x128x4x256.Idx → EReal) (ix5 n b i h e)
      = if n.val = k then c0 V (ix5 n b i h e) + ∑ d : Fin 128, c7 V (ix4 b h d e) * c1 V (ix5 n b i h d)
        else c9 V (ix5 n b i h e) := by
  unfold step_main_v159_9
  refine (congrFun (upd (c9 V) _ k hk _ (start_eq (c6 V) k hk hc)) _).trans ?_
  by_cases hn : n.val = k
  · subst hn
    refine (put_in (c9 V) _ n.val hk b i h e).trans ((?_ : _ = _).trans (if_pos rfl).symm)
    rw [Host.dynamicSlice_eq_extractStridedSlice _ (V (Proc.devRef .tc main_v159_0)) _ ![n.val, 0, 0, 0, 0] _ (slB n.val hk) (start_eq (c6 V) n.val hk hc),
      Host.dynamicSlice_eq_extractStridedSlice _ (V (Proc.devRef .tc main_v159_1)) _ ![n.val, 0, 0, 0, 0] _ (slC n.val hk) (start_eq (c6 V) n.val hk hc)]
    pointwise
  · exact (put_out (c9 V) _ k n b i h e hn).trans (if_neg hn).symm

include hk hc in
theorem step10 (n : Fin 128) (b : Fin 5) (i : Fin 128) (h : Fin 4) (e : Fin 256) :
    (step_main_v159_10 V : S128x5x128x4x256.Idx → EReal) (ix5 n b i h e)
      = if n.val = k then ∑ d : Fin 128, c8 V (ix4 b h d e) * c3 V (ix5 n b i h d)
        else c10 V (ix5 n b i h e) := by
  unfold step_main_v159_10
  refine (congrFun (upd (c10 V) _ k hk _ (start_eq (c6 V) k hk hc)) _).trans ?_
  by_cases hn : n.val = k
  · subst hn
    refine (put_in (c10 V) _ n.val hk b i h e).trans ((?_ : _ = _).trans (if_pos rfl).symm)
    rw [Host.dynamicSlice_eq_extractStridedSlice _ (V (Proc.devRef .tc main_v159_3)) _ ![n.val, 0, 0, 0, 0] _ (slC n.val hk) (start_eq (c6 V) n.val hk hc)]
    pointwise
  · exact (put_out (c10 V) _ k n b i h e hn).trans (if_neg hn).symm

end

/-- The state before trip `n`: the decayed earlier one and a chunk's addition. -/
def acc (g : S1x4x1x1.Idx → EReal) (kv : S128x5x4x128x256.Idx → EReal) : ℕ → S5x4x128x256.Idx → EReal
  | 0, _ => 0
  | n + 1, j => if hn : n < 128 then g (ix4 0 (j 1) 0 0) * acc g kv n j + kv (ix5 ⟨n, hn⟩ (j 0) (j 1) (j 2) (j 3)) else 0

/-- After `k` trips: the counter, the states, the outputs of the first `k` chunks; the rest unchanged. -/
structure After (V0 W : Valuation τ sig (Elt Ideal)) (k : ℕ) : Prop where
  e0 : c0 W = c0 V0
  e1 : c1 W = c1 V0
  e2 : c2 W = c2 V0
  e3 : c3 W = c3 V0
  e4 : c4 W = c4 V0
  e5 : c5 W = c5 V0
  e6 : c6 W = fun _ => BitVec.ofNat 32 k
  e7 : c7 W = acc (c5 V0) (c2 V0) k
  e8 : c8 W = acc (c5 V0) (c4 V0) k
  e9 : ∀ (n : Fin 128) (b : Fin 5) (i : Fin 128) (h : Fin 4) (e : Fin 256), n.val < k → c9 W (ix5 n b i h e)
    = c0 V0 (ix5 n b i h e) + ∑ d : Fin 128, acc (c5 V0) (c2 V0) n.val (ix4 b h d e) * c1 V0 (ix5 n b i h d)
  e10 : ∀ (n : Fin 128) (b : Fin 5) (i : Fin 128) (h : Fin 4) (e : Fin 256), n.val < k → c10 W (ix5 n b i h e)
    = ∑ d : Fin 128, acc (c5 V0) (c4 V0) n.val (ix4 b h d e) * c3 V0 (ix5 n b i h d)

theorem After.step {V0 W : Valuation τ sig (Elt Ideal)} {k : ℕ} (hk : k < 128) (A : After V0 W k) : After V0 (STEP W) (k + 1) where
  e0 := (STEP_main_v159_0 W).trans A.e0
  e1 := (STEP_main_v159_1 W).trans A.e1
  e2 := (STEP_main_v159_2 W).trans A.e2
  e3 := (STEP_main_v159_3 W).trans A.e3
  e4 := (STEP_main_v159_4 W).trans A.e4
  e5 := (STEP_main_v159_5 W).trans A.e5
  e6 := (STEP_main_v159_6 W).trans (step6 W k A.e6)
  e7 := (STEP_main_v159_7 W).trans (funext fun j => by
    rw [eq_ix4 j]
    refine (step7 W k hk A.e6 _ _ _ _).trans ?_
    rw [A.e5, A.e7, A.e2]
    rw [acc, dif_pos hk]; rfl)
  e8 := (STEP_main_v159_8 W).trans (funext fun j => by
    rw [eq_ix4 j]
    refine (step8 W k hk A.e6 _ _ _ _).trans ?_
    rw [A.e5, A.e8, A.e4]
    rw [acc, dif_pos hk]; rfl)
  e9 n b i h e hn := by
    refine (congrFun (STEP_main_v159_9 W) _).trans ((step9 W k hk A.e6 n b i h e).trans ?_)
    by_cases hnk : n.val = k
    · rw [if_pos hnk, A.e0, A.e7, A.e1, hnk]
    · rw [if_neg hnk]
      exact A.e9 n b i h e (by omega)
  e10 n b i h e hn := by
    refine (congrFun (STEP_main_v159_10 W) _).trans ((step10 W k hk A.e6 n b i h e).trans ?_)
    by_cases hnk : n.val = k
    · rw [if_pos hnk, A.e8, A.e3, hnk]
    · rw [if_neg hnk]
      exact A.e10 n b i h e (by omega)

theorem after_iterate (V0 : Valuation τ sig (Elt Ideal)) (h6 : c6 V0 = fun _ => BitVec.ofNat 32 0) (h7 : c7 V0 = fun _ => 0) (h8 : c8 V0 = fun _ => 0) :
    ∀ k, k ≤ 128 → After V0 (STEP^[k] V0) k
  | 0, _ => ⟨rfl, rfl, rfl, rfl, rfl, rfl, h6, h7, h8, fun n _ _ _ _ hn => absurd hn (Nat.not_lt_zero _), fun n _ _ _ _ hn => absurd hn (Nat.not_lt_zero _)⟩
  | k + 1, hk => by
    rw [Function.iterate_succ_apply']
    exact (after_iterate V0 h6 h7 h8 k (by omega)).step (by omega)

/-- The prompt's outputs, and the samples', from the outputs over chunks. -/
def prm (y : S128x5x128x4x256.Idx → EReal) : S16384x1024.Idx → EReal :=
  shapeCast S16384x1024 (shapeCast S128x128x4x256 (extractStridedSlice S1x128x128x4x256 ![0, 0, 0, 0, 0] (transpose S5x128x128x4x256 [1, 0, 2, 3, 4] y transposes_S128x5x128x4x256_S5x128x128x4x256_1_0_2_3_4) slices_S5x128x128x4x256_S1x128x128x4x256_0_0_0_0_0) shapeCasts_S1x128x128x4x256_S128x128x4x256) shapeCasts_S128x128x4x256_S16384x1024
def smp (y : S128x5x128x4x256.Idx → EReal) : S8192x1024.Idx → EReal :=
  shapeCast S8192x1024 (extractStridedSlice S4x16x128x4x256 ![1, 0, 0, 0, 0] (transpose S5x128x128x4x256 [1, 0, 2, 3, 4] y transposes_S128x5x128x4x256_S5x128x128x4x256_1_0_2_3_4) slices_S5x128x128x4x256_S4x16x128x4x256_1_0_0_0_0) shapeCasts_S4x16x128x4x256_S8192x1024
def cat4 (y0 y2 : S16384x1024.Idx → EReal) (y1 y3 : S8192x1024.Idx → EReal) : S49152x1024.Idx → EReal :=
  concatenate S49152x1024 0 [⟨S16384x1024, y0⟩, ⟨S8192x1024, y1⟩, ⟨S16384x1024, y2⟩, ⟨S8192x1024, y3⟩] concatenates_S16384x1024_S8192x1024_S16384x1024_S8192x1024_S49152x1024_d0
def rev (y : S128x5x128x4x256.Idx → EReal) : S128x5x128x4x256.Idx → EReal := Host.reverse [0] y

theorem prm_at (y) (t : Fin 16384) (e : Fin 1024) :
    prm y (ix2 t e) = y (ix5 ⟨t.val / 128, by omega⟩ 0 ⟨t.val % 128, by omega⟩ ⟨e.val / 256, by omega⟩ ⟨e.val % 256, by omega⟩) := by
  unfold prm
  pointwise
theorem smp_at (y) (t : Fin 8192) (e : Fin 1024) :
    smp y (ix2 t e) = y (ix5 ⟨t.val / 128 % 16, by omega⟩ ⟨1 + t.val / 2048, by omega⟩ ⟨t.val % 128, by omega⟩ ⟨e.val / 256, by omega⟩ ⟨e.val % 256, by omega⟩) := by
  unfold smp
  pointwise
theorem cat4_at (y0 y2 y1 y3) (t : Fin 49152) (e : Fin 1024) : cat4 y0 y2 y1 y3 (ix2 t e)
    = if h : t.val < 16384 then y0 (ix2 ⟨t.val, h⟩ e)
      else if h : t.val - 16384 < 8192 then y1 (ix2 ⟨t.val - 16384, h⟩ e)
      else if h : t.val - 16384 - 8192 < 16384 then y2 (ix2 ⟨t.val - 16384 - 8192, h⟩ e)
      else y3 (ix2 ⟨t.val - 16384 - 8192 - 16384, by omega⟩ e) := by
  unfold cat4
  pointwise
theorem rev_at (y) (n : Fin 128) (b : Fin 5) (i : Fin 128) (h : Fin 4) (e : Fin 256) : rev y (ix5 n b i h e) = y (ix5 n.rev b i h e) := by
  unfold rev
  pointwise
  rfl

theorem out_cat (W : Valuation τ sig (Elt Ideal)) :
    (out_main_v175 W : S2x24576x1024.Idx → EReal)
      = shapeCast S2x24576x1024 (cat4 (prm (c9 W)) (prm (rev (c10 W))) (smp (c9 W)) (smp (rev (c10 W)))) shapeCasts_S49152x1024_S2x24576x1024 := rfl

/-- The result, from the stacked outputs. -/
theorem out_at (W : Valuation τ sig (Elt Ideal)) (F B : ℕ → ℕ → ℕ → ℕ → ℕ → EReal)
    (h9 : ∀ (n : Fin 128) (b : Fin 5) (i : Fin 128) (h : Fin 4) (e : Fin 256), c9 W (ix5 n b i h e) = F n.val b.val i.val h.val e.val)
    (h10 : ∀ (n : Fin 128) (b : Fin 5) (i : Fin 128) (h : Fin 4) (e : Fin 256), c10 W (ix5 n b i h e) = B n.val b.val i.val h.val e.val)
    (a : Fin 2) (t : Fin 24576) (e : Fin 1024) :
    (out_main_v175 W : S2x24576x1024.Idx → EReal) (ix3 a t e)
      = if a.val < 1 then F ((if t.val < 16384 then t.val else (t.val - 16384) % 2048) / 128) (if t.val < 16384 then 0 else 1 + (t.val - 16384) / 2048)
            ((if t.val < 16384 then t.val else (t.val - 16384) % 2048) % 128) (e.val / 256) (e.val % 256)
        else B (127 - (if t.val < 16384 then t.val else (t.val - 16384) % 2048) / 128) (if t.val < 16384 then 0 else 1 + (t.val - 16384) / 2048)
            ((if t.val < 16384 then t.val else (t.val - 16384) % 2048) % 128) (e.val / 256) (e.val % 256) := by
  rw [out_cat]
  have hcast : shapeCast S2x24576x1024 (cat4 (prm (c9 W)) (prm (rev (c10 W))) (smp (c9 W)) (smp (rev (c10 W)))) shapeCasts_S49152x1024_S2x24576x1024 (ix3 a t e)
      = cat4 (prm (c9 W)) (prm (rev (c10 W))) (smp (c9 W)) (smp (rev (c10 W))) (ix2 ⟨a.val * 24576 + t.val, by omega⟩ e) := by
    generalize cat4 (prm (c9 W)) (prm (rev (c10 W))) (smp (c9 W)) (smp (rev (c10 W))) = y
    pointwise
  rw [hcast, cat4_at]
  by_cases ha : a.val < 1
  · have ha0 : a.val = 0 := by omega
    rw [if_pos ha]
    by_cases ht : t.val < 16384
    · rw [dif_pos (by show a.val * 24576 + t.val < 16384; omega), prm_at, h9, if_pos ht, if_pos ht]
      simp only [ha0, Nat.zero_mul, Nat.zero_add]
      rfl
    · rw [dif_neg (by show ¬ a.val * 24576 + t.val < 16384; omega), dif_pos (by show a.val * 24576 + t.val - 16384 < 8192; omega), smp_at, h9, if_neg ht, if_neg ht]
      have e1 : (t.val - 16384) / 128 % 16 = (t.val - 16384) % 2048 / 128 := by omega
      have e2 : (t.val - 16384) % 128 = (t.val - 16384) % 2048 % 128 := by omega
      simp only [ha0, Nat.zero_mul, Nat.zero_add, e1, e2]
  · have ha1 : a.val = 1 := by omega
    have e0 : a.val * 24576 + t.val - 16384 - 8192 = t.val := by omega
    rw [if_neg ha]
    by_cases ht : t.val < 16384
    · rw [dif_neg (by show ¬ a.val * 24576 + t.val < 16384; omega), dif_neg (by show ¬ a.val * 24576 + t.val - 16384 < 8192; omega),
        dif_pos (by show a.val * 24576 + t.val - 16384 - 8192 < 16384; omega), prm_at, rev_at, h10, if_pos ht, if_pos ht]
      have e3 : ∀ h, (Fin.rev (⟨t.val / 128, h⟩ : Fin 128)).val = 127 - t.val / 128 := fun h => by rw [Fin.val_rev]; simp only; omega
      simp only [e0, e3]
      rfl
    · rw [dif_neg (by show ¬ a.val * 24576 + t.val < 16384; omega), dif_neg (by show ¬ a.val * 24576 + t.val - 16384 < 8192; omega),
        dif_neg (by show ¬ a.val * 24576 + t.val - 16384 - 8192 < 16384; omega), smp_at, rev_at, h10, if_neg ht, if_neg ht]
      have e1 : (t.val - 16384) / 128 % 16 = (t.val - 16384) % 2048 / 128 := by omega
      have e2 : (t.val - 16384) % 128 = (t.val - 16384) % 2048 % 128 := by omega
      have e3 : ∀ h, (Fin.rev (⟨(t.val - 16384) % 2048 / 128, h⟩ : Fin 128)).val = 127 - (t.val - 16384) % 2048 / 128 := fun h => by rw [Fin.val_rev]; simp only; omega
      simp only [e0, e1, e2, e3]

end Cert.RetRefIdeal.RefValue
-- ==== Proof.RetValue.RefEntry.lean ====
/-
  What the reference's loop begins with: the chunks' queries, keys and values, the decays, the products, each plainly.
-/
module

public import proofs.«01_k».proof.Proof.RetValue.RefLoop
public import proofs.«01_k».proof.Proof.RetValue.Spec
public import Idealize.ShloMosaic.Lib.StableHlo.RunRead
public import Idealize.ShloMosaic.Lib.StableHlo.RunClose

@[expose] public section

set_option maxRecDepth 16384

noncomputable section

namespace Cert.RetRefIdeal.RefValue

open Cert.RetRefIdeal Cert.RetRefIdeal.Gen Cert.RetRefIdeal.Value
open Idealize.ShloMosaic Idealize.ShloMosaic.TcCoe
open Idealize.ShloMosaic.StableHlo
open Cert.RetSpec

/-- The angles. -/
def angT : S16384x64.Idx → EReal :=
  mulf (F := Ideal) (φ := .f32) (broadcastInDim S16384x64 ![0, 1] bcast_S16384x1_S16384x64_0_1 (broadcastInDim S16384x1 ![0] bcast_S16384_S16384x1_0 (sitofp (F := Ideal) .f32 (iotaInDim S16384 32 0))))
    (broadcastInDim S16384x64 ![0, 1] bcast_S1x64_S16384x64_0_1 (broadcastInDim S1x64 ![1] bcast_S64_S1x64_1
      (Host.powf (F := Ideal) (φ := .f32) (broadcastInDim S64 ![] bcast_S_S64 (constant (F := Ideal) S_ .f32 0x461C4000#32))
        (Host.divf (F := Ideal) (φ := .f32) (Host.negf (F := Ideal) (φ := .f32) (sitofp (F := Ideal) .f32 (iotaInDim S64 32 0))) (broadcastInDim S64 ![] bcast_S_S64 (constant (F := Ideal) S_ .f32 0x42800000#32))))))
/-- A table over the heads, from one over positions and pairs. -/
def bT (a : S16384x64.Idx → EReal) : S5x16384x4x64.Idx → EReal :=
  broadcastInDim S5x16384x4x64 ![0, 1, 2, 3] bcast_S1x16384x1x64_S5x16384x4x64_0_1_2_3 (broadcastInDim S1x16384x1x64 ![1, 3] bcast_S16384x64_S1x16384x1x64_1_3 a)
/-- The rotation of heads' columns. -/
def ropeT (x : S5x16384x4x128.Idx → EReal) (c s : S5x16384x4x64.Idx → EReal) : S5x16384x4x128.Idx → EReal :=
  concatenate S5x16384x4x128 3
    [⟨S5x16384x4x64, subf (F := Ideal) (φ := .f32) (mulf (F := Ideal) (φ := .f32) (extractStridedSlice S5x16384x4x64 ![0, 0, 0, 0] x slices_S5x16384x4x128_S5x16384x4x64_0_0_0_0) c)
        (mulf (F := Ideal) (φ := .f32) (extractStridedSlice S5x16384x4x64 ![0, 0, 0, 64] x slices_S5x16384x4x128_S5x16384x4x64_0_0_0_64) s)⟩,
     ⟨S5x16384x4x64, addf (F := Ideal) (φ := .f32) (mulf (F := Ideal) (φ := .f32) (extractStridedSlice S5x16384x4x64 ![0, 0, 0, 0] x slices_S5x16384x4x128_S5x16384x4x64_0_0_0_0) s)
        (mulf (F := Ideal) (φ := .f32) (extractStridedSlice S5x16384x4x64 ![0, 0, 0, 64] x slices_S5x16384x4x128_S5x16384x4x64_0_0_0_64) c)⟩]
    concatenates_S5x16384x4x64_S5x16384x4x64_S5x16384x4x128_d3
def q8 (x : S5x16384x19712.Idx → EReal) : S5x16384x4x128.Idx → EReal :=
  shapeCast S5x16384x4x128 (extractStridedSlice S5x16384x512 ![0, 0, 18432] x slices_S5x16384x19712_S5x16384x512_0_0_18432) shapeCasts_S5x16384x512_S5x16384x4x128
def k8 (x : S5x16384x19712.Idx → EReal) : S5x16384x4x128.Idx → EReal :=
  shapeCast S5x16384x4x128 (extractStridedSlice S5x16384x512 ![0, 0, 18944] x slices_S5x16384x19712_S5x16384x512_0_0_18944) shapeCasts_S5x16384x512_S5x16384x4x128
def qC (x : S5x16384x19712.Idx → EReal) : S5x128x128x4x128.Idx → EReal :=
  shapeCast S5x128x128x4x128 (ropeT (q8 x) (bT (Host.cos (F := Ideal) (φ := .f32) angT)) (bT (Host.sin (F := Ideal) (φ := .f32) angT))) shapeCasts_S5x16384x4x128_S5x128x128x4x128
def kC (x : S5x16384x19712.Idx → EReal) : S5x128x128x4x128.Idx → EReal :=
  shapeCast S5x128x128x4x128 (mulf (F := Ideal) (φ := .f32) (ropeT (k8 x) (bT (Host.cos (F := Ideal) (φ := .f32) angT)) (bT (Host.sin (F := Ideal) (φ := .f32) angT)))
    (broadcastInDim S5x16384x4x128 ![] bcast_S_S5x16384x4x128 (constant (F := Ideal) S_ .f32 0x3DB504F3#32))) shapeCasts_S5x16384x4x128_S5x128x128x4x128
def vC (x : S5x16384x19712.Idx → EReal) : S5x128x128x4x256.Idx → EReal :=
  shapeCast S5x128x128x4x256 (extractStridedSlice S5x16384x1024 ![0, 0, 6144] x slices_S5x16384x19712_S5x16384x1024_0_0_6144) shapeCasts_S5x16384x1024_S5x128x128x4x256
def xP (p : S24576x19712.Idx → EReal) (s : S4x16384x19712.Idx → EReal) : S5x16384x19712.Idx → EReal :=
  concatenate S5x16384x19712 0 [⟨S1x16384x19712, broadcastInDim S1x16384x19712 ![1, 2] bcast_S16384x19712_S1x16384x19712_1_2 (extractStridedSlice S16384x19712 ![0, 0] p slices_S24576x19712_S16384x19712_0_0)⟩, ⟨S4x16384x19712, s⟩] concatenates_S1x16384x19712_S4x16384x19712_S5x16384x19712_d0
/-- The logarithms of the heads' decays, and the positions of a chunk. -/
def logT : S4.Idx → EReal :=
  Host.log (F := Ideal) (φ := .f32) (subf (F := Ideal) (φ := .f32) (broadcastInDim S4 ![] bcast_S_S4 (constant (F := Ideal) S_ .f32 0x3F800000#32))
    (Host.powf (F := Ideal) (φ := .f32) (broadcastInDim S4 ![] bcast_S_S4 (constant (F := Ideal) S_ .f32 0x40000000#32))
      (subf (F := Ideal) (φ := .f32) (broadcastInDim S4 ![] bcast_S_S4 (constant (F := Ideal) S_ .f32 0xC0A00000#32)) (sitofp (F := Ideal) .f32 (iotaInDim S4 32 0)))))
def posT : S128.Idx → EReal := sitofp (F := Ideal) .f32 (iotaInDim S128 32 0)
def posC : S128x1.Idx → EReal := broadcastInDim S128x1 ![0] bcast_S128_S128x1_0 posT
/-- The decays inside a chunk. -/
def dmT : S4x128x128.Idx → EReal :=
  Host.exp (F := Ideal) (φ := .f32) (mulf (F := Ideal) (φ := .f32) (broadcastInDim S4x128x128 ![0, 1, 2] bcast_S4x1x1_S4x128x128_0_1_2 (broadcastInDim S4x1x1 ![0] bcast_S4_S4x1x1_0 logT))
    (broadcastInDim S4x128x128 ![0, 1, 2] bcast_S1x128x128_S4x128x128_0_1_2 (broadcastInDim S1x128x128 ![1, 2] bcast_S128x128_S1x128x128_1_2
      (Host.absf (F := Ideal) (φ := .f32) (subf (F := Ideal) (φ := .f32) (broadcastInDim S128x128 ![0, 1] bcast_S128x1_S128x128_0_1 posC)
        (broadcastInDim S128x128 ![0, 1] bcast_S1x128_S128x128_0_1 (broadcastInDim S1x128 ![1] bcast_S128_S1x128_1 posT)))))))
/-- A decay by a power of positions. -/
def decT (col : S128x1.Idx → EReal) : S128x4.Idx → EReal :=
  Host.exp (F := Ideal) (φ := .f32) (mulf (F := Ideal) (φ := .f32) (broadcastInDim S128x4 ![0, 1] bcast_S1x4_S128x4_0_1 (broadcastInDim S1x4 ![1] bcast_S4_S1x4_1 logT))
    (broadcastInDim S128x4 ![0, 1] bcast_S128x1_S128x4_0_1 col))
def colE : S128x1.Idx → EReal := subf (F := Ideal) (φ := .f32) (broadcastInDim S128x1 ![] bcast_S_S128x1 (constant (F := Ideal) S_ .f32 0x42FE0000#32)) posC
def colF : S128x1.Idx → EReal := addf (F := Ideal) (φ := .f32) posC (broadcastInDim S128x1 ![] bcast_S_S128x1 (constant (F := Ideal) S_ .f32 0x3F800000#32))
def colB : S128x1.Idx → EReal := subf (F := Ideal) (φ := .f32) (broadcastInDim S128x1 ![] bcast_S_S128x1 (constant (F := Ideal) S_ .f32 0x43000000#32)) posC
def bD (a : S128x4.Idx → EReal) : S5x128x128x4x128.Idx → EReal :=
  broadcastInDim S5x128x128x4x128 ![0, 1, 2, 3, 4] bcast_S1x1x128x4x1_S5x128x128x4x128_0_1_2_3_4
    (broadcastInDim S1x1x128x4x1 ![2, 3, 4] bcast_S128x4x1_S1x1x128x4x1_2_3_4 (broadcastInDim S128x4x1 ![0, 1] bcast_S128x4_S128x4x1_0_1 a))
/-- The products of the chunks' heads, masked, times the values. -/
def inT (q k : S5x128x128x4x128.Idx → EReal) (v : S5x128x128x4x256.Idx → EReal) (dm : S4x128x128.Idx → EReal) : S128x5x128x4x256.Idx → EReal :=
  transpose S128x5x128x4x256 [0, 1, 4, 2, 3]
    (Host.dotGeneral (F := Ideal) (φ₁ := .f32) (φ₂ := .f32) dot_S5x128x128x4x256_S5x128x4x128x128_S128x5x4x256x128_2_4_4_3_103_102 none v
      (mulf (F := Ideal) (φ := .f32) (Host.dotGeneral (F := Ideal) (φ₁ := .f32) (φ₂ := .f32) dot_S5x128x128x4x128_S5x128x128x4x128_S5x128x4x128x128_4_4_2_2_013_013 none q k)
        (broadcastInDim S5x128x4x128x128 ![0, 1, 2, 3, 4] bcast_S1x1x4x128x128_S5x128x4x128x128_0_1_2_3_4 (broadcastInDim S1x1x4x128x128 ![2, 3, 4] bcast_S4x128x128_S1x1x4x128x128_2_3_4 dm))))
    transposes_S128x5x4x256x128_S128x5x128x4x256_0_1_4_2_3
/-- What the chunks add to a state. -/
def kvT (k d : S5x128x128x4x128.Idx → EReal) (v : S5x128x128x4x256.Idx → EReal) : S128x5x4x128x256.Idx → EReal :=
  Host.dotGeneral (F := Ideal) (φ₁ := .f32) (φ₂ := .f32) dot_S5x128x128x4x128_S5x128x128x4x256_S128x5x4x128x256_2_2_4_4_103_103 none (mulf (F := Ideal) (φ := .f32) k d) v
/-- The decayed queries, by chunks. -/
def qdT (q d : S5x128x128x4x128.Idx → EReal) : S128x5x128x4x128.Idx → EReal :=
  transpose S128x5x128x4x128 [1, 0, 2, 3, 4] (mulf (F := Ideal) (φ := .f32) q d) transposes_S5x128x128x4x128_S128x5x128x4x128_1_0_2_3_4
def gT : S1x4x1x1.Idx → EReal :=
  broadcastInDim S1x4x1x1 ![1] bcast_S4_S1x4x1x1_1 (Host.exp (F := Ideal) (φ := .f32) (mulf (F := Ideal) (φ := .f32) logT (broadcastInDim S4 ![] bcast_S_S4 (constant (F := Ideal) S_ .f32 0x43000000#32))))
/-- The chunks in the reverse order. -/
def rev5 (y : S128x5x128x4x128.Idx → EReal) : S128x5x128x4x128.Idx → EReal := Host.reverse [0] y
def revS (y : S128x5x4x128x256.Idx → EReal) : S128x5x4x128x256.Idx → EReal := Host.reverse [0] y

theorem xP_at (p s) (b : Fin 5) (t : Fin 16384) (c : Fin 19712) :
    xP p s (ix3 b t c) = if h : b.val < 1 then p (ix2 ⟨t.val, by omega⟩ c) else s (ix3 ⟨b.val - 1, by omega⟩ t c) := by
  unfold xP
  pointwise
theorem angT_at (t : Fin 16384) (d : Fin 64) : angT (ix2 t d) = ang t.val d.val := by
  unfold angT
  pointwise
  rfl
theorem bT_at (a) (b : Fin 5) (t : Fin 16384) (h : Fin 4) (d : Fin 64) : bT a (ix4 b t h d) = a (ix2 t d) := by
  unfold bT
  pointwise
theorem ropeT_at (x c s) (b : Fin 5) (t : Fin 16384) (h : Fin 4) (d : Fin 128) : ropeT x c s (ix4 b t h d)
    = if hd : d.val < 64 then x (ix4 b t h d) * c (ix4 b t h ⟨d.val, hd⟩) - x (ix4 b t h ⟨64 + d.val, by omega⟩) * s (ix4 b t h ⟨d.val, hd⟩)
      else x (ix4 b t h ⟨d.val - 64, by omega⟩) * s (ix4 b t h ⟨d.val - 64, by omega⟩) + x (ix4 b t h ⟨64 + (d.val - 64), by omega⟩) * c (ix4 b t h ⟨d.val - 64, by omega⟩) := by
  unfold ropeT
  pointwise
  done
theorem q8_at (x) (b : Fin 5) (t : Fin 16384) (h : Fin 4) (d : Fin 128) : q8 x (ix4 b t h d) = x (ix3 b t ⟨18432 + (h.val * 128 + d.val), by omega⟩) := by
  unfold q8
  pointwise
theorem k8_at (x) (b : Fin 5) (t : Fin 16384) (h : Fin 4) (d : Fin 128) : k8 x (ix4 b t h d) = x (ix3 b t ⟨18944 + (h.val * 128 + d.val), by omega⟩) := by
  unfold k8
  pointwise
theorem vC_at (x) (b : Fin 5) (n i : Fin 128) (h : Fin 4) (e : Fin 256) : vC x (ix5 b n i h e) = x (ix3 b ⟨n.val * 128 + i.val, by omega⟩ ⟨6144 + (h.val * 256 + e.val), by omega⟩) := by
  unfold vC
  pointwise
theorem qC_at (x) (b : Fin 5) (n i : Fin 128) (h : Fin 4) (d : Fin 128) : qC x (ix5 b n i h d)
    = ropeT (q8 x) (bT (Host.cos (F := Ideal) (φ := .f32) angT)) (bT (Host.sin (F := Ideal) (φ := .f32) angT)) (ix4 b ⟨n.val * 128 + i.val, by omega⟩ h d) := by
  unfold qC
  generalize ropeT _ _ _ = y
  pointwise
theorem kC_at (x) (b : Fin 5) (n i : Fin 128) (h : Fin 4) (d : Fin 128) : kC x (ix5 b n i h d)
    = ropeT (k8 x) (bT (Host.cos (F := Ideal) (φ := .f32) angT)) (bT (Host.sin (F := Ideal) (φ := .f32) angT)) (ix4 b ⟨n.val * 128 + i.val, by omega⟩ h d) * Ideal.ofBits .f32 1035273459#32 := by
  unfold kC
  generalize ropeT _ _ _ = y
  pointwise

theorem logT_at (h : Fin 4) : logT (ix1 h) = logg h.val := by
  unfold logT
  pointwise
  unfold logg num
  rfl
theorem posT_at (i : Fin 128) : posT (ix1 i) = num i.val := by
  unfold posT
  pointwise
  rfl
theorem posC_at (i : Fin 128) : posC (ix2 i 0) = num i.val := by
  unfold posC
  refine Eq.trans ?_ (posT_at i)
  generalize posT = y
  pointwise
theorem dmT_at (h : Fin 4) (i j : Fin 128) : dmT (ix3 h i j) = dmat h.val i.val j.val := by
  unfold dmT dmat
  rw [← logT_at h, ← posC_at i, ← posT_at j]
  generalize logT = y
  generalize posC = y1
  generalize posT = y2
  pointwise
theorem decT_at (col) (h : Fin 4) (i : Fin 128) : decT col (ix2 i h) = Ideal.exp (logg h.val * col (ix2 i 0)) := by
  unfold decT
  rw [← logT_at h]
  generalize logT = y
  pointwise
theorem colE_at (i : Fin 128) : colE (ix2 i 0) = Ideal.ofBits .f32 1123942400#32 - num i.val := by
  unfold colE
  rw [← posC_at i]
  generalize posC = y
  pointwise
theorem colF_at (i : Fin 128) : colF (ix2 i 0) = num i.val + 1 := by
  unfold colF
  rw [← posC_at i]
  generalize posC = y
  pointwise
theorem colB_at (i : Fin 128) : colB (ix2 i 0) = Ideal.ofBits .f32 1124073472#32 - num i.val := by
  unfold colB
  rw [← posC_at i]
  generalize posC = y
  pointwise
theorem bD_at (a) (b : Fin 5) (n i : Fin 128) (h : Fin 4) (d : Fin 128) : bD a (ix5 b n i h d) = a (ix2 i h) := by
  unfold bD
  pointwise
theorem inT_at (q k v dm) (n : Fin 128) (b : Fin 5) (i : Fin 128) (h : Fin 4) (e : Fin 256) : inT q k v dm (ix5 n b i h e)
    = ∑ j : Fin 128, v (ix5 b n j h e) * ((∑ d : Fin 128, q (ix5 b n i h d) * k (ix5 b n j h d)) * dm (ix3 h i j)) := by
  unfold inT
  pointwise
theorem kvT_at (k d v) (n : Fin 128) (b : Fin 5) (h : Fin 4) (dd : Fin 128) (e : Fin 256) : kvT k d v (ix5 n b h dd e)
    = ∑ j : Fin 128, k (ix5 b n j h dd) * d (ix5 b n j h dd) * v (ix5 b n j h e) := by
  unfold kvT
  pointwise
theorem qdT_at (q d) (n : Fin 128) (b : Fin 5) (i : Fin 128) (h : Fin 4) (dd : Fin 128) : qdT q d (ix5 n b i h dd) = q (ix5 b n i h dd) * d (ix5 b n i h dd) := by
  unfold qdT
  pointwise
theorem gT_at (h : Fin 4) : gT (ix4 0 h 0 0) = gc h.val := by
  unfold gT gc
  rw [← logT_at h]
  generalize logT = y
  pointwise

theorem rev5_at (y) (n : Fin 128) (b : Fin 5) (i : Fin 128) (h : Fin 4) (e : Fin 128) : rev5 y (ix5 n b i h e) = y (ix5 n.rev b i h e) := by
  unfold rev5
  pointwise
  rfl
theorem revS_at (y) (n : Fin 128) (b : Fin 5) (h : Fin 4) (d : Fin 128) (e : Fin 256) : revS y (ix5 n b h d e) = y (ix5 n.rev b h d e) := by
  unfold revS
  pointwise
  rfl

section

variable (V : Valuation τ sig (Elt Ideal))

theorem entry0 : c0 (StableHlo.after (hostOps0_2 (F := Ideal)) V) = inT (qC (xP (V (Proc.devRef .tc main_arg0)) (V (Proc.devRef .tc main_v2)))) (kC (xP (V (Proc.devRef .tc main_arg0)) (V (Proc.devRef .tc main_v2)))) (vC (xP (V (Proc.devRef .tc main_arg0)) (V (Proc.devRef .tc main_v2)))) dmT := by
  unfold c0
  after_results
  rfl

theorem entry1 : c1 (StableHlo.after (hostOps0_2 (F := Ideal)) V) = qdT (qC (xP (V (Proc.devRef .tc main_arg0)) (V (Proc.devRef .tc main_v2)))) (bD (decT colF)) := by
  unfold c1
  after_results
  rfl

theorem entry3 : c3 (StableHlo.after (hostOps0_2 (F := Ideal)) V) = rev5 (qdT (qC (xP (V (Proc.devRef .tc main_arg0)) (V (Proc.devRef .tc main_v2)))) (bD (decT colB))) := by
  unfold c3
  after_results
  rfl

theorem entry2 : c2 (StableHlo.after (hostOps0_2 (F := Ideal)) V) = kvT (kC (xP (V (Proc.devRef .tc main_arg0)) (V (Proc.devRef .tc main_v2)))) (bD (decT colE)) (vC (xP (V (Proc.devRef .tc main_arg0)) (V (Proc.devRef .tc main_v2)))) := by
  unfold c2
  after_results
  rfl

theorem entry4 : c4 (StableHlo.after (hostOps0_2 (F := Ideal)) V) = revS (kvT (kC (xP (V (Proc.devRef .tc main_arg0)) (V (Proc.devRef .tc main_v2)))) (bD (decT posC)) (vC (xP (V (Proc.devRef .tc main_arg0)) (V (Proc.devRef .tc main_v2))))) := by
  unfold c4
  after_results
  rfl

theorem entry5 : c5 (StableHlo.after (hostOps0_2 (F := Ideal)) V) = gT := by
  unfold c5
  after_results
  rfl

theorem entry6 : c6 (StableHlo.after (hostOps0_2 (F := Ideal)) V) = fun _ => BitVec.ofNat 32 0 := by
  unfold c6
  after_results
  rfl

theorem entry7 : c7 (StableHlo.after (hostOps0_2 (F := Ideal)) V) = fun _ => 0 := by
  unfold c7
  after_results
  funext j
  rw [eq_ix4 j]
  simp only [id]
  pointwise
theorem entry8 : c8 (StableHlo.after (hostOps0_2 (F := Ideal)) V) = fun _ => 0 := by
  unfold c8
  after_results
  funext j
  rw [eq_ix4 j]
  simp only [id]
  pointwise

end

end Cert.RetRefIdeal.RefValue
-- ==== Proof.RetValue.RefValue.lean ====
/-
  The reference's result, element by element.
-/
module

public import proofs.«01_k».proof.Proof.RetValue.RefEntry
public import proofs.«01_k».proof.Proof.RetValue.Spec
public import Idealize.ShloMosaic.Lib.StableHlo.RunRead
public import Idealize.ShloMosaic.Lib.StableHlo.RunClose

@[expose] public section

set_option maxRecDepth 16384

noncomputable section

namespace Cert.RetRefIdeal.RefValue

open Cert.RetRefIdeal Cert.RetRefIdeal.Gen Cert.RetRefIdeal.Value
open Idealize.ShloMosaic Idealize.ShloMosaic.TcCoe
open Idealize.ShloMosaic.StableHlo
open Cert.RetSpec

/-- The samples' columns, padded to the prompt's length. -/
def padT (p : S24576x19712.Idx → EReal) : S4x16384x19712.Idx → EReal :=
  pad S4x16384x19712 ![0, 0, 0] ![0, 14336, 0] ![0, 0, 0] (shapeCast S4x2048x19712 (extractStridedSlice S8192x19712 ![16384, 0] p slices_S24576x19712_S8192x19712_16384_0) shapeCasts_S8192x19712_S4x2048x19712)
    (sitofp (F := Ideal) .f32 (constantI S_ 32 0#32)) pads_S4x2048x19712_S4x16384x19712_000_0143360_000 h_S_

theorem zero_num : FloatOps.sitofp (F := Ideal) FTy.f32 (0#32 : BitVec 32) = (0 : EReal) := by
  show (((0#32 : BitVec 32).toInt : ℝ) : EReal) = 0
  simp

theorem padT_at (p) (b : Fin 4) (t : Fin 16384) (c : Fin 19712) :
    padT p (ix3 b t c) = if ht : t.val < 2048 then p (ix2 ⟨16384 + (b.val * 2048 + t.val), by omega⟩ c) else 0 := by
  unfold padT
  pointwise
  simp only [zero_num]
  done

theorem before (V : Valuation τ sig (Elt Ideal)) :
    (StableHlo.after (hostOps0_1 (F := Ideal)) (StableHlo.after (hostOps0 (F := Ideal)) V) (Proc.devRef .tc main_v2) : S4x16384x19712.Idx → EReal)
      = padT (V (Proc.devRef .tc main_arg0)) := by
  after_results
  rfl
theorem before_arg (V : Valuation τ sig (Elt Ideal)) :
    StableHlo.after (hostOps0_1 (F := Ideal)) (StableHlo.after (hostOps0 (F := Ideal)) V) (Proc.devRef .tc main_arg0) = V (Proc.devRef .tc main_arg0) := by
  after_results

theorem xP_sq (p) (b : Fin 5) (t : Fin 16384) (c : Fin 19712) : xP p (padT p) (ix3 b t c) = sqn p b.val t.val c.val := by
  rw [xP_at]
  unfold sqn
  by_cases hb : b.val < 1
  · rw [dif_pos hb, if_pos hb]
    rw [tok, dif_pos (show t.val < 24576 ∧ c.val < 19712 from ⟨by omega, c.isLt⟩)]
  · rw [dif_neg hb, if_neg hb, padT_at]
    by_cases ht : t.val < 2048
    · rw [dif_pos ht, if_pos ht]
      rw [tok, dif_pos (show 16384 + ((b.val - 1) * 2048 + t.val) < 24576 ∧ c.val < 19712 from ⟨by omega, c.isLt⟩)]
    · rw [dif_neg ht, if_neg ht]

section

variable (x : S5x16384x19712.Idx → EReal) (X : ℕ → ℕ → ℕ → EReal) (hx : ∀ (b : Fin 5) (t : Fin 16384) (c : Fin 19712), x (ix3 b t c) = X b.val t.val c.val)

include hx in
theorem qC_eq (b : Fin 5) (n i : Fin 128) (h : Fin 4) (d : Fin 128) : qC x (ix5 b n i h d) = qq (X b.val) (n.val * 128 + i.val) h.val d.val := by
  rw [qC_at, ropeT_at]
  unfold qq rot
  by_cases hd : d.val < 64
  · rw [dif_pos hd, if_pos hd]
    simp only [q8_at, bT_at, hx]
    rw [← angT_at ⟨n.val * 128 + i.val, by omega⟩ ⟨d.val, hd⟩]
    rfl
  · rw [dif_neg hd, if_neg hd]
    simp only [q8_at, bT_at, hx]
    rw [← angT_at ⟨n.val * 128 + i.val, by omega⟩ ⟨d.val - 64, by omega⟩]
    rfl

include hx in
theorem kC_eq (b : Fin 5) (n i : Fin 128) (h : Fin 4) (d : Fin 128) : kC x (ix5 b n i h d) = kk (X b.val) (n.val * 128 + i.val) h.val d.val := by
  rw [kC_at, ropeT_at]
  unfold kk rot
  by_cases hd : d.val < 64
  · rw [dif_pos hd, if_pos hd]
    simp only [k8_at, bT_at, hx]
    rw [← angT_at ⟨n.val * 128 + i.val, by omega⟩ ⟨d.val, hd⟩]
    rfl
  · rw [dif_neg hd, if_neg hd]
    simp only [k8_at, bT_at, hx]
    rw [← angT_at ⟨n.val * 128 + i.val, by omega⟩ ⟨d.val - 64, by omega⟩]
    rfl

include hx in
theorem vC_eq (b : Fin 5) (n i : Fin 128) (h : Fin 4) (e : Fin 256) : vC x (ix5 b n i h e) = vv (X b.val) (n.val * 128 + i.val) h.val e.val := by
  rw [vC_at, hx]
  rfl

include hx in
theorem in_eq (n : Fin 128) (b : Fin 5) (i : Fin 128) (h : Fin 4) (e : Fin 256) :
    inT (qC x) (kC x) (vC x) dmT (ix5 n b i h e) = intra (X b.val) n.val i.val h.val e.val := by
  rw [inT_at]
  refine Finset.sum_congr rfl fun j _ => ?_
  rw [vC_eq x X hx, dmT_at, mul_comm]
  congr 2
  refine Finset.sum_congr rfl fun d _ => ?_
  rw [qC_eq x X hx, kC_eq x X hx]

include hx in
theorem kvF_eq (n : Fin 128) (b : Fin 5) (h : Fin 4) (d : Fin 128) (e : Fin 256) :
    kvT (kC x) (bD (decT colE)) (vC x) (ix5 n b h d e) = kvF (X b.val) n.val h.val d.val e.val := by
  rw [kvT_at]
  refine Finset.sum_congr rfl fun j _ => ?_
  rw [vC_eq x X hx, kC_eq x X hx, bD_at, decT_at, colE_at]
  rfl

include hx in
theorem kvB_eq (n : Fin 128) (b : Fin 5) (h : Fin 4) (d : Fin 128) (e : Fin 256) :
    revS (kvT (kC x) (bD (decT posC)) (vC x)) (ix5 n b h d e) = kvB (X b.val) (127 - n.val) h.val d.val e.val := by
  rw [revS_at, kvT_at, show 127 - n.val = n.rev.val by rw [Fin.val_rev]; omega]
  refine Finset.sum_congr rfl fun j _ => ?_
  rw [vC_eq x X hx, kC_eq x X hx, bD_at, decT_at, posC_at]
  rfl

include hx in
theorem qF_eq (n : Fin 128) (b : Fin 5) (i : Fin 128) (h : Fin 4) (d : Fin 128) :
    qdT (qC x) (bD (decT colF)) (ix5 n b i h d) = qq (X b.val) (n.val * 128 + i.val) h.val d.val * qf h.val i.val := by
  rw [qdT_at, qC_eq x X hx, bD_at, decT_at, colF_at]
  rfl

include hx in
theorem qB_eq (n : Fin 128) (b : Fin 5) (i : Fin 128) (h : Fin 4) (d : Fin 128) :
    rev5 (qdT (qC x) (bD (decT colB))) (ix5 n b i h d) = qq (X b.val) ((127 - n.val) * 128 + i.val) h.val d.val * qb h.val i.val := by
  rw [rev5_at, qdT_at, qC_eq x X hx, bD_at, decT_at, colB_at, show 127 - n.val = n.rev.val by rw [Fin.val_rev]; omega]
  rfl

include hx in
theorem accF (n : ℕ) (hn : n ≤ 128) (b : Fin 5) (h : Fin 4) (d : Fin 128) (e : Fin 256) :
    acc gT (kvT (kC x) (bD (decT colE)) (vC x)) n (ix4 b h d e) = stF (X b.val) n h.val d.val e.val := by
  induction n with
  | zero => rfl
  | succ n ih =>
    rw [acc, dif_pos (by omega), ih (by omega)]
    exact congrArg₂ (fun u w => u * _ + w) (gT_at h) (kvF_eq x X hx ⟨n, by omega⟩ b h d e)

include hx in
theorem accB (n : ℕ) (hn : n ≤ 128) (b : Fin 5) (h : Fin 4) (d : Fin 128) (e : Fin 256) :
    acc gT (revS (kvT (kC x) (bD (decT posC)) (vC x))) n (ix4 b h d e) = stB (X b.val) 128 n h.val d.val e.val := by
  induction n with
  | zero => rfl
  | succ n ih =>
    rw [acc, dif_pos (by omega), ih (by omega)]
    exact congrArg₂ (fun u w => u * _ + w) (gT_at h) (kvB_eq x X hx ⟨n, by omega⟩ b h d e)

end

/-! The padding adds nothing. -/

theorem kvB_zero (x : ℕ → ℕ → EReal) (hx : ∀ s c, 2048 ≤ s → x s c = 0) (n : ℕ) (hn : 16 ≤ n) (h d e : ℕ) : kvB x n h d e = 0 := by
  refine Finset.sum_eq_zero fun j _ => ?_
  unfold vv
  rw [hx _ _ (by omega), mul_zero]

theorem stB_pad (x : ℕ → ℕ → EReal) (hx : ∀ s c, 2048 ≤ s → x s c = 0) (h d e : ℕ) : ∀ k, k ≤ 112 → stB x 128 k h d e = 0
  | 0, _ => rfl
  | k + 1, hk => by rw [stB, stB_pad x hx h d e k (by omega), kvB_zero x hx _ (by omega), mul_zero, add_zero]

theorem stB_short (x : ℕ → ℕ → EReal) (hx : ∀ s c, 2048 ≤ s → x s c = 0) (h d e : ℕ) : ∀ k, k ≤ 16 → stB x 128 (112 + k) h d e = stB x 16 k h d e
  | 0, _ => stB_pad x hx h d e 112 le_rfl
  | k + 1, hk => by
    rw [← Nat.add_assoc, stB, stB, stB_short x hx h d e k (by omega), show 128 - 1 - (112 + k) = 16 - 1 - k by omega]

theorem stB_len (P : S24576x19712.Idx → EReal) (b n h d e : ℕ) (hn : n < len b) : stB (sqn P b) 128 (127 - n) h d e = stB (sqn P b) (len b) (len b - 1 - n) h d e := by
  unfold len at *
  by_cases hb : b < 1
  · rw [if_pos hb]
  · rw [if_neg hb] at hn ⊢
    rw [show 127 - n = 112 + (15 - n) by omega]
    refine stB_short _ (fun s c hs => ?_) h d e (15 - n) (by omega)
    unfold sqn
    rw [if_neg hb, if_neg (by omega)]

section

variable (W0 : Valuation τ sig (Elt Ideal))

/-- The result from the argument. -/
theorem result_at (a : Fin 2) (t : Fin 24576) (e : Fin 1024) :
    (out_main_v175 (STEP^[128] (StableHlo.after (hostOps0_2 (F := Ideal)) (StableHlo.after (hostOps0_1 (F := Ideal)) (StableHlo.after (hostOps0 (F := Ideal)) W0)))) : S2x24576x1024.Idx → EReal) (ix3 a t e)
      = G (W0 (Proc.devRef .tc main_arg0)) a.val t.val e.val := by
  have hV2 := before W0
  have hVa := before_arg W0
  generalize StableHlo.after (hostOps0_1 (F := Ideal)) (StableHlo.after (hostOps0 (F := Ideal)) W0) = V1 at hV2 hVa ⊢
  have hx := xP_sq (W0 (Proc.devRef .tc main_arg0))
  have A := after_iterate (StableHlo.after (hostOps0_2 (F := Ideal)) V1) (entry6 V1) (entry7 V1) (entry8 V1) 128 le_rfl
  have g0 := entry0 V1
  have g1 := entry1 V1
  have g2 := entry2 V1
  have g3 := entry3 V1
  have g4 := entry4 V1
  have g5 := entry5 V1
  rw [hVa, hV2] at g0 g1 g2 g3 g4
  generalize StableHlo.after (hostOps0_2 (F := Ideal)) V1 = V2 at *
  refine (out_at _ (fun n b i h e => oF (sqn (W0 (Proc.devRef .tc main_arg0)) b) n i h e)
    (fun n b i h e => (∑ d : Fin 128, stB (sqn (W0 (Proc.devRef .tc main_arg0)) b) 128 n h d.val e * (qq (sqn (W0 (Proc.devRef .tc main_arg0)) b) ((127 - n) * 128 + i) h d.val * qb h i) : EReal))
    (fun n b i h e => ?_) (fun n b i h e => ?_) a t e).trans ?_
  · rw [A.e9 n b i h e n.isLt, g0, g1, g2, g5, in_eq _ _ hx]
    refine congrArg _ (Finset.sum_congr rfl fun d _ => ?_)
    rw [accF _ _ hx n.val (by omega), qF_eq _ _ hx, mul_comm]
  · rw [A.e10 n b i h e n.isLt, g3, g4, g5]
    refine Finset.sum_congr rfl fun d _ => ?_
    rw [accB _ _ hx n.val (by omega), qB_eq _ _ hx]
  · unfold G
    by_cases ha : a.val < 1
    · rw [if_pos ha, if_pos ha]
    · rw [if_neg ha, if_neg ha]
      unfold oB
      show (∑ d : Fin 128, _ : EReal) = ∑ d : Fin 128, _
      refine Finset.sum_congr rfl fun d _ => ?_
      rw [stB_len _ _ _ _ _ _ (by unfold len; by_cases ht : t.val < 16384 <;> simp only [ht, if_true, if_false] <;> split_ifs <;> omega), mul_comm]
      congr 3
      by_cases ht : t.val < 16384 <;> simp only [ht, if_true, if_false] <;> omega

end

end Cert.RetRefIdeal.RefValue
-- ==== Proof.RetValue.Link.lean ====
/-
  The reference's result is the array the launch leaves.
-/
module

public import proofs.«01_k».proof.Proof.RetValue.KernelRun
public import proofs.«01_k».proof.Proof.RetValue.RefValue

@[expose] public section

set_option maxRecDepth 16384

noncomputable section

namespace Cert.RetRefIdeal.RefValue

open Cert.RetRefIdeal Cert.RetRefIdeal.Gen Cert.RetRefIdeal.Value
open Idealize.ShloMosaic Idealize.ShloMosaic.TcCoe
open Idealize.ShloMosaic.StableHlo

variable (m : (ℓ : Loc nD τ sig) → Buf (Elt Ideal) ℓ)

theorem ref_eq (c : Dev nD) (P : S24576x19712.Idx → EReal) (hP : m ((c : Thread nD τ).loc main_arg0) = P) :
    (out_main_v175 (STEP^[128] (entryContents preI m c)) : S2x24576x1024.Idx → EReal) = Cert.RetIdeal.RetValue.res P := by
  subst hP
  funext i
  obtain ⟨a, t, e, rfl⟩ : ∃ (a : Fin 2) (t : Fin 24576) (e : Fin 1024), i = ix3 a t e := ⟨i 0, i 1, i 2, eq_ix3 i⟩
  exact result_at (fun b => m (c, b)) a t e

end Cert.RetRefIdeal.RefValue
-- ==== Proof.lean ====
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.RetIdeal
public import proofs.«01_k».proof.Proof.Gen.RetIdeal.Skeleton
public import proofs.«01_k».proof.Proof.Gen.RetIdeal.Launch
public import proofs.«01_k».proof.Proof.Gen.RetRefIdeal
public import proofs.«01_k».proof.Proof.Gen.RetRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.ProjIdeal.Value
public import proofs.«01_k».proof.Proof.Gen.ProjRefIdeal.Run
public import proofs.«01_k».proof.Proof.Gen.MergeIdeal.Value
public import proofs.«01_k».proof.Proof.Gen.MergeRefIdeal.Run
public import proofs.«01_k».proof.Proof.Gen.OutIdeal.Value
public import proofs.«01_k».proof.Proof.Gen.OutRefIdeal.Run
public import proofs.«01_k».proof.Proof.ProjValue
public import proofs.«01_k».proof.Proof.MergeValue
public import proofs.«01_k».proof.Proof.OutValue
public import proofs.«01_k».proof.Proof.RetHand.Frame
public import proofs.«01_k».proof.Proof.RetIdealHand.Frame
public import proofs.«01_k».proof.Proof.RetValue.Link
public import Idealize.ShloMosaic.Adequacy
public import Idealize.ShloMosaic.Init

@[expose] public section

noncomputable section

namespace Cert.Proof

open Idealize.ShloMosaic Idealize.SL.Sem

theorem ref_frame_Proj : Cert.quiescent_ProjRefIdeal :=
  fun m ρ _ => (θ_run Cert.ProjRefIdeal.defs _ _).mono (fun r h => ⟨fun c => (h c).2, Idealize.ShloMosaic.sem_eq_zero_of_no_sems (by decide) r.2⟩)
    (Cert.ProjRefIdeal.Value.run (F := Ideal) m ρ)

theorem value_Proj : Cert.algebraic_ProjIdeal_ProjRefIdeal := by
  intro m ρ m' ρ' _ hagree
  refine ⟨fun c => Cert.ProjIdeal.RefValue.val m c, Cert.ProjIdeal.RefValue.run m ρ, ?_⟩
  refine (θ_run Cert.ProjRefIdeal.defs _ _).mono (fun _ h c => ⟨(h c).1.trans ?_, (h c).2⟩) (Cert.ProjRefIdeal.Value.run (F := Ideal) m' ρ')
  rw [(hagree c).1, (hagree c).2]
  exact Cert.ProjRefIdeal.RefValue.ref_eq _ _

theorem ref_frame_Merge : Cert.quiescent_MergeRefIdeal :=
  fun m ρ _ => (θ_run Cert.MergeRefIdeal.defs _ _).mono (fun r h => ⟨fun c => (h c).2, Idealize.ShloMosaic.sem_eq_zero_of_no_sems (by decide) r.2⟩)
    (Cert.MergeRefIdeal.Value.run (F := Ideal) m ρ)

theorem value_Merge : Cert.algebraic_MergeIdeal_MergeRefIdeal := by
  intro m ρ m' ρ' _ hagree
  refine ⟨fun c => Cert.MergeIdeal.RefValue.val m c, Cert.MergeIdeal.RefValue.run m ρ, ?_⟩
  refine (θ_run Cert.MergeRefIdeal.defs _ _).mono (fun _ h c => ⟨(h c).1.trans ?_, (h c).2⟩) (Cert.MergeRefIdeal.Value.run (F := Ideal) m' ρ')
  rw [Cert.MergeRefIdeal.RefValue.ref_eq m' c _ _ _ (hagree c).1 (hagree c).2.1 (hagree c).2.2]
  rfl

theorem ref_frame_Out : Cert.quiescent_OutRefIdeal :=
  fun m ρ _ => (θ_run Cert.OutRefIdeal.defs _ _).mono (fun r h => ⟨fun c => (h c).2, Idealize.ShloMosaic.sem_eq_zero_of_no_sems (by decide) r.2⟩)
    (Cert.OutRefIdeal.Value.run (F := Ideal) m ρ)

theorem value_Out : Cert.algebraic_OutIdeal_OutRefIdeal := by
  intro m ρ m' ρ' _ hagree
  refine ⟨fun c => Cert.OutIdeal.RefValue.val m c, Cert.OutIdeal.RefValue.run m ρ, ?_⟩
  refine (θ_run Cert.OutRefIdeal.defs _ _).mono (fun _ h c => ⟨(h c).1.trans ?_, (h c).2⟩) (Cert.OutRefIdeal.Value.run (F := Ideal) m' ρ')
  rw [(hagree c).1, (hagree c).2.1, (hagree c).2.2.1, (hagree c).2.2.2]
  exact Cert.OutRefIdeal.RefValue.ref_eq _ _ _ _

theorem ref_frame_Ret : Cert.quiescent_RetRefIdeal :=
  fun m ρ _ => (θ_run Cert.RetRefIdeal.defs _ _).mono (fun r h => ⟨fun c => (h c).2, Idealize.ShloMosaic.sem_eq_zero_of_no_sems (by decide) r.2⟩)
    (Cert.RetRefIdeal.Value.run (F := Ideal) m ρ)

theorem preserves_Ret : Cert.preserves_Ret_RetIdeal :=
  ⟨IdealRules.named_const.statement Cert.RetIdeal.κ "g0" .f32 0x3C8CC36A#32 _ rfl, IdealRules.named_const.statement Cert.RetIdeal.κ "g1" .f32 0x3E08698E#32 _ rfl,
    IdealRules.named_const.statement Cert.RetIdeal.κ "g2" .f32 0x3EBB9DB9#32 _ rfl, IdealRules.named_const.statement Cert.RetIdeal.κ "g3" .f32 0x3F1B1EB1#32 _ rfl⟩

theorem value_Ret : Cert.algebraic_RetIdeal_RetRefIdeal := by
  intro m ρ m' ρ' _ hagree
  refine ⟨fun c => Cert.RetIdeal.RetValue.val m c, Cert.RetIdeal.RetValue.run m ρ, ?_⟩
  refine (θ_run Cert.RetRefIdeal.defs _ _).mono (fun _ h c => ⟨(h c).1.trans ?_, (h c).2⟩) (Cert.RetRefIdeal.Value.run (F := Ideal) m' ρ')
  exact Cert.RetRefIdeal.RefValue.ref_eq m' c _ (hagree c)

theorem claim : Cert.Claim := ⟨Cert.Proj.Gen.facts, Cert.ProjIdeal.Gen.facts, Cert.ProjRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Ret.Gen.facts, Cert.RetIdeal.Gen.facts, Cert.RetRefIdeal.Gen.facts,
  fun m ρ _ => Cert.Proj.Gen.frame m ρ, fun m ρ _ => Cert.ProjIdeal.Gen.frame m ρ, ref_frame_Proj,
  fun m ρ _ => Cert.Merge.Gen.frame m ρ, fun m ρ _ => Cert.MergeIdeal.Gen.frame m ρ, ref_frame_Merge,
  fun m ρ _ => Cert.Out.Gen.frame m ρ, fun m ρ _ => Cert.OutIdeal.Gen.frame m ρ, ref_frame_Out,
  fun m ρ _ => Cert.Ret.Hand.frame m ρ, fun m ρ _ => Cert.RetIdeal.Hand.frame m ρ, ref_frame_Ret,
  trivial, value_Proj, trivial, value_Merge, trivial, value_Out, preserves_Ret, value_Ret⟩

end Cert.Proof

end
